-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11_0)) (v1 : (c : Dev Cert.KernelIdeal.nD) → Buf (Elt Ideal) ((c.tc : Thread Cert.KernelIdeal.nD Cert.KernelIdeal.τ).loc Cert.KernelIdeal.main_v12)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v11_0) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S500000x3 : Shape := ⟨2, ![500000, 3]⟩
abbrev S16x3 : Shape := ⟨2, ![16, 3]⟩
abbrev S16 : Shape := ⟨1, ![16]⟩
abbrev S16x3x16 : Shape := ⟨3, ![16, 3, 16]⟩
abbrev S1500000 : Shape := ⟨1, ![1500000]⟩
abbrev S3x16 : Shape := ⟨2, ![3, 16]⟩
abbrev S48 : Shape := ⟨1, ![48]⟩
abbrev S3x16x16 : Shape := ⟨3, ![3, 16, 16]⟩
abbrev S768 : Shape := ⟨1, ![768]⟩
abbrev S500000 : Shape := ⟨1, ![500000]⟩
abbrev S8000000 : Shape := ⟨1, ![8000000]⟩
abbrev S8192 : Shape := ⟨1, ![8192]⟩
abbrev S3072 : Shape := ⟨1, ![3072]⟩
abbrev S41984 : Shape := ⟨1, ![41984]⟩
abbrev S_ : Shape := ⟨0, ![]⟩
abbrev S1 : Shape := ⟨1, ![1]⟩
abbrev S7824 : Shape := ⟨1, ![7824]⟩
abbrev S2608 : Shape := ⟨1, ![2608]⟩
abbrev S41728 : Shape := ⟨1, ![41728]⟩
abbrev S15 : Shape := ⟨1, ![15]⟩
abbrev S2 : Shape := ⟨1, ![2]⟩
abbrev S14 : Shape := ⟨1, ![14]⟩
abbrev S4 : Shape := ⟨1, ![4]⟩
abbrev S12 : Shape := ⟨1, ![12]⟩
abbrev S8 : Shape := ⟨1, ![8]⟩
abbrev S500000x16 : Shape := ⟨2, ![500000, 16]⟩

abbrev nBuf : Table → Nat
  | .hbm => 18
  | .local .scVector .vmem => 9
  | _ => 0

abbrev bufTy : (tb : Table) → Fin (nBuf tb) → BufTy
  | .hbm, ⟨0, _⟩ => ⟨S500000x3, .f32⟩
  | .hbm, ⟨1, _⟩ => ⟨S16x3, .f32⟩
  | .hbm, ⟨2, _⟩ => ⟨S16, .f32⟩
  | .hbm, ⟨3, _⟩ => ⟨S16x3x16, .f32⟩
  | .hbm, ⟨4, _⟩ => ⟨S500000x3, .bf16⟩
  | .hbm, ⟨5, _⟩ => ⟨S500000x3, .f32⟩
  | .hbm, ⟨6, _⟩ => ⟨S16x3, .bf16⟩
  | .hbm, ⟨7, _⟩ => ⟨S16x3, .f32⟩
  | .hbm, ⟨8, _⟩ => ⟨S16x3x16, .bf16⟩
  | .hbm, ⟨9, _⟩ => ⟨S16x3x16, .f32⟩
  | .hbm, ⟨10, _⟩ => ⟨S1500000, .f32⟩
  | .hbm, ⟨11, _⟩ => ⟨S3x16, .f32⟩
  | .hbm, ⟨12, _⟩ => ⟨S48, .f32⟩
  | .hbm, ⟨13, _⟩ => ⟨S3x16x16, .f32⟩
  | .hbm, ⟨14, _⟩ => ⟨S768, .f32⟩
  | .hbm, ⟨15, _⟩ => ⟨S500000, .f32⟩
  | .hbm, ⟨16, _⟩ => ⟨S8000000, .f32⟩
  | .hbm, ⟨17, _⟩ => ⟨S500000x16, .f32⟩
  | .local .scVector .vmem, ⟨0, _⟩ => ⟨S48, .f32⟩
  | .local .scVector .vmem, ⟨1, _⟩ => ⟨S16, .f32⟩
  | .local .scVector .vmem, ⟨2, _⟩ => ⟨S768, .f32⟩
  | .local .scVector .vmem, ⟨3, _⟩ => ⟨S8192, .f32⟩
  | .local .scVector .vmem, ⟨4, _⟩ => ⟨S3072, .f32⟩
  | .local .scVector .vmem, ⟨5, _⟩ => ⟨S41984, .f32⟩
  | .local .scVector .vmem, ⟨6, _⟩ => ⟨S8192, .f32⟩
  | .local .scVector .vmem, ⟨7, _⟩ => ⟨S3072, .f32⟩
  | .local .scVector .vmem, ⟨8, _⟩ => ⟨S41984, .f32⟩
  | _, _ => ⟨S500000x3, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11_0 : Ref sig .tc := ⟨.hbm, 15, rfl⟩
abbrev main_v11_1 : Ref sig .tc := ⟨.hbm, 16, rfl⟩
abbrev main_v12 : Ref sig .tc := ⟨.hbm, 17, rfl⟩
abbrev main_v6_scv : Ref sig .scVector := ⟨.hbm, 10, rfl⟩
abbrev main_v8_scv : Ref sig .scVector := ⟨.hbm, 12, rfl⟩
abbrev main_arg2_scv : Ref sig .scVector := ⟨.hbm, 2, rfl⟩
abbrev main_v10_scv : Ref sig .scVector := ⟨.hbm, 14, rfl⟩
abbrev main_v11_0_scv : Ref sig .scVector := ⟨.hbm, 15, rfl⟩
abbrev main_v11_1_scv : Ref sig .scVector := ⟨.hbm, 16, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev cc0_scratch8 : Ref sig .scVector := ⟨.vmem, 8, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_mult1 (i : grid0.Coords) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15648_i32 : BitVec 32 := 15648#32
  let v163 : BitVec 32 := Scalar.muli v1 c15648_i32
  let c0_i32_8 : BitVec 32 := 0#32
  let v164 : BitVec 32 := Scalar.addi v163 c0_i32_8
  let c497392_i32 : BitVec 32 := 497392#32
  let v165 : BitVec 32 := Scalar.minsi v164 c497392_i32
  v165
def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15648_i32 : BitVec 32 := 15648#32
  let v163 : BitVec 32 := Scalar.muli v1 c15648_i32
  let c0_i32_8 : BitVec 32 := 0#32
  let v164 : BitVec 32 := Scalar.addi v163 c0_i32_8
  let c497392_i32 : BitVec 32 := 497392#32
  let v165 : BitVec 32 := Scalar.minsi v164 c497392_i32
  let v166 : BitVec 32 := v165
  let c3_i32_9 : BitVec 32 := 3#32
  let v167 : BitVec 32 := Scalar.muli v166 c3_i32_9
  ![v167.toNat]
@[reducible] def k0_t1_loop : Scf.Loop 32 :=
  let c0_i32_13 : BitVec 32 := 0#32
  let c3_i32_14 : BitVec 32 := 3#32
  let v172 : BitVec 32 := Scalar.addi c0_i32_13 c3_i32_14
  let c1_i32_15 : BitVec 32 := 1#32
  ⟨c0_i32_13, v172, c1_i32_15⟩
def k0_cond1 (k0_t1 : Fin k0_t1_loop.trips) : BitVec 1 :=
  let c2_i32_33 : BitVec 32 := 2#32
  let c0_i32_13 : BitVec 32 := 0#32
  let c1_i32_15 : BitVec 32 := 1#32
  let arg23 : BitVec 32 := Scf.iv c0_i32_13 c1_i32_15 k0_t1
  let v189 : BitVec 32 := Scalar.muli c2_i32_33 arg23
  let c1_i32_38 : BitVec 32 := 1#32
  let v194 : BitVec 32 := Scalar.addi v189 c1_i32_38
  let c6_i32 : BitVec 32 := 6#32
  let v195 : BitVec 1 := Scalar.cmpi .slt v194 c6_i32
  let v196 : BitVec 32 := Scalar.extui v195
  let c0_i32_39 : BitVec 32 := 0#32
  let v197 : BitVec 1 := Scalar.cmpi .ne v196 c0_i32_39
  v197

def k0_mult2 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15648_i32_76 : BitVec 32 := 15648#32
  let v244 : BitVec 32 := Scalar.muli v1 c15648_i32_76
  let c2_i32_33 : BitVec 32 := 2#32
  let c0_i32_13 : BitVec 32 := 0#32
  let c1_i32_15 : BitVec 32 := 1#32
  let arg23 : BitVec 32 := Scf.iv c0_i32_13 c1_i32_15 k0_t1
  let v189 : BitVec 32 := Scalar.muli c2_i32_33 arg23
  let c1_i32_75 : BitVec 32 := 1#32
  let v243 : BitVec 32 := Scalar.addi v189 c1_i32_75
  let c2608_i32_77 : BitVec 32 := 2608#32
  let v245 : BitVec 32 := Scalar.muli v243 c2608_i32_77
  let v246 : BitVec 32 := Scalar.addi v244 v245
  let c497392_i32_78 : BitVec 32 := 497392#32
  let v247 : BitVec 32 := Scalar.minsi v246 c497392_i32_78
  v247
def k0_off2 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15648_i32_76 : BitVec 32 := 15648#32
  let v244 : BitVec 32 := Scalar.muli v1 c15648_i32_76
  let c2_i32_33 : BitVec 32 := 2#32
  let c0_i32_13 : BitVec 32 := 0#32
  let c1_i32_15 : BitVec 32 := 1#32
  let arg23 : BitVec 32 := Scf.iv c0_i32_13 c1_i32_15 k0_t1
  let v189 : BitVec 32 := Scalar.muli c2_i32_33 arg23
  let c1_i32_75 : BitVec 32 := 1#32
  let v243 : BitVec 32 := Scalar.addi v189 c1_i32_75
  let c2608_i32_77 : BitVec 32 := 2608#32
  let v245 : BitVec 32 := Scalar.muli v243 c2608_i32_77
  let v246 : BitVec 32 := Scalar.addi v244 v245
  let c497392_i32_78 : BitVec 32 := 497392#32
  let v247 : BitVec 32 := Scalar.minsi v246 c497392_i32_78
  let v248 : BitVec 32 := v247
  let c3_i32_79 : BitVec 32 := 3#32
  let v249 : BitVec 32 := Scalar.muli v248 c3_i32_79
  ![v249.toNat]
@[reducible] def k0_t2_loop : Scf.Loop 32 :=
  let c0_i32_43 : BitVec 32 := 0#32
  let c163_i32 : BitVec 32 := 163#32
  let v201 : BitVec 32 := Scalar.addi c0_i32_43 c163_i32
  let c1_i32_44 : BitVec 32 := 1#32
  ⟨c0_i32_43, v201, c1_i32_44⟩
def k0_mult3 (k0_t2 : Fin k0_t2_loop.trips) : BitVec 32 :=
  let c0_i32_43 : BitVec 32 := 0#32
  let c1_i32_44 : BitVec 32 := 1#32
  let arg24 : BitVec 32 := Scf.iv c0_i32_43 c1_i32_44 k0_t2
  let c16_i32_75 : BitVec 32 := 16#32
  let v243 : BitVec 32 := Scalar.muli arg24 c16_i32_75
  v243

def k0_chk1 (v248 : IVec S16 32) : Prop :=
  (∀ a x, ((![v248] : Fin 1 → IVec S16 32) a x).toNat < S8192.size a)
theorem k0_idx1_inb : ∀ (v248 : IVec S16 32) (k0_hw1 : k0_chk1 v248), ∀ a x, ((![v248] : Fin 1 → IVec S16 32) a x).toNat < S8192.size a := fun v248 k0_hw1 => k0_hw1

def k0_chk2 (v253 : IVec S16 32) : Prop :=
  (∀ a x, ((![v253] : Fin 1 → IVec S16 32) a x).toNat < S8192.size a)
theorem k0_idx2_inb : ∀ (v253 : IVec S16 32) (k0_hw2 : k0_chk2 v253), ∀ a x, ((![v253] : Fin 1 → IVec S16 32) a x).toNat < S8192.size a := fun v253 k0_hw2 => k0_hw2

def k0_chk3 (v258 : IVec S16 32) : Prop :=
  (∀ a x, ((![v258] : Fin 1 → IVec S16 32) a x).toNat < S8192.size a)
theorem k0_idx3_inb : ∀ (v258 : IVec S16 32) (k0_hw3 : k0_chk3 v258), ∀ a x, ((![v258] : Fin 1 → IVec S16 32) a x).toNat < S8192.size a := fun v258 k0_hw3 => k0_hw3

def k0_chk4 (v269 : IVec S16 32) : Prop :=
  (∀ a x, ((![v269] : Fin 1 → IVec S16 32) a x).toNat < S8192.size a)
theorem k0_idx4_inb : ∀ (v269 : IVec S16 32) (k0_hw4 : k0_chk4 v269), ∀ a x, ((![v269] : Fin 1 → IVec S16 32) a x).toNat < S8192.size a := fun v269 k0_hw4 => k0_hw4

def k0_chk5 (v274 : IVec S16 32) : Prop :=
  (∀ a x, ((![v274] : Fin 1 → IVec S16 32) a x).toNat < S8192.size a)
theorem k0_idx5_inb : ∀ (v274 : IVec S16 32) (k0_hw5 : k0_chk5 v274), ∀ a x, ((![v274] : Fin 1 → IVec S16 32) a x).toNat < S8192.size a := fun v274 k0_hw5 => k0_hw5

def k0_chk6 (v279 : IVec S16 32) : Prop :=
  (∀ a x, ((![v279] : Fin 1 → IVec S16 32) a x).toNat < S8192.size a)
theorem k0_idx6_inb : ∀ (v279 : IVec S16 32) (k0_hw6 : k0_chk6 v279), ∀ a x, ((![v279] : Fin 1 → IVec S16 32) a x).toNat < S8192.size a := fun v279 k0_hw6 => k0_hw6

def k0_chk7 (v290 : IVec S16 32) : Prop :=
  (∀ a x, ((![v290] : Fin 1 → IVec S16 32) a x).toNat < S8192.size a)
theorem k0_idx7_inb : ∀ (v290 : IVec S16 32) (k0_hw7 : k0_chk7 v290), ∀ a x, ((![v290] : Fin 1 → IVec S16 32) a x).toNat < S8192.size a := fun v290 k0_hw7 => k0_hw7

def k0_chk8 (v295 : IVec S16 32) : Prop :=
  (∀ a x, ((![v295] : Fin 1 → IVec S16 32) a x).toNat < S8192.size a)
theorem k0_idx8_inb : ∀ (v295 : IVec S16 32) (k0_hw8 : k0_chk8 v295), ∀ a x, ((![v295] : Fin 1 → IVec S16 32) a x).toNat < S8192.size a := fun v295 k0_hw8 => k0_hw8

def k0_chk9 (v300 : IVec S16 32) : Prop :=
  (∀ a x, ((![v300] : Fin 1 → IVec S16 32) a x).toNat < S8192.size a)
theorem k0_idx9_inb : ∀ (v300 : IVec S16 32) (k0_hw9 : k0_chk9 v300), ∀ a x, ((![v300] : Fin 1 → IVec S16 32) a x).toNat < S8192.size a := fun v300 k0_hw9 => k0_hw9
def k0_off3 (k0_t2 : Fin k0_t2_loop.trips) : Fin 1 → Nat :=
  let c0_i32_43 : BitVec 32 := 0#32
  let c1_i32_44 : BitVec 32 := 1#32
  let arg24 : BitVec 32 := Scf.iv c0_i32_43 c1_i32_44 k0_t2
  let c16_i32_75 : BitVec 32 := 16#32
  let v243 : BitVec 32 := Scalar.muli arg24 c16_i32_75
  let v244 : BitVec 32 := v243
  let v529 : Index := Scalar.indexCast v244
  ![v529.toNat]

def k0_chk10 (v534 : IVec S16 32) : Prop :=
  (∀ a x, ((![v534] : Fin 1 → IVec S16 32) a x).toNat < S768.size a)
theorem k0_idx10_inb : ∀ (v534 : IVec S16 32) (k0_hw10 : k0_chk10 v534), ∀ a x, ((![v534] : Fin 1 → IVec S16 32) a x).toNat < S768.size a := fun v534 k0_hw10 => k0_hw10

def k0_chk11 (v537 : IVec S16 32) : Prop :=
  (∀ a x, ((![v537] : Fin 1 → IVec S16 32) a x).toNat < S768.size a)
theorem k0_idx11_inb : ∀ (v537 : IVec S16 32) (k0_hw11 : k0_chk11 v537), ∀ a x, ((![v537] : Fin 1 → IVec S16 32) a x).toNat < S768.size a := fun v537 k0_hw11 => k0_hw11

def k0_chk12 (v540 : IVec S16 32) : Prop :=
  (∀ a x, ((![v540] : Fin 1 → IVec S16 32) a x).toNat < S768.size a)
theorem k0_idx12_inb : ∀ (v540 : IVec S16 32) (k0_hw12 : k0_chk12 v540), ∀ a x, ((![v540] : Fin 1 → IVec S16 32) a x).toNat < S768.size a := fun v540 k0_hw12 => k0_hw12

def k0_chk13 (v548 : IVec S16 32) : Prop :=
  (∀ a x, ((![v548] : Fin 1 → IVec S16 32) a x).toNat < S768.size a)
theorem k0_idx13_inb : ∀ (v548 : IVec S16 32) (k0_hw13 : k0_chk13 v548), ∀ a x, ((![v548] : Fin 1 → IVec S16 32) a x).toNat < S768.size a := fun v548 k0_hw13 => k0_hw13

def k0_chk14 (v551 : IVec S16 32) : Prop :=
  (∀ a x, ((![v551] : Fin 1 → IVec S16 32) a x).toNat < S768.size a)
theorem k0_idx14_inb : ∀ (v551 : IVec S16 32) (k0_hw14 : k0_chk14 v551), ∀ a x, ((![v551] : Fin 1 → IVec S16 32) a x).toNat < S768.size a := fun v551 k0_hw14 => k0_hw14

def k0_chk15 (v554 : IVec S16 32) : Prop :=
  (∀ a x, ((![v554] : Fin 1 → IVec S16 32) a x).toNat < S768.size a)
theorem k0_idx15_inb : ∀ (v554 : IVec S16 32) (k0_hw15 : k0_chk15 v554), ∀ a x, ((![v554] : Fin 1 → IVec S16 32) a x).toNat < S768.size a := fun v554 k0_hw15 => k0_hw15

def k0_chk16 (v562 : IVec S16 32) : Prop :=
  (∀ a x, ((![v562] : Fin 1 → IVec S16 32) a x).toNat < S768.size a)
theorem k0_idx16_inb : ∀ (v562 : IVec S16 32) (k0_hw16 : k0_chk16 v562), ∀ a x, ((![v562] : Fin 1 → IVec S16 32) a x).toNat < S768.size a := fun v562 k0_hw16 => k0_hw16

def k0_chk17 (v565 : IVec S16 32) : Prop :=
  (∀ a x, ((![v565] : Fin 1 → IVec S16 32) a x).toNat < S768.size a)
theorem k0_idx17_inb : ∀ (v565 : IVec S16 32) (k0_hw17 : k0_chk17 v565), ∀ a x, ((![v565] : Fin 1 → IVec S16 32) a x).toNat < S768.size a := fun v565 k0_hw17 => k0_hw17

def k0_chk18 (v568 : IVec S16 32) : Prop :=
  (∀ a x, ((![v568] : Fin 1 → IVec S16 32) a x).toNat < S768.size a)
theorem k0_idx18_inb : ∀ (v568 : IVec S16 32) (k0_hw18 : k0_chk18 v568), ∀ a x, ((![v568] : Fin 1 → IVec S16 32) a x).toNat < S768.size a := fun v568 k0_hw18 => k0_hw18

def k0_chk19 (v576 : IVec S16 32) : Prop :=
  (∀ a x, ((![v576] : Fin 1 → IVec S16 32) a x).toNat < S768.size a)
theorem k0_idx19_inb : ∀ (v576 : IVec S16 32) (k0_hw19 : k0_chk19 v576), ∀ a x, ((![v576] : Fin 1 → IVec S16 32) a x).toNat < S768.size a := fun v576 k0_hw19 => k0_hw19

def k0_chk20 (v579 : IVec S16 32) : Prop :=
  (∀ a x, ((![v579] : Fin 1 → IVec S16 32) a x).toNat < S768.size a)
theorem k0_idx20_inb : ∀ (v579 : IVec S16 32) (k0_hw20 : k0_chk20 v579), ∀ a x, ((![v579] : Fin 1 → IVec S16 32) a x).toNat < S768.size a := fun v579 k0_hw20 => k0_hw20

def k0_chk21 (v582 : IVec S16 32) : Prop :=
  (∀ a x, ((![v582] : Fin 1 → IVec S16 32) a x).toNat < S768.size a)
theorem k0_idx21_inb : ∀ (v582 : IVec S16 32) (k0_hw21 : k0_chk21 v582), ∀ a x, ((![v582] : Fin 1 → IVec S16 32) a x).toNat < S768.size a := fun v582 k0_hw21 => k0_hw21

def k0_chk22 (v590 : IVec S16 32) : Prop :=
  (∀ a x, ((![v590] : Fin 1 → IVec S16 32) a x).toNat < S768.size a)
theorem k0_idx22_inb : ∀ (v590 : IVec S16 32) (k0_hw22 : k0_chk22 v590), ∀ a x, ((![v590] : Fin 1 → IVec S16 32) a x).toNat < S768.size a := fun v590 k0_hw22 => k0_hw22

def k0_chk23 (v593 : IVec S16 32) : Prop :=
  (∀ a x, ((![v593] : Fin 1 → IVec S16 32) a x).toNat < S768.size a)
theorem k0_idx23_inb : ∀ (v593 : IVec S16 32) (k0_hw23 : k0_chk23 v593), ∀ a x, ((![v593] : Fin 1 → IVec S16 32) a x).toNat < S768.size a := fun v593 k0_hw23 => k0_hw23

def k0_chk24 (v596 : IVec S16 32) : Prop :=
  (∀ a x, ((![v596] : Fin 1 → IVec S16 32) a x).toNat < S768.size a)
theorem k0_idx24_inb : ∀ (v596 : IVec S16 32) (k0_hw24 : k0_chk24 v596), ∀ a x, ((![v596] : Fin 1 → IVec S16 32) a x).toNat < S768.size a := fun v596 k0_hw24 => k0_hw24

def k0_chk25 (v604 : IVec S16 32) : Prop :=
  (∀ a x, ((![v604] : Fin 1 → IVec S16 32) a x).toNat < S768.size a)
theorem k0_idx25_inb : ∀ (v604 : IVec S16 32) (k0_hw25 : k0_chk25 v604), ∀ a x, ((![v604] : Fin 1 → IVec S16 32) a x).toNat < S768.size a := fun v604 k0_hw25 => k0_hw25

def k0_chk26 (v607 : IVec S16 32) : Prop :=
  (∀ a x, ((![v607] : Fin 1 → IVec S16 32) a x).toNat < S768.size a)
theorem k0_idx26_inb : ∀ (v607 : IVec S16 32) (k0_hw26 : k0_chk26 v607), ∀ a x, ((![v607] : Fin 1 → IVec S16 32) a x).toNat < S768.size a := fun v607 k0_hw26 => k0_hw26

def k0_chk27 (v610 : IVec S16 32) : Prop :=
  (∀ a x, ((![v610] : Fin 1 → IVec S16 32) a x).toNat < S768.size a)
theorem k0_idx27_inb : ∀ (v610 : IVec S16 32) (k0_hw27 : k0_chk27 v610), ∀ a x, ((![v610] : Fin 1 → IVec S16 32) a x).toNat < S768.size a := fun v610 k0_hw27 => k0_hw27

def k0_chk28 (v618 : IVec S16 32) : Prop :=
  (∀ a x, ((![v618] : Fin 1 → IVec S16 32) a x).toNat < S768.size a)
theorem k0_idx28_inb : ∀ (v618 : IVec S16 32) (k0_hw28 : k0_chk28 v618), ∀ a x, ((![v618] : Fin 1 → IVec S16 32) a x).toNat < S768.size a := fun v618 k0_hw28 => k0_hw28

def k0_chk29 (v621 : IVec S16 32) : Prop :=
  (∀ a x, ((![v621] : Fin 1 → IVec S16 32) a x).toNat < S768.size a)
theorem k0_idx29_inb : ∀ (v621 : IVec S16 32) (k0_hw29 : k0_chk29 v621), ∀ a x, ((![v621] : Fin 1 → IVec S16 32) a x).toNat < S768.size a := fun v621 k0_hw29 => k0_hw29

def k0_chk30 (v624 : IVec S16 32) : Prop :=
  (∀ a x, ((![v624] : Fin 1 → IVec S16 32) a x).toNat < S768.size a)
theorem k0_idx30_inb : ∀ (v624 : IVec S16 32) (k0_hw30 : k0_chk30 v624), ∀ a x, ((![v624] : Fin 1 → IVec S16 32) a x).toNat < S768.size a := fun v624 k0_hw30 => k0_hw30

def k0_chk31 (v632 : IVec S16 32) : Prop :=
  (∀ a x, ((![v632] : Fin 1 → IVec S16 32) a x).toNat < S768.size a)
theorem k0_idx31_inb : ∀ (v632 : IVec S16 32) (k0_hw31 : k0_chk31 v632), ∀ a x, ((![v632] : Fin 1 → IVec S16 32) a x).toNat < S768.size a := fun v632 k0_hw31 => k0_hw31

def k0_chk32 (v635 : IVec S16 32) : Prop :=
  (∀ a x, ((![v635] : Fin 1 → IVec S16 32) a x).toNat < S768.size a)
theorem k0_idx32_inb : ∀ (v635 : IVec S16 32) (k0_hw32 : k0_chk32 v635), ∀ a x, ((![v635] : Fin 1 → IVec S16 32) a x).toNat < S768.size a := fun v635 k0_hw32 => k0_hw32

def k0_chk33 (v638 : IVec S16 32) : Prop :=
  (∀ a x, ((![v638] : Fin 1 → IVec S16 32) a x).toNat < S768.size a)
theorem k0_idx33_inb : ∀ (v638 : IVec S16 32) (k0_hw33 : k0_chk33 v638), ∀ a x, ((![v638] : Fin 1 → IVec S16 32) a x).toNat < S768.size a := fun v638 k0_hw33 => k0_hw33

def k0_chk34 (v646 : IVec S16 32) : Prop :=
  (∀ a x, ((![v646] : Fin 1 → IVec S16 32) a x).toNat < S768.size a)
theorem k0_idx34_inb : ∀ (v646 : IVec S16 32) (k0_hw34 : k0_chk34 v646), ∀ a x, ((![v646] : Fin 1 → IVec S16 32) a x).toNat < S768.size a := fun v646 k0_hw34 => k0_hw34

def k0_chk35 (v649 : IVec S16 32) : Prop :=
  (∀ a x, ((![v649] : Fin 1 → IVec S16 32) a x).toNat < S768.size a)
theorem k0_idx35_inb : ∀ (v649 : IVec S16 32) (k0_hw35 : k0_chk35 v649), ∀ a x, ((![v649] : Fin 1 → IVec S16 32) a x).toNat < S768.size a := fun v649 k0_hw35 => k0_hw35

def k0_chk36 (v652 : IVec S16 32) : Prop :=
  (∀ a x, ((![v652] : Fin 1 → IVec S16 32) a x).toNat < S768.size a)
theorem k0_idx36_inb : ∀ (v652 : IVec S16 32) (k0_hw36 : k0_chk36 v652), ∀ a x, ((![v652] : Fin 1 → IVec S16 32) a x).toNat < S768.size a := fun v652 k0_hw36 => k0_hw36

def k0_chk37 (v660 : IVec S16 32) : Prop :=
  (∀ a x, ((![v660] : Fin 1 → IVec S16 32) a x).toNat < S768.size a)
theorem k0_idx37_inb : ∀ (v660 : IVec S16 32) (k0_hw37 : k0_chk37 v660), ∀ a x, ((![v660] : Fin 1 → IVec S16 32) a x).toNat < S768.size a := fun v660 k0_hw37 => k0_hw37

def k0_chk38 (v663 : IVec S16 32) : Prop :=
  (∀ a x, ((![v663] : Fin 1 → IVec S16 32) a x).toNat < S768.size a)
theorem k0_idx38_inb : ∀ (v663 : IVec S16 32) (k0_hw38 : k0_chk38 v663), ∀ a x, ((![v663] : Fin 1 → IVec S16 32) a x).toNat < S768.size a := fun v663 k0_hw38 => k0_hw38

def k0_chk39 (v666 : IVec S16 32) : Prop :=
  (∀ a x, ((![v666] : Fin 1 → IVec S16 32) a x).toNat < S768.size a)
theorem k0_idx39_inb : ∀ (v666 : IVec S16 32) (k0_hw39 : k0_chk39 v666), ∀ a x, ((![v666] : Fin 1 → IVec S16 32) a x).toNat < S768.size a := fun v666 k0_hw39 => k0_hw39

def k0_chk40 (v674 : IVec S16 32) : Prop :=
  (∀ a x, ((![v674] : Fin 1 → IVec S16 32) a x).toNat < S768.size a)
theorem k0_idx40_inb : ∀ (v674 : IVec S16 32) (k0_hw40 : k0_chk40 v674), ∀ a x, ((![v674] : Fin 1 → IVec S16 32) a x).toNat < S768.size a := fun v674 k0_hw40 => k0_hw40

def k0_chk41 (v677 : IVec S16 32) : Prop :=
  (∀ a x, ((![v677] : Fin 1 → IVec S16 32) a x).toNat < S768.size a)
theorem k0_idx41_inb : ∀ (v677 : IVec S16 32) (k0_hw41 : k0_chk41 v677), ∀ a x, ((![v677] : Fin 1 → IVec S16 32) a x).toNat < S768.size a := fun v677 k0_hw41 => k0_hw41

def k0_chk42 (v680 : IVec S16 32) : Prop :=
  (∀ a x, ((![v680] : Fin 1 → IVec S16 32) a x).toNat < S768.size a)
theorem k0_idx42_inb : ∀ (v680 : IVec S16 32) (k0_hw42 : k0_chk42 v680), ∀ a x, ((![v680] : Fin 1 → IVec S16 32) a x).toNat < S768.size a := fun v680 k0_hw42 => k0_hw42

def k0_chk43 (v688 : IVec S16 32) : Prop :=
  (∀ a x, ((![v688] : Fin 1 → IVec S16 32) a x).toNat < S768.size a)
theorem k0_idx43_inb : ∀ (v688 : IVec S16 32) (k0_hw43 : k0_chk43 v688), ∀ a x, ((![v688] : Fin 1 → IVec S16 32) a x).toNat < S768.size a := fun v688 k0_hw43 => k0_hw43

def k0_chk44 (v691 : IVec S16 32) : Prop :=
  (∀ a x, ((![v691] : Fin 1 → IVec S16 32) a x).toNat < S768.size a)
theorem k0_idx44_inb : ∀ (v691 : IVec S16 32) (k0_hw44 : k0_chk44 v691), ∀ a x, ((![v691] : Fin 1 → IVec S16 32) a x).toNat < S768.size a := fun v691 k0_hw44 => k0_hw44

def k0_chk45 (v694 : IVec S16 32) : Prop :=
  (∀ a x, ((![v694] : Fin 1 → IVec S16 32) a x).toNat < S768.size a)
theorem k0_idx45_inb : ∀ (v694 : IVec S16 32) (k0_hw45 : k0_chk45 v694), ∀ a x, ((![v694] : Fin 1 → IVec S16 32) a x).toNat < S768.size a := fun v694 k0_hw45 => k0_hw45

def k0_chk46 (v702 : IVec S16 32) : Prop :=
  (∀ a x, ((![v702] : Fin 1 → IVec S16 32) a x).toNat < S768.size a)
theorem k0_idx46_inb : ∀ (v702 : IVec S16 32) (k0_hw46 : k0_chk46 v702), ∀ a x, ((![v702] : Fin 1 → IVec S16 32) a x).toNat < S768.size a := fun v702 k0_hw46 => k0_hw46

def k0_chk47 (v705 : IVec S16 32) : Prop :=
  (∀ a x, ((![v705] : Fin 1 → IVec S16 32) a x).toNat < S768.size a)
theorem k0_idx47_inb : ∀ (v705 : IVec S16 32) (k0_hw47 : k0_chk47 v705), ∀ a x, ((![v705] : Fin 1 → IVec S16 32) a x).toNat < S768.size a := fun v705 k0_hw47 => k0_hw47

def k0_chk48 (v708 : IVec S16 32) : Prop :=
  (∀ a x, ((![v708] : Fin 1 → IVec S16 32) a x).toNat < S768.size a)
theorem k0_idx48_inb : ∀ (v708 : IVec S16 32) (k0_hw48 : k0_chk48 v708), ∀ a x, ((![v708] : Fin 1 → IVec S16 32) a x).toNat < S768.size a := fun v708 k0_hw48 => k0_hw48

def k0_chk49 (v716 : IVec S16 32) : Prop :=
  (∀ a x, ((![v716] : Fin 1 → IVec S16 32) a x).toNat < S768.size a)
theorem k0_idx49_inb : ∀ (v716 : IVec S16 32) (k0_hw49 : k0_chk49 v716), ∀ a x, ((![v716] : Fin 1 → IVec S16 32) a x).toNat < S768.size a := fun v716 k0_hw49 => k0_hw49

def k0_chk50 (v719 : IVec S16 32) : Prop :=
  (∀ a x, ((![v719] : Fin 1 → IVec S16 32) a x).toNat < S768.size a)
theorem k0_idx50_inb : ∀ (v719 : IVec S16 32) (k0_hw50 : k0_chk50 v719), ∀ a x, ((![v719] : Fin 1 → IVec S16 32) a x).toNat < S768.size a := fun v719 k0_hw50 => k0_hw50

def k0_chk51 (v722 : IVec S16 32) : Prop :=
  (∀ a x, ((![v722] : Fin 1 → IVec S16 32) a x).toNat < S768.size a)
theorem k0_idx51_inb : ∀ (v722 : IVec S16 32) (k0_hw51 : k0_chk51 v722), ∀ a x, ((![v722] : Fin 1 → IVec S16 32) a x).toNat < S768.size a := fun v722 k0_hw51 => k0_hw51

def k0_chk52 (v730 : IVec S16 32) : Prop :=
  (∀ a x, ((![v730] : Fin 1 → IVec S16 32) a x).toNat < S768.size a)
theorem k0_idx52_inb : ∀ (v730 : IVec S16 32) (k0_hw52 : k0_chk52 v730), ∀ a x, ((![v730] : Fin 1 → IVec S16 32) a x).toNat < S768.size a := fun v730 k0_hw52 => k0_hw52

def k0_chk53 (v733 : IVec S16 32) : Prop :=
  (∀ a x, ((![v733] : Fin 1 → IVec S16 32) a x).toNat < S768.size a)
theorem k0_idx53_inb : ∀ (v733 : IVec S16 32) (k0_hw53 : k0_chk53 v733), ∀ a x, ((![v733] : Fin 1 → IVec S16 32) a x).toNat < S768.size a := fun v733 k0_hw53 => k0_hw53

def k0_chk54 (v736 : IVec S16 32) : Prop :=
  (∀ a x, ((![v736] : Fin 1 → IVec S16 32) a x).toNat < S768.size a)
theorem k0_idx54_inb : ∀ (v736 : IVec S16 32) (k0_hw54 : k0_chk54 v736), ∀ a x, ((![v736] : Fin 1 → IVec S16 32) a x).toNat < S768.size a := fun v736 k0_hw54 => k0_hw54

def k0_chk55 (v744 : IVec S16 32) : Prop :=
  (∀ a x, ((![v744] : Fin 1 → IVec S16 32) a x).toNat < S768.size a)
theorem k0_idx55_inb : ∀ (v744 : IVec S16 32) (k0_hw55 : k0_chk55 v744), ∀ a x, ((![v744] : Fin 1 → IVec S16 32) a x).toNat < S768.size a := fun v744 k0_hw55 => k0_hw55

def k0_chk56 (v747 : IVec S16 32) : Prop :=
  (∀ a x, ((![v747] : Fin 1 → IVec S16 32) a x).toNat < S768.size a)
theorem k0_idx56_inb : ∀ (v747 : IVec S16 32) (k0_hw56 : k0_chk56 v747), ∀ a x, ((![v747] : Fin 1 → IVec S16 32) a x).toNat < S768.size a := fun v747 k0_hw56 => k0_hw56

def k0_chk57 (v750 : IVec S16 32) : Prop :=
  (∀ a x, ((![v750] : Fin 1 → IVec S16 32) a x).toNat < S768.size a)
theorem k0_idx57_inb : ∀ (v750 : IVec S16 32) (k0_hw57 : k0_chk57 v750), ∀ a x, ((![v750] : Fin 1 → IVec S16 32) a x).toNat < S768.size a := fun v750 k0_hw57 => k0_hw57
def k0_mult4 (k0_t2 : Fin k0_t2_loop.trips) : BitVec 32 :=
  let c0_i32_43 : BitVec 32 := 0#32
  let c1_i32_44 : BitVec 32 := 1#32
  let arg24 : BitVec 32 := Scf.iv c0_i32_43 c1_i32_44 k0_t2
  let c16_i32_75 : BitVec 32 := 16#32
  let v243 : BitVec 32 := Scalar.muli arg24 c16_i32_75
  let v244 : BitVec 32 := v243
  let c0_i32_121 : BitVec 32 := 0#32
  let v1037 : BitVec 32 := Scalar.addi v244 c0_i32_121
  let c16_i32_122 : BitVec 32 := 16#32
  let v1038 : BitVec 32 := Scalar.muli v1037 c16_i32_122
  v1038
def k0_off4 (k0_t2 : Fin k0_t2_loop.trips) (c0_i32_121 : BitVec 32) : Fin 1 → Nat :=
  let c0_i32_43 : BitVec 32 := 0#32
  let c1_i32_44 : BitVec 32 := 1#32
  let arg24 : BitVec 32 := Scf.iv c0_i32_43 c1_i32_44 k0_t2
  let c16_i32_75 : BitVec 32 := 16#32
  let v243 : BitVec 32 := Scalar.muli arg24 c16_i32_75
  let v244 : BitVec 32 := v243
  let v1037 : BitVec 32 := Scalar.addi v244 c0_i32_121
  let c16_i32_122 : BitVec 32 := 16#32
  let v1038 : BitVec 32 := Scalar.muli v1037 c16_i32_122
  let v1039 : BitVec 32 := v1038
  let v1040 : Index := Scalar.indexCast v1039
  ![v1040.toNat]
def k0_mult5 (k0_t2 : Fin k0_t2_loop.trips) : BitVec 32 :=
  let c0_i32_43 : BitVec 32 := 0#32
  let c1_i32_44 : BitVec 32 := 1#32
  let arg24 : BitVec 32 := Scf.iv c0_i32_43 c1_i32_44 k0_t2
  let c16_i32_75 : BitVec 32 := 16#32
  let v243 : BitVec 32 := Scalar.muli arg24 c16_i32_75
  let v244 : BitVec 32 := v243
  let c1_i32_123 : BitVec 32 := 1#32
  let v1044 : BitVec 32 := Scalar.addi v244 c1_i32_123
  let c16_i32_124 : BitVec 32 := 16#32
  let v1045 : BitVec 32 := Scalar.muli v1044 c16_i32_124
  v1045
def k0_mult6 (k0_t2 : Fin k0_t2_loop.trips) : BitVec 32 :=
  let c0_i32_43 : BitVec 32 := 0#32
  let c1_i32_44 : BitVec 32 := 1#32
  let arg24 : BitVec 32 := Scf.iv c0_i32_43 c1_i32_44 k0_t2
  let c16_i32_75 : BitVec 32 := 16#32
  let v243 : BitVec 32 := Scalar.muli arg24 c16_i32_75
  let v244 : BitVec 32 := v243
  let c2_i32_125 : BitVec 32 := 2#32
  let v1051 : BitVec 32 := Scalar.addi v244 c2_i32_125
  let c16_i32_126 : BitVec 32 := 16#32
  let v1052 : BitVec 32 := Scalar.muli v1051 c16_i32_126
  v1052
def k0_mult7 (k0_t2 : Fin k0_t2_loop.trips) : BitVec 32 :=
  let c0_i32_43 : BitVec 32 := 0#32
  let c1_i32_44 : BitVec 32 := 1#32
  let arg24 : BitVec 32 := Scf.iv c0_i32_43 c1_i32_44 k0_t2
  let c16_i32_75 : BitVec 32 := 16#32
  let v243 : BitVec 32 := Scalar.muli arg24 c16_i32_75
  let v244 : BitVec 32 := v243
  let c3_i32_127 : BitVec 32 := 3#32
  let v1058 : BitVec 32 := Scalar.addi v244 c3_i32_127
  let c16_i32_128 : BitVec 32 := 16#32
  let v1059 : BitVec 32 := Scalar.muli v1058 c16_i32_128
  v1059
def k0_mult8 (k0_t2 : Fin k0_t2_loop.trips) : BitVec 32 :=
  let c0_i32_43 : BitVec 32 := 0#32
  let c1_i32_44 : BitVec 32 := 1#32
  let arg24 : BitVec 32 := Scf.iv c0_i32_43 c1_i32_44 k0_t2
  let c16_i32_75 : BitVec 32 := 16#32
  let v243 : BitVec 32 := Scalar.muli arg24 c16_i32_75
  let v244 : BitVec 32 := v243
  let c4_i32_129 : BitVec 32 := 4#32
  let v1065 : BitVec 32 := Scalar.addi v244 c4_i32_129
  let c16_i32_130 : BitVec 32 := 16#32
  let v1066 : BitVec 32 := Scalar.muli v1065 c16_i32_130
  v1066
def k0_mult9 (k0_t2 : Fin k0_t2_loop.trips) : BitVec 32 :=
  let c0_i32_43 : BitVec 32 := 0#32
  let c1_i32_44 : BitVec 32 := 1#32
  let arg24 : BitVec 32 := Scf.iv c0_i32_43 c1_i32_44 k0_t2
  let c16_i32_75 : BitVec 32 := 16#32
  let v243 : BitVec 32 := Scalar.muli arg24 c16_i32_75
  let v244 : BitVec 32 := v243
  let c5_i32_131 : BitVec 32 := 5#32
  let v1072 : BitVec 32 := Scalar.addi v244 c5_i32_131
  let c16_i32_132 : BitVec 32 := 16#32
  let v1073 : BitVec 32 := Scalar.muli v1072 c16_i32_132
  v1073
def k0_mult10 (k0_t2 : Fin k0_t2_loop.trips) : BitVec 32 :=
  let c0_i32_43 : BitVec 32 := 0#32
  let c1_i32_44 : BitVec 32 := 1#32
  let arg24 : BitVec 32 := Scf.iv c0_i32_43 c1_i32_44 k0_t2
  let c16_i32_75 : BitVec 32 := 16#32
  let v243 : BitVec 32 := Scalar.muli arg24 c16_i32_75
  let v244 : BitVec 32 := v243
  let c6_i32_133 : BitVec 32 := 6#32
  let v1079 : BitVec 32 := Scalar.addi v244 c6_i32_133
  let c16_i32_134 : BitVec 32 := 16#32
  let v1080 : BitVec 32 := Scalar.muli v1079 c16_i32_134
  v1080
def k0_mult11 (k0_t2 : Fin k0_t2_loop.trips) : BitVec 32 :=
  let c0_i32_43 : BitVec 32 := 0#32
  let c1_i32_44 : BitVec 32 := 1#32
  let arg24 : BitVec 32 := Scf.iv c0_i32_43 c1_i32_44 k0_t2
  let c16_i32_75 : BitVec 32 := 16#32
  let v243 : BitVec 32 := Scalar.muli arg24 c16_i32_75
  let v244 : BitVec 32 := v243
  let c7_i32_135 : BitVec 32 := 7#32
  let v1086 : BitVec 32 := Scalar.addi v244 c7_i32_135
  let c16_i32_136 : BitVec 32 := 16#32
  let v1087 : BitVec 32 := Scalar.muli v1086 c16_i32_136
  v1087
def k0_mult12 (k0_t2 : Fin k0_t2_loop.trips) : BitVec 32 :=
  let c0_i32_43 : BitVec 32 := 0#32
  let c1_i32_44 : BitVec 32 := 1#32
  let arg24 : BitVec 32 := Scf.iv c0_i32_43 c1_i32_44 k0_t2
  let c16_i32_75 : BitVec 32 := 16#32
  let v243 : BitVec 32 := Scalar.muli arg24 c16_i32_75
  let v244 : BitVec 32 := v243
  let c8_i32_137 : BitVec 32 := 8#32
  let v1093 : BitVec 32 := Scalar.addi v244 c8_i32_137
  let c16_i32_138 : BitVec 32 := 16#32
  let v1094 : BitVec 32 := Scalar.muli v1093 c16_i32_138
  v1094
def k0_mult13 (k0_t2 : Fin k0_t2_loop.trips) : BitVec 32 :=
  let c0_i32_43 : BitVec 32 := 0#32
  let c1_i32_44 : BitVec 32 := 1#32
  let arg24 : BitVec 32 := Scf.iv c0_i32_43 c1_i32_44 k0_t2
  let c16_i32_75 : BitVec 32 := 16#32
  let v243 : BitVec 32 := Scalar.muli arg24 c16_i32_75
  let v244 : BitVec 32 := v243
  let c9_i32_139 : BitVec 32 := 9#32
  let v1100 : BitVec 32 := Scalar.addi v244 c9_i32_139
  let c16_i32_140 : BitVec 32 := 16#32
  let v1101 : BitVec 32 := Scalar.muli v1100 c16_i32_140
  v1101
def k0_mult14 (k0_t2 : Fin k0_t2_loop.trips) : BitVec 32 :=
  let c0_i32_43 : BitVec 32 := 0#32
  let c1_i32_44 : BitVec 32 := 1#32
  let arg24 : BitVec 32 := Scf.iv c0_i32_43 c1_i32_44 k0_t2
  let c16_i32_75 : BitVec 32 := 16#32
  let v243 : BitVec 32 := Scalar.muli arg24 c16_i32_75
  let v244 : BitVec 32 := v243
  let c10_i32_141 : BitVec 32 := 10#32
  let v1107 : BitVec 32 := Scalar.addi v244 c10_i32_141
  let c16_i32_142 : BitVec 32 := 16#32
  let v1108 : BitVec 32 := Scalar.muli v1107 c16_i32_142
  v1108
def k0_mult15 (k0_t2 : Fin k0_t2_loop.trips) : BitVec 32 :=
  let c0_i32_43 : BitVec 32 := 0#32
  let c1_i32_44 : BitVec 32 := 1#32
  let arg24 : BitVec 32 := Scf.iv c0_i32_43 c1_i32_44 k0_t2
  let c16_i32_75 : BitVec 32 := 16#32
  let v243 : BitVec 32 := Scalar.muli arg24 c16_i32_75
  let v244 : BitVec 32 := v243
  let c11_i32_143 : BitVec 32 := 11#32
  let v1114 : BitVec 32 := Scalar.addi v244 c11_i32_143
  let c16_i32_144 : BitVec 32 := 16#32
  let v1115 : BitVec 32 := Scalar.muli v1114 c16_i32_144
  v1115
def k0_mult16 (k0_t2 : Fin k0_t2_loop.trips) : BitVec 32 :=
  let c0_i32_43 : BitVec 32 := 0#32
  let c1_i32_44 : BitVec 32 := 1#32
  let arg24 : BitVec 32 := Scf.iv c0_i32_43 c1_i32_44 k0_t2
  let c16_i32_75 : BitVec 32 := 16#32
  let v243 : BitVec 32 := Scalar.muli arg24 c16_i32_75
  let v244 : BitVec 32 := v243
  let c12_i32_145 : BitVec 32 := 12#32
  let v1121 : BitVec 32 := Scalar.addi v244 c12_i32_145
  let c16_i32_146 : BitVec 32 := 16#32
  let v1122 : BitVec 32 := Scalar.muli v1121 c16_i32_146
  v1122
def k0_mult17 (k0_t2 : Fin k0_t2_loop.trips) : BitVec 32 :=
  let c0_i32_43 : BitVec 32 := 0#32
  let c1_i32_44 : BitVec 32 := 1#32
  let arg24 : BitVec 32 := Scf.iv c0_i32_43 c1_i32_44 k0_t2
  let c16_i32_75 : BitVec 32 := 16#32
  let v243 : BitVec 32 := Scalar.muli arg24 c16_i32_75
  let v244 : BitVec 32 := v243
  let c13_i32_147 : BitVec 32 := 13#32
  let v1128 : BitVec 32 := Scalar.addi v244 c13_i32_147
  let c16_i32_148 : BitVec 32 := 16#32
  let v1129 : BitVec 32 := Scalar.muli v1128 c16_i32_148
  v1129
def k0_mult18 (k0_t2 : Fin k0_t2_loop.trips) : BitVec 32 :=
  let c0_i32_43 : BitVec 32 := 0#32
  let c1_i32_44 : BitVec 32 := 1#32
  let arg24 : BitVec 32 := Scf.iv c0_i32_43 c1_i32_44 k0_t2
  let c16_i32_75 : BitVec 32 := 16#32
  let v243 : BitVec 32 := Scalar.muli arg24 c16_i32_75
  let v244 : BitVec 32 := v243
  let c14_i32_149 : BitVec 32 := 14#32
  let v1135 : BitVec 32 := Scalar.addi v244 c14_i32_149
  let c16_i32_150 : BitVec 32 := 16#32
  let v1136 : BitVec 32 := Scalar.muli v1135 c16_i32_150
  v1136
def k0_mult19 (k0_t2 : Fin k0_t2_loop.trips) : BitVec 32 :=
  let c0_i32_43 : BitVec 32 := 0#32
  let c1_i32_44 : BitVec 32 := 1#32
  let arg24 : BitVec 32 := Scf.iv c0_i32_43 c1_i32_44 k0_t2
  let c16_i32_75 : BitVec 32 := 16#32
  let v243 : BitVec 32 := Scalar.muli arg24 c16_i32_75
  let v244 : BitVec 32 := v243
  let c15_i32_151 : BitVec 32 := 15#32
  let v1142 : BitVec 32 := Scalar.addi v244 c15_i32_151
  let c16_i32_152 : BitVec 32 := 16#32
  let v1143 : BitVec 32 := Scalar.muli v1142 c16_i32_152
  v1143
def k0_mult20 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15648_i32_46 : BitVec 32 := 15648#32
  let v202 : BitVec 32 := Scalar.muli v1 c15648_i32_46
  let c2_i32_33 : BitVec 32 := 2#32
  let c0_i32_13 : BitVec 32 := 0#32
  let c1_i32_15 : BitVec 32 := 1#32
  let arg23 : BitVec 32 := Scf.iv c0_i32_13 c1_i32_15 k0_t1
  let v189 : BitVec 32 := Scalar.muli c2_i32_33 arg23
  let c2608_i32 : BitVec 32 := 2608#32
  let v203 : BitVec 32 := Scalar.muli v189 c2608_i32
  let v204 : BitVec 32 := Scalar.addi v202 v203
  let c497392_i32_47 : BitVec 32 := 497392#32
  let v205 : BitVec 32 := Scalar.minsi v204 c497392_i32_47
  v205
def k0_off5 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15648_i32_46 : BitVec 32 := 15648#32
  let v202 : BitVec 32 := Scalar.muli v1 c15648_i32_46
  let c2_i32_33 : BitVec 32 := 2#32
  let c0_i32_13 : BitVec 32 := 0#32
  let c1_i32_15 : BitVec 32 := 1#32
  let arg23 : BitVec 32 := Scf.iv c0_i32_13 c1_i32_15 k0_t1
  let v189 : BitVec 32 := Scalar.muli c2_i32_33 arg23
  let c2608_i32 : BitVec 32 := 2608#32
  let v203 : BitVec 32 := Scalar.muli v189 c2608_i32
  let v204 : BitVec 32 := Scalar.addi v202 v203
  let c497392_i32_47 : BitVec 32 := 497392#32
  let v205 : BitVec 32 := Scalar.minsi v204 c497392_i32_47
  let v206 : BitVec 32 := v205
  ![v206.toNat]
def k0_off6 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15648_i32_46 : BitVec 32 := 15648#32
  let v202 : BitVec 32 := Scalar.muli v1 c15648_i32_46
  let c2_i32_33 : BitVec 32 := 2#32
  let c0_i32_13 : BitVec 32 := 0#32
  let c1_i32_15 : BitVec 32 := 1#32
  let arg23 : BitVec 32 := Scf.iv c0_i32_13 c1_i32_15 k0_t1
  let v189 : BitVec 32 := Scalar.muli c2_i32_33 arg23
  let c2608_i32 : BitVec 32 := 2608#32
  let v203 : BitVec 32 := Scalar.muli v189 c2608_i32
  let v204 : BitVec 32 := Scalar.addi v202 v203
  let c497392_i32_47 : BitVec 32 := 497392#32
  let v205 : BitVec 32 := Scalar.minsi v204 c497392_i32_47
  let v206 : BitVec 32 := v205
  let c16_i32 : BitVec 32 := 16#32
  let v211 : BitVec 32 := Scalar.muli v206 c16_i32
  ![v211.toNat]
def k0_cond3 (k0_t1 : Fin k0_t1_loop.trips) : BitVec 1 :=
  let c2_i32_33 : BitVec 32 := 2#32
  let c0_i32_13 : BitVec 32 := 0#32
  let c1_i32_15 : BitVec 32 := 1#32
  let arg23 : BitVec 32 := Scf.iv c0_i32_13 c1_i32_15 k0_t1
  let v189 : BitVec 32 := Scalar.muli c2_i32_33 arg23
  let c2_i32_56 : BitVec 32 := 2#32
  let v220 : BitVec 32 := Scalar.addi v189 c2_i32_56
  let c6_i32_57 : BitVec 32 := 6#32
  let v221 : BitVec 1 := Scalar.cmpi .slt v220 c6_i32_57
  let v222 : BitVec 32 := Scalar.extui v221
  let c0_i32_58 : BitVec 32 := 0#32
  let v223 : BitVec 1 := Scalar.cmpi .ne v222 c0_i32_58
  v223

def k0_mult21 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15648_i32_76 : BitVec 32 := 15648#32
  let v244 : BitVec 32 := Scalar.muli v1 c15648_i32_76
  let c2_i32_33 : BitVec 32 := 2#32
  let c0_i32_13 : BitVec 32 := 0#32
  let c1_i32_15 : BitVec 32 := 1#32
  let arg23 : BitVec 32 := Scf.iv c0_i32_13 c1_i32_15 k0_t1
  let v189 : BitVec 32 := Scalar.muli c2_i32_33 arg23
  let c2_i32_75 : BitVec 32 := 2#32
  let v243 : BitVec 32 := Scalar.addi v189 c2_i32_75
  let c2608_i32_77 : BitVec 32 := 2608#32
  let v245 : BitVec 32 := Scalar.muli v243 c2608_i32_77
  let v246 : BitVec 32 := Scalar.addi v244 v245
  let c497392_i32_78 : BitVec 32 := 497392#32
  let v247 : BitVec 32 := Scalar.minsi v246 c497392_i32_78
  v247
def k0_off7 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15648_i32_76 : BitVec 32 := 15648#32
  let v244 : BitVec 32 := Scalar.muli v1 c15648_i32_76
  let c2_i32_33 : BitVec 32 := 2#32
  let c0_i32_13 : BitVec 32 := 0#32
  let c1_i32_15 : BitVec 32 := 1#32
  let arg23 : BitVec 32 := Scf.iv c0_i32_13 c1_i32_15 k0_t1
  let v189 : BitVec 32 := Scalar.muli c2_i32_33 arg23
  let c2_i32_75 : BitVec 32 := 2#32
  let v243 : BitVec 32 := Scalar.addi v189 c2_i32_75
  let c2608_i32_77 : BitVec 32 := 2608#32
  let v245 : BitVec 32 := Scalar.muli v243 c2608_i32_77
  let v246 : BitVec 32 := Scalar.addi v244 v245
  let c497392_i32_78 : BitVec 32 := 497392#32
  let v247 : BitVec 32 := Scalar.minsi v246 c497392_i32_78
  let v248 : BitVec 32 := v247
  let c3_i32_79 : BitVec 32 := 3#32
  let v249 : BitVec 32 := Scalar.muli v248 c3_i32_79
  ![v249.toNat]
@[reducible] def k0_t3_loop : Scf.Loop 32 :=
  let c0_i32_62 : BitVec 32 := 0#32
  let c163_i32_63 : BitVec 32 := 163#32
  let v227 : BitVec 32 := Scalar.addi c0_i32_62 c163_i32_63
  let c1_i32_64 : BitVec 32 := 1#32
  ⟨c0_i32_62, v227, c1_i32_64⟩
def k0_mult22 (k0_t3 : Fin k0_t3_loop.trips) : BitVec 32 :=
  let c0_i32_62 : BitVec 32 := 0#32
  let c1_i32_64 : BitVec 32 := 1#32
  let arg24 : BitVec 32 := Scf.iv c0_i32_62 c1_i32_64 k0_t3
  let c16_i32_75 : BitVec 32 := 16#32
  let v243 : BitVec 32 := Scalar.muli arg24 c16_i32_75
  v243

def k0_chk58 (v248 : IVec S16 32) : Prop :=
  (∀ a x, ((![v248] : Fin 1 → IVec S16 32) a x).toNat < S8192.size a)
theorem k0_idx58_inb : ∀ (v248 : IVec S16 32) (k0_hw58 : k0_chk58 v248), ∀ a x, ((![v248] : Fin 1 → IVec S16 32) a x).toNat < S8192.size a := fun v248 k0_hw58 => k0_hw58

def k0_chk59 (v253 : IVec S16 32) : Prop :=
  (∀ a x, ((![v253] : Fin 1 → IVec S16 32) a x).toNat < S8192.size a)
theorem k0_idx59_inb : ∀ (v253 : IVec S16 32) (k0_hw59 : k0_chk59 v253), ∀ a x, ((![v253] : Fin 1 → IVec S16 32) a x).toNat < S8192.size a := fun v253 k0_hw59 => k0_hw59

def k0_chk60 (v258 : IVec S16 32) : Prop :=
  (∀ a x, ((![v258] : Fin 1 → IVec S16 32) a x).toNat < S8192.size a)
theorem k0_idx60_inb : ∀ (v258 : IVec S16 32) (k0_hw60 : k0_chk60 v258), ∀ a x, ((![v258] : Fin 1 → IVec S16 32) a x).toNat < S8192.size a := fun v258 k0_hw60 => k0_hw60

def k0_chk61 (v269 : IVec S16 32) : Prop :=
  (∀ a x, ((![v269] : Fin 1 → IVec S16 32) a x).toNat < S8192.size a)
theorem k0_idx61_inb : ∀ (v269 : IVec S16 32) (k0_hw61 : k0_chk61 v269), ∀ a x, ((![v269] : Fin 1 → IVec S16 32) a x).toNat < S8192.size a := fun v269 k0_hw61 => k0_hw61

def k0_chk62 (v274 : IVec S16 32) : Prop :=
  (∀ a x, ((![v274] : Fin 1 → IVec S16 32) a x).toNat < S8192.size a)
theorem k0_idx62_inb : ∀ (v274 : IVec S16 32) (k0_hw62 : k0_chk62 v274), ∀ a x, ((![v274] : Fin 1 → IVec S16 32) a x).toNat < S8192.size a := fun v274 k0_hw62 => k0_hw62

def k0_chk63 (v279 : IVec S16 32) : Prop :=
  (∀ a x, ((![v279] : Fin 1 → IVec S16 32) a x).toNat < S8192.size a)
theorem k0_idx63_inb : ∀ (v279 : IVec S16 32) (k0_hw63 : k0_chk63 v279), ∀ a x, ((![v279] : Fin 1 → IVec S16 32) a x).toNat < S8192.size a := fun v279 k0_hw63 => k0_hw63

def k0_chk64 (v290 : IVec S16 32) : Prop :=
  (∀ a x, ((![v290] : Fin 1 → IVec S16 32) a x).toNat < S8192.size a)
theorem k0_idx64_inb : ∀ (v290 : IVec S16 32) (k0_hw64 : k0_chk64 v290), ∀ a x, ((![v290] : Fin 1 → IVec S16 32) a x).toNat < S8192.size a := fun v290 k0_hw64 => k0_hw64

def k0_chk65 (v295 : IVec S16 32) : Prop :=
  (∀ a x, ((![v295] : Fin 1 → IVec S16 32) a x).toNat < S8192.size a)
theorem k0_idx65_inb : ∀ (v295 : IVec S16 32) (k0_hw65 : k0_chk65 v295), ∀ a x, ((![v295] : Fin 1 → IVec S16 32) a x).toNat < S8192.size a := fun v295 k0_hw65 => k0_hw65

def k0_chk66 (v300 : IVec S16 32) : Prop :=
  (∀ a x, ((![v300] : Fin 1 → IVec S16 32) a x).toNat < S8192.size a)
theorem k0_idx66_inb : ∀ (v300 : IVec S16 32) (k0_hw66 : k0_chk66 v300), ∀ a x, ((![v300] : Fin 1 → IVec S16 32) a x).toNat < S8192.size a := fun v300 k0_hw66 => k0_hw66
def k0_off8 (k0_t3 : Fin k0_t3_loop.trips) : Fin 1 → Nat :=
  let c0_i32_62 : BitVec 32 := 0#32
  let c1_i32_64 : BitVec 32 := 1#32
  let arg24 : BitVec 32 := Scf.iv c0_i32_62 c1_i32_64 k0_t3
  let c16_i32_75 : BitVec 32 := 16#32
  let v243 : BitVec 32 := Scalar.muli arg24 c16_i32_75
  let v244 : BitVec 32 := v243
  let v529 : Index := Scalar.indexCast v244
  ![v529.toNat]

def k0_chk67 (v534 : IVec S16 32) : Prop :=
  (∀ a x, ((![v534] : Fin 1 → IVec S16 32) a x).toNat < S768.size a)
theorem k0_idx67_inb : ∀ (v534 : IVec S16 32) (k0_hw67 : k0_chk67 v534), ∀ a x, ((![v534] : Fin 1 → IVec S16 32) a x).toNat < S768.size a := fun v534 k0_hw67 => k0_hw67

def k0_chk68 (v537 : IVec S16 32) : Prop :=
  (∀ a x, ((![v537] : Fin 1 → IVec S16 32) a x).toNat < S768.size a)
theorem k0_idx68_inb : ∀ (v537 : IVec S16 32) (k0_hw68 : k0_chk68 v537), ∀ a x, ((![v537] : Fin 1 → IVec S16 32) a x).toNat < S768.size a := fun v537 k0_hw68 => k0_hw68

def k0_chk69 (v540 : IVec S16 32) : Prop :=
  (∀ a x, ((![v540] : Fin 1 → IVec S16 32) a x).toNat < S768.size a)
theorem k0_idx69_inb : ∀ (v540 : IVec S16 32) (k0_hw69 : k0_chk69 v540), ∀ a x, ((![v540] : Fin 1 → IVec S16 32) a x).toNat < S768.size a := fun v540 k0_hw69 => k0_hw69

def k0_chk70 (v548 : IVec S16 32) : Prop :=
  (∀ a x, ((![v548] : Fin 1 → IVec S16 32) a x).toNat < S768.size a)
theorem k0_idx70_inb : ∀ (v548 : IVec S16 32) (k0_hw70 : k0_chk70 v548), ∀ a x, ((![v548] : Fin 1 → IVec S16 32) a x).toNat < S768.size a := fun v548 k0_hw70 => k0_hw70

def k0_chk71 (v551 : IVec S16 32) : Prop :=
  (∀ a x, ((![v551] : Fin 1 → IVec S16 32) a x).toNat < S768.size a)
theorem k0_idx71_inb : ∀ (v551 : IVec S16 32) (k0_hw71 : k0_chk71 v551), ∀ a x, ((![v551] : Fin 1 → IVec S16 32) a x).toNat < S768.size a := fun v551 k0_hw71 => k0_hw71

def k0_chk72 (v554 : IVec S16 32) : Prop :=
  (∀ a x, ((![v554] : Fin 1 → IVec S16 32) a x).toNat < S768.size a)
theorem k0_idx72_inb : ∀ (v554 : IVec S16 32) (k0_hw72 : k0_chk72 v554), ∀ a x, ((![v554] : Fin 1 → IVec S16 32) a x).toNat < S768.size a := fun v554 k0_hw72 => k0_hw72

def k0_chk73 (v562 : IVec S16 32) : Prop :=
  (∀ a x, ((![v562] : Fin 1 → IVec S16 32) a x).toNat < S768.size a)
theorem k0_idx73_inb : ∀ (v562 : IVec S16 32) (k0_hw73 : k0_chk73 v562), ∀ a x, ((![v562] : Fin 1 → IVec S16 32) a x).toNat < S768.size a := fun v562 k0_hw73 => k0_hw73

def k0_chk74 (v565 : IVec S16 32) : Prop :=
  (∀ a x, ((![v565] : Fin 1 → IVec S16 32) a x).toNat < S768.size a)
theorem k0_idx74_inb : ∀ (v565 : IVec S16 32) (k0_hw74 : k0_chk74 v565), ∀ a x, ((![v565] : Fin 1 → IVec S16 32) a x).toNat < S768.size a := fun v565 k0_hw74 => k0_hw74

def k0_chk75 (v568 : IVec S16 32) : Prop :=
  (∀ a x, ((![v568] : Fin 1 → IVec S16 32) a x).toNat < S768.size a)
theorem k0_idx75_inb : ∀ (v568 : IVec S16 32) (k0_hw75 : k0_chk75 v568), ∀ a x, ((![v568] : Fin 1 → IVec S16 32) a x).toNat < S768.size a := fun v568 k0_hw75 => k0_hw75

def k0_chk76 (v576 : IVec S16 32) : Prop :=
  (∀ a x, ((![v576] : Fin 1 → IVec S16 32) a x).toNat < S768.size a)
theorem k0_idx76_inb : ∀ (v576 : IVec S16 32) (k0_hw76 : k0_chk76 v576), ∀ a x, ((![v576] : Fin 1 → IVec S16 32) a x).toNat < S768.size a := fun v576 k0_hw76 => k0_hw76

def k0_chk77 (v579 : IVec S16 32) : Prop :=
  (∀ a x, ((![v579] : Fin 1 → IVec S16 32) a x).toNat < S768.size a)
theorem k0_idx77_inb : ∀ (v579 : IVec S16 32) (k0_hw77 : k0_chk77 v579), ∀ a x, ((![v579] : Fin 1 → IVec S16 32) a x).toNat < S768.size a := fun v579 k0_hw77 => k0_hw77

def k0_chk78 (v582 : IVec S16 32) : Prop :=
  (∀ a x, ((![v582] : Fin 1 → IVec S16 32) a x).toNat < S768.size a)
theorem k0_idx78_inb : ∀ (v582 : IVec S16 32) (k0_hw78 : k0_chk78 v582), ∀ a x, ((![v582] : Fin 1 → IVec S16 32) a x).toNat < S768.size a := fun v582 k0_hw78 => k0_hw78

def k0_chk79 (v590 : IVec S16 32) : Prop :=
  (∀ a x, ((![v590] : Fin 1 → IVec S16 32) a x).toNat < S768.size a)
theorem k0_idx79_inb : ∀ (v590 : IVec S16 32) (k0_hw79 : k0_chk79 v590), ∀ a x, ((![v590] : Fin 1 → IVec S16 32) a x).toNat < S768.size a := fun v590 k0_hw79 => k0_hw79

def k0_chk80 (v593 : IVec S16 32) : Prop :=
  (∀ a x, ((![v593] : Fin 1 → IVec S16 32) a x).toNat < S768.size a)
theorem k0_idx80_inb : ∀ (v593 : IVec S16 32) (k0_hw80 : k0_chk80 v593), ∀ a x, ((![v593] : Fin 1 → IVec S16 32) a x).toNat < S768.size a := fun v593 k0_hw80 => k0_hw80

def k0_chk81 (v596 : IVec S16 32) : Prop :=
  (∀ a x, ((![v596] : Fin 1 → IVec S16 32) a x).toNat < S768.size a)
theorem k0_idx81_inb : ∀ (v596 : IVec S16 32) (k0_hw81 : k0_chk81 v596), ∀ a x, ((![v596] : Fin 1 → IVec S16 32) a x).toNat < S768.size a := fun v596 k0_hw81 => k0_hw81

def k0_chk82 (v604 : IVec S16 32) : Prop :=
  (∀ a x, ((![v604] : Fin 1 → IVec S16 32) a x).toNat < S768.size a)
theorem k0_idx82_inb : ∀ (v604 : IVec S16 32) (k0_hw82 : k0_chk82 v604), ∀ a x, ((![v604] : Fin 1 → IVec S16 32) a x).toNat < S768.size a := fun v604 k0_hw82 => k0_hw82

def k0_chk83 (v607 : IVec S16 32) : Prop :=
  (∀ a x, ((![v607] : Fin 1 → IVec S16 32) a x).toNat < S768.size a)
theorem k0_idx83_inb : ∀ (v607 : IVec S16 32) (k0_hw83 : k0_chk83 v607), ∀ a x, ((![v607] : Fin 1 → IVec S16 32) a x).toNat < S768.size a := fun v607 k0_hw83 => k0_hw83

def k0_chk84 (v610 : IVec S16 32) : Prop :=
  (∀ a x, ((![v610] : Fin 1 → IVec S16 32) a x).toNat < S768.size a)
theorem k0_idx84_inb : ∀ (v610 : IVec S16 32) (k0_hw84 : k0_chk84 v610), ∀ a x, ((![v610] : Fin 1 → IVec S16 32) a x).toNat < S768.size a := fun v610 k0_hw84 => k0_hw84

def k0_chk85 (v618 : IVec S16 32) : Prop :=
  (∀ a x, ((![v618] : Fin 1 → IVec S16 32) a x).toNat < S768.size a)
theorem k0_idx85_inb : ∀ (v618 : IVec S16 32) (k0_hw85 : k0_chk85 v618), ∀ a x, ((![v618] : Fin 1 → IVec S16 32) a x).toNat < S768.size a := fun v618 k0_hw85 => k0_hw85

def k0_chk86 (v621 : IVec S16 32) : Prop :=
  (∀ a x, ((![v621] : Fin 1 → IVec S16 32) a x).toNat < S768.size a)
theorem k0_idx86_inb : ∀ (v621 : IVec S16 32) (k0_hw86 : k0_chk86 v621), ∀ a x, ((![v621] : Fin 1 → IVec S16 32) a x).toNat < S768.size a := fun v621 k0_hw86 => k0_hw86

def k0_chk87 (v624 : IVec S16 32) : Prop :=
  (∀ a x, ((![v624] : Fin 1 → IVec S16 32) a x).toNat < S768.size a)
theorem k0_idx87_inb : ∀ (v624 : IVec S16 32) (k0_hw87 : k0_chk87 v624), ∀ a x, ((![v624] : Fin 1 → IVec S16 32) a x).toNat < S768.size a := fun v624 k0_hw87 => k0_hw87

def k0_chk88 (v632 : IVec S16 32) : Prop :=
  (∀ a x, ((![v632] : Fin 1 → IVec S16 32) a x).toNat < S768.size a)
theorem k0_idx88_inb : ∀ (v632 : IVec S16 32) (k0_hw88 : k0_chk88 v632), ∀ a x, ((![v632] : Fin 1 → IVec S16 32) a x).toNat < S768.size a := fun v632 k0_hw88 => k0_hw88

def k0_chk89 (v635 : IVec S16 32) : Prop :=
  (∀ a x, ((![v635] : Fin 1 → IVec S16 32) a x).toNat < S768.size a)
theorem k0_idx89_inb : ∀ (v635 : IVec S16 32) (k0_hw89 : k0_chk89 v635), ∀ a x, ((![v635] : Fin 1 → IVec S16 32) a x).toNat < S768.size a := fun v635 k0_hw89 => k0_hw89

def k0_chk90 (v638 : IVec S16 32) : Prop :=
  (∀ a x, ((![v638] : Fin 1 → IVec S16 32) a x).toNat < S768.size a)
theorem k0_idx90_inb : ∀ (v638 : IVec S16 32) (k0_hw90 : k0_chk90 v638), ∀ a x, ((![v638] : Fin 1 → IVec S16 32) a x).toNat < S768.size a := fun v638 k0_hw90 => k0_hw90

def k0_chk91 (v646 : IVec S16 32) : Prop :=
  (∀ a x, ((![v646] : Fin 1 → IVec S16 32) a x).toNat < S768.size a)
theorem k0_idx91_inb : ∀ (v646 : IVec S16 32) (k0_hw91 : k0_chk91 v646), ∀ a x, ((![v646] : Fin 1 → IVec S16 32) a x).toNat < S768.size a := fun v646 k0_hw91 => k0_hw91

def k0_chk92 (v649 : IVec S16 32) : Prop :=
  (∀ a x, ((![v649] : Fin 1 → IVec S16 32) a x).toNat < S768.size a)
theorem k0_idx92_inb : ∀ (v649 : IVec S16 32) (k0_hw92 : k0_chk92 v649), ∀ a x, ((![v649] : Fin 1 → IVec S16 32) a x).toNat < S768.size a := fun v649 k0_hw92 => k0_hw92

def k0_chk93 (v652 : IVec S16 32) : Prop :=
  (∀ a x, ((![v652] : Fin 1 → IVec S16 32) a x).toNat < S768.size a)
theorem k0_idx93_inb : ∀ (v652 : IVec S16 32) (k0_hw93 : k0_chk93 v652), ∀ a x, ((![v652] : Fin 1 → IVec S16 32) a x).toNat < S768.size a := fun v652 k0_hw93 => k0_hw93

def k0_chk94 (v660 : IVec S16 32) : Prop :=
  (∀ a x, ((![v660] : Fin 1 → IVec S16 32) a x).toNat < S768.size a)
theorem k0_idx94_inb : ∀ (v660 : IVec S16 32) (k0_hw94 : k0_chk94 v660), ∀ a x, ((![v660] : Fin 1 → IVec S16 32) a x).toNat < S768.size a := fun v660 k0_hw94 => k0_hw94

def k0_chk95 (v663 : IVec S16 32) : Prop :=
  (∀ a x, ((![v663] : Fin 1 → IVec S16 32) a x).toNat < S768.size a)
theorem k0_idx95_inb : ∀ (v663 : IVec S16 32) (k0_hw95 : k0_chk95 v663), ∀ a x, ((![v663] : Fin 1 → IVec S16 32) a x).toNat < S768.size a := fun v663 k0_hw95 => k0_hw95

def k0_chk96 (v666 : IVec S16 32) : Prop :=
  (∀ a x, ((![v666] : Fin 1 → IVec S16 32) a x).toNat < S768.size a)
theorem k0_idx96_inb : ∀ (v666 : IVec S16 32) (k0_hw96 : k0_chk96 v666), ∀ a x, ((![v666] : Fin 1 → IVec S16 32) a x).toNat < S768.size a := fun v666 k0_hw96 => k0_hw96

def k0_chk97 (v674 : IVec S16 32) : Prop :=
  (∀ a x, ((![v674] : Fin 1 → IVec S16 32) a x).toNat < S768.size a)
theorem k0_idx97_inb : ∀ (v674 : IVec S16 32) (k0_hw97 : k0_chk97 v674), ∀ a x, ((![v674] : Fin 1 → IVec S16 32) a x).toNat < S768.size a := fun v674 k0_hw97 => k0_hw97

def k0_chk98 (v677 : IVec S16 32) : Prop :=
  (∀ a x, ((![v677] : Fin 1 → IVec S16 32) a x).toNat < S768.size a)
theorem k0_idx98_inb : ∀ (v677 : IVec S16 32) (k0_hw98 : k0_chk98 v677), ∀ a x, ((![v677] : Fin 1 → IVec S16 32) a x).toNat < S768.size a := fun v677 k0_hw98 => k0_hw98

def k0_chk99 (v680 : IVec S16 32) : Prop :=
  (∀ a x, ((![v680] : Fin 1 → IVec S16 32) a x).toNat < S768.size a)
theorem k0_idx99_inb : ∀ (v680 : IVec S16 32) (k0_hw99 : k0_chk99 v680), ∀ a x, ((![v680] : Fin 1 → IVec S16 32) a x).toNat < S768.size a := fun v680 k0_hw99 => k0_hw99

def k0_chk100 (v688 : IVec S16 32) : Prop :=
  (∀ a x, ((![v688] : Fin 1 → IVec S16 32) a x).toNat < S768.size a)
theorem k0_idx100_inb : ∀ (v688 : IVec S16 32) (k0_hw100 : k0_chk100 v688), ∀ a x, ((![v688] : Fin 1 → IVec S16 32) a x).toNat < S768.size a := fun v688 k0_hw100 => k0_hw100

def k0_chk101 (v691 : IVec S16 32) : Prop :=
  (∀ a x, ((![v691] : Fin 1 → IVec S16 32) a x).toNat < S768.size a)
theorem k0_idx101_inb : ∀ (v691 : IVec S16 32) (k0_hw101 : k0_chk101 v691), ∀ a x, ((![v691] : Fin 1 → IVec S16 32) a x).toNat < S768.size a := fun v691 k0_hw101 => k0_hw101

def k0_chk102 (v694 : IVec S16 32) : Prop :=
  (∀ a x, ((![v694] : Fin 1 → IVec S16 32) a x).toNat < S768.size a)
theorem k0_idx102_inb : ∀ (v694 : IVec S16 32) (k0_hw102 : k0_chk102 v694), ∀ a x, ((![v694] : Fin 1 → IVec S16 32) a x).toNat < S768.size a := fun v694 k0_hw102 => k0_hw102

def k0_chk103 (v702 : IVec S16 32) : Prop :=
  (∀ a x, ((![v702] : Fin 1 → IVec S16 32) a x).toNat < S768.size a)
theorem k0_idx103_inb : ∀ (v702 : IVec S16 32) (k0_hw103 : k0_chk103 v702), ∀ a x, ((![v702] : Fin 1 → IVec S16 32) a x).toNat < S768.size a := fun v702 k0_hw103 => k0_hw103

def k0_chk104 (v705 : IVec S16 32) : Prop :=
  (∀ a x, ((![v705] : Fin 1 → IVec S16 32) a x).toNat < S768.size a)
theorem k0_idx104_inb : ∀ (v705 : IVec S16 32) (k0_hw104 : k0_chk104 v705), ∀ a x, ((![v705] : Fin 1 → IVec S16 32) a x).toNat < S768.size a := fun v705 k0_hw104 => k0_hw104

def k0_chk105 (v708 : IVec S16 32) : Prop :=
  (∀ a x, ((![v708] : Fin 1 → IVec S16 32) a x).toNat < S768.size a)
theorem k0_idx105_inb : ∀ (v708 : IVec S16 32) (k0_hw105 : k0_chk105 v708), ∀ a x, ((![v708] : Fin 1 → IVec S16 32) a x).toNat < S768.size a := fun v708 k0_hw105 => k0_hw105

def k0_chk106 (v716 : IVec S16 32) : Prop :=
  (∀ a x, ((![v716] : Fin 1 → IVec S16 32) a x).toNat < S768.size a)
theorem k0_idx106_inb : ∀ (v716 : IVec S16 32) (k0_hw106 : k0_chk106 v716), ∀ a x, ((![v716] : Fin 1 → IVec S16 32) a x).toNat < S768.size a := fun v716 k0_hw106 => k0_hw106

def k0_chk107 (v719 : IVec S16 32) : Prop :=
  (∀ a x, ((![v719] : Fin 1 → IVec S16 32) a x).toNat < S768.size a)
theorem k0_idx107_inb : ∀ (v719 : IVec S16 32) (k0_hw107 : k0_chk107 v719), ∀ a x, ((![v719] : Fin 1 → IVec S16 32) a x).toNat < S768.size a := fun v719 k0_hw107 => k0_hw107

def k0_chk108 (v722 : IVec S16 32) : Prop :=
  (∀ a x, ((![v722] : Fin 1 → IVec S16 32) a x).toNat < S768.size a)
theorem k0_idx108_inb : ∀ (v722 : IVec S16 32) (k0_hw108 : k0_chk108 v722), ∀ a x, ((![v722] : Fin 1 → IVec S16 32) a x).toNat < S768.size a := fun v722 k0_hw108 => k0_hw108

def k0_chk109 (v730 : IVec S16 32) : Prop :=
  (∀ a x, ((![v730] : Fin 1 → IVec S16 32) a x).toNat < S768.size a)
theorem k0_idx109_inb : ∀ (v730 : IVec S16 32) (k0_hw109 : k0_chk109 v730), ∀ a x, ((![v730] : Fin 1 → IVec S16 32) a x).toNat < S768.size a := fun v730 k0_hw109 => k0_hw109

def k0_chk110 (v733 : IVec S16 32) : Prop :=
  (∀ a x, ((![v733] : Fin 1 → IVec S16 32) a x).toNat < S768.size a)
theorem k0_idx110_inb : ∀ (v733 : IVec S16 32) (k0_hw110 : k0_chk110 v733), ∀ a x, ((![v733] : Fin 1 → IVec S16 32) a x).toNat < S768.size a := fun v733 k0_hw110 => k0_hw110

def k0_chk111 (v736 : IVec S16 32) : Prop :=
  (∀ a x, ((![v736] : Fin 1 → IVec S16 32) a x).toNat < S768.size a)
theorem k0_idx111_inb : ∀ (v736 : IVec S16 32) (k0_hw111 : k0_chk111 v736), ∀ a x, ((![v736] : Fin 1 → IVec S16 32) a x).toNat < S768.size a := fun v736 k0_hw111 => k0_hw111

def k0_chk112 (v744 : IVec S16 32) : Prop :=
  (∀ a x, ((![v744] : Fin 1 → IVec S16 32) a x).toNat < S768.size a)
theorem k0_idx112_inb : ∀ (v744 : IVec S16 32) (k0_hw112 : k0_chk112 v744), ∀ a x, ((![v744] : Fin 1 → IVec S16 32) a x).toNat < S768.size a := fun v744 k0_hw112 => k0_hw112

def k0_chk113 (v747 : IVec S16 32) : Prop :=
  (∀ a x, ((![v747] : Fin 1 → IVec S16 32) a x).toNat < S768.size a)
theorem k0_idx113_inb : ∀ (v747 : IVec S16 32) (k0_hw113 : k0_chk113 v747), ∀ a x, ((![v747] : Fin 1 → IVec S16 32) a x).toNat < S768.size a := fun v747 k0_hw113 => k0_hw113

def k0_chk114 (v750 : IVec S16 32) : Prop :=
  (∀ a x, ((![v750] : Fin 1 → IVec S16 32) a x).toNat < S768.size a)
theorem k0_idx114_inb : ∀ (v750 : IVec S16 32) (k0_hw114 : k0_chk114 v750), ∀ a x, ((![v750] : Fin 1 → IVec S16 32) a x).toNat < S768.size a := fun v750 k0_hw114 => k0_hw114
def k0_mult23 (k0_t3 : Fin k0_t3_loop.trips) : BitVec 32 :=
  let c0_i32_62 : BitVec 32 := 0#32
  let c1_i32_64 : BitVec 32 := 1#32
  let arg24 : BitVec 32 := Scf.iv c0_i32_62 c1_i32_64 k0_t3
  let c16_i32_75 : BitVec 32 := 16#32
  let v243 : BitVec 32 := Scalar.muli arg24 c16_i32_75
  let v244 : BitVec 32 := v243
  let c0_i32_121 : BitVec 32 := 0#32
  let v1037 : BitVec 32 := Scalar.addi v244 c0_i32_121
  let c16_i32_122 : BitVec 32 := 16#32
  let v1038 : BitVec 32 := Scalar.muli v1037 c16_i32_122
  v1038
def k0_off9 (k0_t3 : Fin k0_t3_loop.trips) (c0_i32_121 : BitVec 32) : Fin 1 → Nat :=
  let c0_i32_62 : BitVec 32 := 0#32
  let c1_i32_64 : BitVec 32 := 1#32
  let arg24 : BitVec 32 := Scf.iv c0_i32_62 c1_i32_64 k0_t3
  let c16_i32_75 : BitVec 32 := 16#32
  let v243 : BitVec 32 := Scalar.muli arg24 c16_i32_75
  let v244 : BitVec 32 := v243
  let v1037 : BitVec 32 := Scalar.addi v244 c0_i32_121
  let c16_i32_122 : BitVec 32 := 16#32
  let v1038 : BitVec 32 := Scalar.muli v1037 c16_i32_122
  let v1039 : BitVec 32 := v1038
  let v1040 : Index := Scalar.indexCast v1039
  ![v1040.toNat]
def k0_mult24 (k0_t3 : Fin k0_t3_loop.trips) : BitVec 32 :=
  let c0_i32_62 : BitVec 32 := 0#32
  let c1_i32_64 : BitVec 32 := 1#32
  let arg24 : BitVec 32 := Scf.iv c0_i32_62 c1_i32_64 k0_t3
  let c16_i32_75 : BitVec 32 := 16#32
  let v243 : BitVec 32 := Scalar.muli arg24 c16_i32_75
  let v244 : BitVec 32 := v243
  let c1_i32_123 : BitVec 32 := 1#32
  let v1044 : BitVec 32 := Scalar.addi v244 c1_i32_123
  let c16_i32_124 : BitVec 32 := 16#32
  let v1045 : BitVec 32 := Scalar.muli v1044 c16_i32_124
  v1045
def k0_mult25 (k0_t3 : Fin k0_t3_loop.trips) : BitVec 32 :=
  let c0_i32_62 : BitVec 32 := 0#32
  let c1_i32_64 : BitVec 32 := 1#32
  let arg24 : BitVec 32 := Scf.iv c0_i32_62 c1_i32_64 k0_t3
  let c16_i32_75 : BitVec 32 := 16#32
  let v243 : BitVec 32 := Scalar.muli arg24 c16_i32_75
  let v244 : BitVec 32 := v243
  let c2_i32_125 : BitVec 32 := 2#32
  let v1051 : BitVec 32 := Scalar.addi v244 c2_i32_125
  let c16_i32_126 : BitVec 32 := 16#32
  let v1052 : BitVec 32 := Scalar.muli v1051 c16_i32_126
  v1052
def k0_mult26 (k0_t3 : Fin k0_t3_loop.trips) : BitVec 32 :=
  let c0_i32_62 : BitVec 32 := 0#32
  let c1_i32_64 : BitVec 32 := 1#32
  let arg24 : BitVec 32 := Scf.iv c0_i32_62 c1_i32_64 k0_t3
  let c16_i32_75 : BitVec 32 := 16#32
  let v243 : BitVec 32 := Scalar.muli arg24 c16_i32_75
  let v244 : BitVec 32 := v243
  let c3_i32_127 : BitVec 32 := 3#32
  let v1058 : BitVec 32 := Scalar.addi v244 c3_i32_127
  let c16_i32_128 : BitVec 32 := 16#32
  let v1059 : BitVec 32 := Scalar.muli v1058 c16_i32_128
  v1059
def k0_mult27 (k0_t3 : Fin k0_t3_loop.trips) : BitVec 32 :=
  let c0_i32_62 : BitVec 32 := 0#32
  let c1_i32_64 : BitVec 32 := 1#32
  let arg24 : BitVec 32 := Scf.iv c0_i32_62 c1_i32_64 k0_t3
  let c16_i32_75 : BitVec 32 := 16#32
  let v243 : BitVec 32 := Scalar.muli arg24 c16_i32_75
  let v244 : BitVec 32 := v243
  let c4_i32_129 : BitVec 32 := 4#32
  let v1065 : BitVec 32 := Scalar.addi v244 c4_i32_129
  let c16_i32_130 : BitVec 32 := 16#32
  let v1066 : BitVec 32 := Scalar.muli v1065 c16_i32_130
  v1066
def k0_mult28 (k0_t3 : Fin k0_t3_loop.trips) : BitVec 32 :=
  let c0_i32_62 : BitVec 32 := 0#32
  let c1_i32_64 : BitVec 32 := 1#32
  let arg24 : BitVec 32 := Scf.iv c0_i32_62 c1_i32_64 k0_t3
  let c16_i32_75 : BitVec 32 := 16#32
  let v243 : BitVec 32 := Scalar.muli arg24 c16_i32_75
  let v244 : BitVec 32 := v243
  let c5_i32_131 : BitVec 32 := 5#32
  let v1072 : BitVec 32 := Scalar.addi v244 c5_i32_131
  let c16_i32_132 : BitVec 32 := 16#32
  let v1073 : BitVec 32 := Scalar.muli v1072 c16_i32_132
  v1073
def k0_mult29 (k0_t3 : Fin k0_t3_loop.trips) : BitVec 32 :=
  let c0_i32_62 : BitVec 32 := 0#32
  let c1_i32_64 : BitVec 32 := 1#32
  let arg24 : BitVec 32 := Scf.iv c0_i32_62 c1_i32_64 k0_t3
  let c16_i32_75 : BitVec 32 := 16#32
  let v243 : BitVec 32 := Scalar.muli arg24 c16_i32_75
  let v244 : BitVec 32 := v243
  let c6_i32_133 : BitVec 32 := 6#32
  let v1079 : BitVec 32 := Scalar.addi v244 c6_i32_133
  let c16_i32_134 : BitVec 32 := 16#32
  let v1080 : BitVec 32 := Scalar.muli v1079 c16_i32_134
  v1080
def k0_mult30 (k0_t3 : Fin k0_t3_loop.trips) : BitVec 32 :=
  let c0_i32_62 : BitVec 32 := 0#32
  let c1_i32_64 : BitVec 32 := 1#32
  let arg24 : BitVec 32 := Scf.iv c0_i32_62 c1_i32_64 k0_t3
  let c16_i32_75 : BitVec 32 := 16#32
  let v243 : BitVec 32 := Scalar.muli arg24 c16_i32_75
  let v244 : BitVec 32 := v243
  let c7_i32_135 : BitVec 32 := 7#32
  let v1086 : BitVec 32 := Scalar.addi v244 c7_i32_135
  let c16_i32_136 : BitVec 32 := 16#32
  let v1087 : BitVec 32 := Scalar.muli v1086 c16_i32_136
  v1087
def k0_mult31 (k0_t3 : Fin k0_t3_loop.trips) : BitVec 32 :=
  let c0_i32_62 : BitVec 32 := 0#32
  let c1_i32_64 : BitVec 32 := 1#32
  let arg24 : BitVec 32 := Scf.iv c0_i32_62 c1_i32_64 k0_t3
  let c16_i32_75 : BitVec 32 := 16#32
  let v243 : BitVec 32 := Scalar.muli arg24 c16_i32_75
  let v244 : BitVec 32 := v243
  let c8_i32_137 : BitVec 32 := 8#32
  let v1093 : BitVec 32 := Scalar.addi v244 c8_i32_137
  let c16_i32_138 : BitVec 32 := 16#32
  let v1094 : BitVec 32 := Scalar.muli v1093 c16_i32_138
  v1094
def k0_mult32 (k0_t3 : Fin k0_t3_loop.trips) : BitVec 32 :=
  let c0_i32_62 : BitVec 32 := 0#32
  let c1_i32_64 : BitVec 32 := 1#32
  let arg24 : BitVec 32 := Scf.iv c0_i32_62 c1_i32_64 k0_t3
  let c16_i32_75 : BitVec 32 := 16#32
  let v243 : BitVec 32 := Scalar.muli arg24 c16_i32_75
  let v244 : BitVec 32 := v243
  let c9_i32_139 : BitVec 32 := 9#32
  let v1100 : BitVec 32 := Scalar.addi v244 c9_i32_139
  let c16_i32_140 : BitVec 32 := 16#32
  let v1101 : BitVec 32 := Scalar.muli v1100 c16_i32_140
  v1101
def k0_mult33 (k0_t3 : Fin k0_t3_loop.trips) : BitVec 32 :=
  let c0_i32_62 : BitVec 32 := 0#32
  let c1_i32_64 : BitVec 32 := 1#32
  let arg24 : BitVec 32 := Scf.iv c0_i32_62 c1_i32_64 k0_t3
  let c16_i32_75 : BitVec 32 := 16#32
  let v243 : BitVec 32 := Scalar.muli arg24 c16_i32_75
  let v244 : BitVec 32 := v243
  let c10_i32_141 : BitVec 32 := 10#32
  let v1107 : BitVec 32 := Scalar.addi v244 c10_i32_141
  let c16_i32_142 : BitVec 32 := 16#32
  let v1108 : BitVec 32 := Scalar.muli v1107 c16_i32_142
  v1108
def k0_mult34 (k0_t3 : Fin k0_t3_loop.trips) : BitVec 32 :=
  let c0_i32_62 : BitVec 32 := 0#32
  let c1_i32_64 : BitVec 32 := 1#32
  let arg24 : BitVec 32 := Scf.iv c0_i32_62 c1_i32_64 k0_t3
  let c16_i32_75 : BitVec 32 := 16#32
  let v243 : BitVec 32 := Scalar.muli arg24 c16_i32_75
  let v244 : BitVec 32 := v243
  let c11_i32_143 : BitVec 32 := 11#32
  let v1114 : BitVec 32 := Scalar.addi v244 c11_i32_143
  let c16_i32_144 : BitVec 32 := 16#32
  let v1115 : BitVec 32 := Scalar.muli v1114 c16_i32_144
  v1115
def k0_mult35 (k0_t3 : Fin k0_t3_loop.trips) : BitVec 32 :=
  let c0_i32_62 : BitVec 32 := 0#32
  let c1_i32_64 : BitVec 32 := 1#32
  let arg24 : BitVec 32 := Scf.iv c0_i32_62 c1_i32_64 k0_t3
  let c16_i32_75 : BitVec 32 := 16#32
  let v243 : BitVec 32 := Scalar.muli arg24 c16_i32_75
  let v244 : BitVec 32 := v243
  let c12_i32_145 : BitVec 32 := 12#32
  let v1121 : BitVec 32 := Scalar.addi v244 c12_i32_145
  let c16_i32_146 : BitVec 32 := 16#32
  let v1122 : BitVec 32 := Scalar.muli v1121 c16_i32_146
  v1122
def k0_mult36 (k0_t3 : Fin k0_t3_loop.trips) : BitVec 32 :=
  let c0_i32_62 : BitVec 32 := 0#32
  let c1_i32_64 : BitVec 32 := 1#32
  let arg24 : BitVec 32 := Scf.iv c0_i32_62 c1_i32_64 k0_t3
  let c16_i32_75 : BitVec 32 := 16#32
  let v243 : BitVec 32 := Scalar.muli arg24 c16_i32_75
  let v244 : BitVec 32 := v243
  let c13_i32_147 : BitVec 32 := 13#32
  let v1128 : BitVec 32 := Scalar.addi v244 c13_i32_147
  let c16_i32_148 : BitVec 32 := 16#32
  let v1129 : BitVec 32 := Scalar.muli v1128 c16_i32_148
  v1129
def k0_mult37 (k0_t3 : Fin k0_t3_loop.trips) : BitVec 32 :=
  let c0_i32_62 : BitVec 32 := 0#32
  let c1_i32_64 : BitVec 32 := 1#32
  let arg24 : BitVec 32 := Scf.iv c0_i32_62 c1_i32_64 k0_t3
  let c16_i32_75 : BitVec 32 := 16#32
  let v243 : BitVec 32 := Scalar.muli arg24 c16_i32_75
  let v244 : BitVec 32 := v243
  let c14_i32_149 : BitVec 32 := 14#32
  let v1135 : BitVec 32 := Scalar.addi v244 c14_i32_149
  let c16_i32_150 : BitVec 32 := 16#32
  let v1136 : BitVec 32 := Scalar.muli v1135 c16_i32_150
  v1136
def k0_mult38 (k0_t3 : Fin k0_t3_loop.trips) : BitVec 32 :=
  let c0_i32_62 : BitVec 32 := 0#32
  let c1_i32_64 : BitVec 32 := 1#32
  let arg24 : BitVec 32 := Scf.iv c0_i32_62 c1_i32_64 k0_t3
  let c16_i32_75 : BitVec 32 := 16#32
  let v243 : BitVec 32 := Scalar.muli arg24 c16_i32_75
  let v244 : BitVec 32 := v243
  let c15_i32_151 : BitVec 32 := 15#32
  let v1142 : BitVec 32 := Scalar.addi v244 c15_i32_151
  let c16_i32_152 : BitVec 32 := 16#32
  let v1143 : BitVec 32 := Scalar.muli v1142 c16_i32_152
  v1143
def k0_mult39 (i : grid0.Coords) (k0_t1 : Fin k0_t1_loop.trips) : BitVec 32 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15648_i32_67 : BitVec 32 := 15648#32
  let v229 : BitVec 32 := Scalar.muli v1 c15648_i32_67
  let c2_i32_33 : BitVec 32 := 2#32
  let c0_i32_13 : BitVec 32 := 0#32
  let c1_i32_15 : BitVec 32 := 1#32
  let arg23 : BitVec 32 := Scf.iv c0_i32_13 c1_i32_15 k0_t1
  let v189 : BitVec 32 := Scalar.muli c2_i32_33 arg23
  let c1_i32_66 : BitVec 32 := 1#32
  let v228 : BitVec 32 := Scalar.addi v189 c1_i32_66
  let c2608_i32_68 : BitVec 32 := 2608#32
  let v230 : BitVec 32 := Scalar.muli v228 c2608_i32_68
  let v231 : BitVec 32 := Scalar.addi v229 v230
  let c497392_i32_69 : BitVec 32 := 497392#32
  let v232 : BitVec 32 := Scalar.minsi v231 c497392_i32_69
  v232
def k0_off10 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15648_i32_67 : BitVec 32 := 15648#32
  let v229 : BitVec 32 := Scalar.muli v1 c15648_i32_67
  let c2_i32_33 : BitVec 32 := 2#32
  let c0_i32_13 : BitVec 32 := 0#32
  let c1_i32_15 : BitVec 32 := 1#32
  let arg23 : BitVec 32 := Scf.iv c0_i32_13 c1_i32_15 k0_t1
  let v189 : BitVec 32 := Scalar.muli c2_i32_33 arg23
  let c1_i32_66 : BitVec 32 := 1#32
  let v228 : BitVec 32 := Scalar.addi v189 c1_i32_66
  let c2608_i32_68 : BitVec 32 := 2608#32
  let v230 : BitVec 32 := Scalar.muli v228 c2608_i32_68
  let v231 : BitVec 32 := Scalar.addi v229 v230
  let c497392_i32_69 : BitVec 32 := 497392#32
  let v232 : BitVec 32 := Scalar.minsi v231 c497392_i32_69
  let v233 : BitVec 32 := v232
  ![v233.toNat]
def k0_off11 (i : grid0.Coords) (k0_t1 : Fin k0_t1_loop.trips) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c15648_i32_67 : BitVec 32 := 15648#32
  let v229 : BitVec 32 := Scalar.muli v1 c15648_i32_67
  let c2_i32_33 : BitVec 32 := 2#32
  let c0_i32_13 : BitVec 32 := 0#32
  let c1_i32_15 : BitVec 32 := 1#32
  let arg23 : BitVec 32 := Scf.iv c0_i32_13 c1_i32_15 k0_t1
  let v189 : BitVec 32 := Scalar.muli c2_i32_33 arg23
  let c1_i32_66 : BitVec 32 := 1#32
  let v228 : BitVec 32 := Scalar.addi v189 c1_i32_66
  let c2608_i32_68 : BitVec 32 := 2608#32
  let v230 : BitVec 32 := Scalar.muli v228 c2608_i32_68
  let v231 : BitVec 32 := Scalar.addi v229 v230
  let c497392_i32_69 : BitVec 32 := 497392#32
  let v232 : BitVec 32 := Scalar.minsi v231 c497392_i32_69
  let v233 : BitVec 32 := v232
  let c16_i32_72 : BitVec 32 := 16#32
  let v238 : BitVec 32 := Scalar.muli v233 c16_i32_72
  ![v238.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S500000x3 : Shape := ⟨2, ![500000, 3]⟩
abbrev S16x3 : Shape := ⟨2, ![16, 3]⟩
abbrev S16 : Shape := ⟨1, ![16]⟩
abbrev S16x3x16 : Shape := ⟨3, ![16, 3, 16]⟩
abbrev S3x16 : Shape := ⟨2, ![3, 16]⟩
abbrev S500000x16 : Shape := ⟨2, ![500000, 16]⟩
abbrev S1x16 : Shape := ⟨2, ![1, 16]⟩
abbrev S500000x16x16 : Shape := ⟨3, ![500000, 16, 16]⟩
abbrev S_ : Shape := ⟨0, ![]⟩
abbrev S500000 : Shape := ⟨1, ![500000]⟩
abbrev S500000x1x1 : Shape := ⟨3, ![500000, 1, 1]⟩
abbrev S500000x1x16 : Shape := ⟨3, ![500000, 1, 16]⟩
abbrev S500000x1x16x1 : Shape := ⟨4, ![500000, 1, 16, 1]⟩
abbrev S1 : Shape := ⟨1, ![1]⟩
abbrev S1x1x1x1 : Shape := ⟨4, ![1, 1, 1, 1]⟩

abbrev nBuf : Space → Nat
  | .hbm => 42
  | .vmem => 0
  | .smem => 0
  | _ => 0

abbrev bufTy : (tb : Table) → Fin (tcTables nBuf tb) → BufTy
  | .hbm, ⟨0, _⟩ => ⟨S500000x3, .f32⟩
  | .hbm, ⟨1, _⟩ => ⟨S16x3, .f32⟩
  | .hbm, ⟨2, _⟩ => ⟨S16, .f32⟩
  | .hbm, ⟨3, _⟩ => ⟨S16x3x16, .f32⟩
  | .hbm, ⟨4, _⟩ => ⟨S3x16, .f32⟩
  | .hbm, ⟨5, _⟩ => ⟨S500000x16, .f32⟩
  | .hbm, ⟨6, _⟩ => ⟨S1x16, .f32⟩
  | .hbm, ⟨7, _⟩ => ⟨S500000x16, .f32⟩
  | .hbm, ⟨8, _⟩ => ⟨S500000x16, .f32⟩
  | .hbm, ⟨9, _⟩ => ⟨S500000x16x16, .f32⟩
  | .hbm, ⟨10, _⟩ => ⟨S_, .f32⟩
  | .hbm, ⟨11, _⟩ => ⟨S500000, .f32⟩
  | .hbm, ⟨12, _⟩ => ⟨S500000x16, .i32⟩
  | .hbm, ⟨13, _⟩ => ⟨S_, .f32⟩
  | .hbm, ⟨14, _⟩ => ⟨S_, .i32⟩
  | .hbm, ⟨15, _⟩ => ⟨S500000, .f32⟩
  | .hbm, ⟨16, _⟩ => ⟨S500000, .i32⟩
  | .hbm, ⟨17, _⟩ => ⟨S500000x1x1, .i32⟩
  | .hbm, ⟨18, _⟩ => ⟨S500000x1x16, .i32⟩
  | .hbm, ⟨19, _⟩ => ⟨S_, .i32⟩
  | .hbm, ⟨20, _⟩ => ⟨S500000x1x16, .i32⟩
  | .hbm, ⟨21, _⟩ => ⟨S500000x1x16, .i1⟩
  | .hbm, ⟨22, _⟩ => ⟨S_, .i32⟩
  | .hbm, ⟨23, _⟩ => ⟨S500000x1x16, .i32⟩
  | .hbm, ⟨24, _⟩ => ⟨S500000x1x16, .i32⟩
  | .hbm, ⟨25, _⟩ => ⟨S500000x1x16, .i32⟩
  | .hbm, ⟨26, _⟩ => ⟨S500000x1x16x1, .i32⟩
  | .hbm, ⟨27, _⟩ => ⟨S1, .i32⟩
  | .hbm, ⟨28, _⟩ => ⟨S_, .i32⟩
  | .hbm, ⟨29, _⟩ => ⟨S500000x1x16x1, .i32⟩
  | .hbm, ⟨30, _⟩ => ⟨S500000x1x16x1, .i1⟩
  | .hbm, ⟨31, _⟩ => ⟨S1x1x1x1, .i32⟩
  | .hbm, ⟨32, _⟩ => ⟨S500000x1x16x1, .i32⟩
  | .hbm, ⟨33, _⟩ => ⟨S500000x1x16x1, .i1⟩
  | .hbm, ⟨34, _⟩ => ⟨S500000x1x16x1, .i1⟩
  | .hbm, ⟨35, _⟩ => ⟨S_, .i1⟩
  | .hbm, ⟨36, _⟩ => ⟨S500000x1x16, .i1⟩
  | .hbm, ⟨37, _⟩ => ⟨S500000x1x16, .f32⟩
  | .hbm, ⟨38, _⟩ => ⟨S_, .f32⟩
  | .hbm, ⟨39, _⟩ => ⟨S500000x1x16, .f32⟩
  | .hbm, ⟨40, _⟩ => ⟨S500000x1x16, .f32⟩
  | .hbm, ⟨41, _⟩ => ⟨S500000x16, .f32⟩
  | _, _ => ⟨S500000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_call0_v0 : Ref sig .tc := ⟨.hbm, 12, rfl⟩
abbrev main_call0_cst : Ref sig .tc := ⟨.hbm, 13, rfl⟩
abbrev main_call0_c : Ref sig .tc := ⟨.hbm, 14, rfl⟩
abbrev main_call0_v1_0 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_call1_c : Ref sig .tc := ⟨.hbm, 19, rfl⟩
abbrev main_call1_v0 : Ref sig .tc := ⟨.hbm, 20, rfl⟩
abbrev main_call1_v1 : Ref sig .tc := ⟨.hbm, 21, rfl⟩
abbrev main_call1_c_0 : Ref sig .tc := ⟨.hbm, 22, rfl⟩
abbrev main_call1_v2 : Ref sig .tc := ⟨.hbm, 23, rfl⟩
abbrev main_call1_v3 : Ref sig .tc := ⟨.hbm, 24, rfl⟩
abbrev main_call1_v4 : Ref sig .tc := ⟨.hbm, 25, rfl⟩
abbrev main_call1_v5 : Ref sig .tc := ⟨.hbm, 26, rfl⟩
abbrev main_call1_c_1 : Ref sig .tc := ⟨.hbm, 27, rfl⟩
abbrev main_call1_c_2 : Ref sig .tc := ⟨.hbm, 28, rfl⟩
abbrev main_call1_v6 : Ref sig .tc := ⟨.hbm, 29, rfl⟩
abbrev main_call1_v7 : Ref sig .tc := ⟨.hbm, 30, rfl⟩
abbrev main_call1_v8 : Ref sig .tc := ⟨.hbm, 31, rfl⟩
abbrev main_call1_v9 : Ref sig .tc := ⟨.hbm, 32, rfl⟩
abbrev main_call1_v10 : Ref sig .tc := ⟨.hbm, 33, rfl⟩
abbrev main_call1_v11 : Ref sig .tc := ⟨.hbm, 34, rfl⟩
abbrev main_call1_c_3 : Ref sig .tc := ⟨.hbm, 35, rfl⟩
abbrev main_call1_v12 : Ref sig .tc := ⟨.hbm, 36, rfl⟩
abbrev main_call1_v13 : Ref sig .tc := ⟨.hbm, 37, rfl⟩
abbrev main_call1_cst : Ref sig .tc := ⟨.hbm, 38, rfl⟩
abbrev main_call1_v14 : Ref sig .tc := ⟨.hbm, 39, rfl⟩
abbrev main_v10 : Ref sig .tc := ⟨.hbm, 40, rfl⟩
abbrev main_v11 : Ref sig .tc := ⟨.hbm, 41, rfl⟩

abbrev nD : Nat := 1
abbrev τ : Topo := Topo.v7x

variable {F : FTy → Type} [FloatOps F]
-- ==== Proof.Value.lean ====
/-
  What the tile kernel computes, as functions of the arrays it reads. A group of sixteen points is
  a vector of sixteen lanes: the three coordinates, the running least distance over the sixteen
  planes with the plane that reached it, and one column of sixteen lanes per attribute. The four
  exchange stages turn the sixteen columns into sixteen rows, one row per point.
-/
module

public import proofs.«01_k».proof.Proof.Gen.KernelIdeal.Skeleton
public import Idealize.ShloMosaic.Lib.Pipeline.Value

@[expose] public section

noncomputable section

namespace Cert.Proof.Value

open Cert.KernelIdeal Cert.KernelIdeal.Gen
open Idealize.ShloMosaic

variable {F : FTy → Type} [FloatOps F]

/-! ## Reading a one-axis array at a number -/

/-- The place `n` of a one-axis array, counted round its length. -/
def ix (N : ℕ) [NeZero N] (n : ℕ) : (⟨1, ![N]⟩ : Shape).Idx :=
  fun a => ⟨n % N, by have h := Subsingleton.elim a 0; subst h; exact Nat.mod_lt _ (Nat.pos_of_ne_zero (NeZero.ne N))⟩

/-- The array's element at the number `n`. -/
def rd {N : ℕ} [NeZero N] {α : Type} (f : (⟨1, ![N]⟩ : Shape).Idx → α) (n : ℕ) : α := f (ix N n)

theorem ix_eq {N : ℕ} [NeZero N] (j : (⟨1, ![N]⟩ : Shape).Idx) {n : ℕ} (h : (j 0).val = n) : ix N n = j := by
  funext a
  have ha := Subsingleton.elim a 0
  subst ha
  apply Fin.ext
  show n % N = _
  rw [← h]
  exact Nat.mod_eq_of_lt (j 0).isLt

theorem rd_eq {N : ℕ} [NeZero N] {α : Type} (f : (⟨1, ![N]⟩ : Shape).Idx → α) (j : (⟨1, ![N]⟩ : Shape).Idx) {n : ℕ}
    (h : (j 0).val = n) : rd f n = f j := congrArg f (ix_eq j h)

theorem ix_val {N : ℕ} [NeZero N] {n : ℕ} (h : n < N) : (ix N n 0).val = n := Nat.mod_eq_of_lt h

/-! ## One group of sixteen points -/

/-- The coordinates `d` of the sixteen points of group `t`. -/
def xvec (X : (⟨1, ![8192]⟩ : Shape).Idx → F .f32) (t d : ℕ) : FVec F S16 .f32 :=
  fun i => rd X (48 * t + 3 * (i 0).val + d)

variable (W : ℕ → ℕ → F .f32) (B : ℕ → F .f32) (x0 x1 x2 : FVec F S16 .f32)

/-- The inner product of the points with plane `k`. -/
def pd (k : ℕ) : FVec F S16 .f32 :=
  addf (addf (mulf x0 (broadcast S16 (W k 0))) (mulf x1 (broadcast S16 (W k 1)))) (mulf x2 (broadcast S16 (W k 2)))

/-- The distance to plane `k`. -/
def dist (k : ℕ) : FVec F S16 .f32 := addf (pd W x0 x1 x2 k) (broadcast S16 (B k))

/-- The least distance among planes 0 … k. -/
def accM : ℕ → FVec F S16 .f32
  | 0 => dist W B x0 x1 x2 0
  | k + 1 => select (cmpf .olt (dist W B x0 x1 x2 (k + 1)) (accM k)) (dist W B x0 x1 x2 (k + 1)) (accM k)

/-- The first plane among 0 … k at that distance. -/
def accI : ℕ → IVec S16 32
  | 0 => broadcast S16 0#32
  | k + 1 => select (cmpf .olt (dist W B x0 x1 x2 (k + 1)) (accM W B x0 x1 x2 k)) (broadcast S16 (BitVec.ofNat 32 (k + 1))) (accI k)

theorem accI_lt (k : ℕ) (hk : k < 16) (i : S16.Idx) : (accI W B x0 x1 x2 k i).toNat < 16 := by
  induction k with
  | zero => show (0#32).toNat < 16; decide
  | succ k ih =>
    show (if _ then (BitVec.ofNat 32 (k + 1)) else accI W B x0 x1 x2 k i).toNat < 16
    split
    · rw [BitVec.toNat_ofNat]; omega
    · exact ih (by omega)

/-- The elements of a table `c` places past the numbers `v`. -/
def avec (A : (⟨1, ![768]⟩ : Shape).Idx → F .f32) (c : ℕ) (v : IVec S16 32) : FVec F S16 .f32 :=
  fun i => rd A (c + (v i).toNat)

/-- The first two terms of attribute `a`. -/
def cpart (A : (⟨1, ![768]⟩ : Shape).Idx → F .f32) (v : IVec S16 32) (a : ℕ) : FVec F S16 .f32 :=
  addf (mulf x0 (avec A (16 * a) v)) (mulf x1 (avec A (256 + 16 * a) v))

/-- Attribute `a` of the sixteen points, at the planes `v`. -/
def col (A : (⟨1, ![768]⟩ : Shape).Idx → F .f32) (v : IVec S16 32) (a : ℕ) : FVec F S16 .f32 :=
  addf (cpart x0 x1 A v a) (mulf x2 (avec A (512 + 16 * a) v))

/-! ## The exchange stages -/

abbrev V16 (F : FTy → Type) : Type := FVec F S16 .f32

def lo0 (m : IVec S16 1) (a b : V16 F) : V16 F :=
  select m a (concatenate S16 0 [⟨S1, extractStridedSlice S1 ![15] b slices_S16_o15_S1⟩, ⟨S15, extractStridedSlice S15 ![0] b slices_S16_o0_S15⟩] concatenates_S1_S15_S16_d0)
def hi0 (m : IVec S16 1) (a b : V16 F) : V16 F :=
  select m (concatenate S16 0 [⟨S15, extractStridedSlice S15 ![1] a slices_S16_o1_S15⟩, ⟨S1, extractStridedSlice S1 ![0] a slices_S16_o0_S1⟩] concatenates_S15_S1_S16_d0) b
def lo1 (m : IVec S16 1) (a b : V16 F) : V16 F :=
  select m a (concatenate S16 0 [⟨S2, extractStridedSlice S2 ![14] b slices_S16_o14_S2⟩, ⟨S14, extractStridedSlice S14 ![0] b slices_S16_o0_S14⟩] concatenates_S2_S14_S16_d0)
def hi1 (m : IVec S16 1) (a b : V16 F) : V16 F :=
  select m (concatenate S16 0 [⟨S14, extractStridedSlice S14 ![2] a slices_S16_o2_S14⟩, ⟨S2, extractStridedSlice S2 ![0] a slices_S16_o0_S2⟩] concatenates_S14_S2_S16_d0) b
def lo2 (m : IVec S16 1) (a b : V16 F) : V16 F :=
  select m a (concatenate S16 0 [⟨S4, extractStridedSlice S4 ![12] b slices_S16_o12_S4⟩, ⟨S12, extractStridedSlice S12 ![0] b slices_S16_o0_S12⟩] concatenates_S4_S12_S16_d0)
def hi2 (m : IVec S16 1) (a b : V16 F) : V16 F :=
  select m (concatenate S16 0 [⟨S12, extractStridedSlice S12 ![4] a slices_S16_o4_S12⟩, ⟨S4, extractStridedSlice S4 ![0] a slices_S16_o0_S4⟩] concatenates_S12_S4_S16_d0) b
def lo3 (m : IVec S16 1) (a b : V16 F) : V16 F :=
  select m a (concatenate S16 0 [⟨S8, extractStridedSlice S8 ![8] b slices_S16_o8_S8⟩, ⟨S8, extractStridedSlice S8 ![0] b slices_S16_o0_S8⟩] concatenates_S8_S8_S16_d0)
def hi3 (m : IVec S16 1) (a b : V16 F) : V16 F :=
  select m (concatenate S16 0 [⟨S8, extractStridedSlice S8 ![8] a slices_S16_o8_S8⟩, ⟨S8, extractStridedSlice S8 ![0] a slices_S16_o0_S8⟩] concatenates_S8_S8_S16_d0) b

/-- The lane numbers. -/
def lanes : IVec S16 32 := iota .scVector S16 32 [0] iota_S16_d0_w32_scVector

/-- Lanes whose number has bit 0, 1, 2, 3 clear. -/
def m0 : IVec S16 1 := k0_pay138 lanes
def m1 : IVec S16 1 := k0_pay156 lanes
def m2 : IVec S16 1 := k0_pay173 lanes
def m3 : IVec S16 1 := k0_pay191 lanes

variable (c : ℕ → V16 F)

def st0 (p : ℕ) : V16 F := if p % 2 = 0 then lo0 m0 (c p) (c (p + 1)) else hi0 m0 (c (p - 1)) (c p)
def st1 (p : ℕ) : V16 F := if p / 2 % 2 = 0 then lo1 m1 (st0 c p) (st0 c (p + 2)) else hi1 m1 (st0 c (p - 2)) (st0 c p)
def st2 (p : ℕ) : V16 F := if p / 4 % 2 = 0 then lo2 m2 (st1 c p) (st1 c (p + 4)) else hi2 m2 (st1 c (p - 4)) (st1 c p)
def st3 (p : ℕ) : V16 F := if p / 8 % 2 = 0 then lo3 m3 (st2 c p) (st2 c (p + 8)) else hi3 m3 (st2 c (p - 8)) (st2 c p)

/-- A lane of a vector by its number. -/
def ln (v : V16 F) (l : ℕ) : F .f32 := v (ix 16 l)

/-- A statement about the numbers below sixteen, one by one. -/
theorem lt16 {P : ℕ → Prop} (h0 : P 0) (h1 : P 1) (h2 : P 2) (h3 : P 3) (h4 : P 4) (h5 : P 5) (h6 : P 6) (h7 : P 7) (h8 : P 8) (h9 : P 9) (h10 : P 10) (h11 : P 11) (h12 : P 12) (h13 : P 13) (h14 : P 14) (h15 : P 15) :
    ∀ l, l < 16 → P l
  | 0, _ => h0
  | 1, _ => h1
  | 2, _ => h2
  | 3, _ => h3
  | 4, _ => h4
  | 5, _ => h5
  | 6, _ => h6
  | 7, _ => h7
  | 8, _ => h8
  | 9, _ => h9
  | 10, _ => h10
  | 11, _ => h11
  | 12, _ => h12
  | 13, _ => h13
  | 14, _ => h14
  | 15, _ => h15
  | n + 16, h => absurd h (by omega)

theorem cat_fst (n m : ℕ) (a : V16 F) (x : (⟨1, ![m]⟩ : Shape).Idx → F .f32) (off : ℕ)
    (hs : S16.Slices ![off] (⟨1, ![n]⟩ : Shape)) (hc : Shape.Concatenates [(⟨1, ![n]⟩ : Shape), ⟨1, ![m]⟩] S16 0)
    (l : ℕ) (hl : l < 16) (h : l < n) (h' : l + off < 16) :
    ln (concatenate S16 0 [⟨(⟨1, ![n]⟩ : Shape), extractStridedSlice _ ![off] a hs⟩, ⟨(⟨1, ![m]⟩ : Shape), x⟩] hc) l = ln a (l + off) := by
  refine (concatenate_pair_apply_left 0 _ _ hc (ix 16 l) rfl
    (fun b => ⟨l, by have hb := Subsingleton.elim b 0; subst hb; exact h⟩) fun b => ?_).trans ?_
  · have hb := Subsingleton.elim b 0
    subst hb
    exact (Nat.mod_eq_of_lt hl).symm
  · refine congrArg a (ix_eq _ ?_).symm
    exact Nat.add_comm _ _

theorem cat_snd (n m : ℕ) (b : V16 F) (x : (⟨1, ![n]⟩ : Shape).Idx → F .f32)
    (hs : S16.Slices ![0] (⟨1, ![m]⟩ : Shape)) (hc : Shape.Concatenates [(⟨1, ![n]⟩ : Shape), ⟨1, ![m]⟩] S16 0)
    (l : ℕ) (hl : l < 16) (h : n ≤ l) (h' : l - n < m) :
    ln (concatenate S16 0 [⟨(⟨1, ![n]⟩ : Shape), x⟩, ⟨(⟨1, ![m]⟩ : Shape), extractStridedSlice _ ![0] b hs⟩] hc) l = ln b (l - n) := by
  refine (concatenate_pair_apply_right 0 _ _ hc (ix 16 l) rfl rfl
    (fun b => ⟨l - n, by have hb := Subsingleton.elim b 0; subst hb; exact h'⟩) (fun b hb => ?_) ?_).trans ?_
  · exact absurd (Subsingleton.elim _ _) hb
  · show l - n + n = l % 16
    omega
  · refine congrArg b (ix_eq _ ?_).symm
    exact Nat.zero_add _

theorem m0_ln (l : ℕ) (h : l < 16) : m0 (ix 16 l) = if l / 1 % 2 = 0 then 1#1 else 0#1 :=
  lt16 (P := fun l => m0 (ix 16 l) = if l / 1 % 2 = 0 then 1#1 else 0#1)
    (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) l h
theorem m1_ln (l : ℕ) (h : l < 16) : m1 (ix 16 l) = if l / 2 % 2 = 0 then 1#1 else 0#1 :=
  lt16 (P := fun l => m1 (ix 16 l) = if l / 2 % 2 = 0 then 1#1 else 0#1)
    (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) l h
theorem m2_ln (l : ℕ) (h : l < 16) : m2 (ix 16 l) = if l / 4 % 2 = 0 then 1#1 else 0#1 :=
  lt16 (P := fun l => m2 (ix 16 l) = if l / 4 % 2 = 0 then 1#1 else 0#1)
    (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) l h
theorem m3_ln (l : ℕ) (h : l < 16) : m3 (ix 16 l) = if l / 8 % 2 = 0 then 1#1 else 0#1 :=
  lt16 (P := fun l => m3 (ix 16 l) = if l / 8 % 2 = 0 then 1#1 else 0#1)
    (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) l h

theorem lo0_ln (a b : V16 F) (l : ℕ) (h : l < 16) : ln (lo0 m0 a b) l = if l / 1 % 2 = 0 then ln a l else ln b (l - 1) := by
  unfold lo0 ln
  show (if m0 (ix 16 l) = 1#1 then _ else _) = _
  rw [m0_ln l h]
  by_cases hb : l / 1 % 2 = 0
  · rw [if_pos hb, if_pos hb]; rfl
  · rw [if_neg hb, if_neg hb]; exact cat_snd 1 15 b _ _ _ l h (by omega) (by omega)
theorem hi0_ln (a b : V16 F) (l : ℕ) (h : l < 16) : ln (hi0 m0 a b) l = if l / 1 % 2 = 0 then ln a (l + 1) else ln b l := by
  unfold hi0 ln
  show (if m0 (ix 16 l) = 1#1 then _ else _) = _
  rw [m0_ln l h]
  by_cases hb : l / 1 % 2 = 0
  · rw [if_pos hb, if_pos hb]; exact cat_fst 15 1 a _ 1 _ _ l h (by omega) (by omega)
  · rw [if_neg hb, if_neg hb]; rfl
theorem lo1_ln (a b : V16 F) (l : ℕ) (h : l < 16) : ln (lo1 m1 a b) l = if l / 2 % 2 = 0 then ln a l else ln b (l - 2) := by
  unfold lo1 ln
  show (if m1 (ix 16 l) = 1#1 then _ else _) = _
  rw [m1_ln l h]
  by_cases hb : l / 2 % 2 = 0
  · rw [if_pos hb, if_pos hb]; rfl
  · rw [if_neg hb, if_neg hb]; exact cat_snd 2 14 b _ _ _ l h (by omega) (by omega)
theorem hi1_ln (a b : V16 F) (l : ℕ) (h : l < 16) : ln (hi1 m1 a b) l = if l / 2 % 2 = 0 then ln a (l + 2) else ln b l := by
  unfold hi1 ln
  show (if m1 (ix 16 l) = 1#1 then _ else _) = _
  rw [m1_ln l h]
  by_cases hb : l / 2 % 2 = 0
  · rw [if_pos hb, if_pos hb]; exact cat_fst 14 2 a _ 2 _ _ l h (by omega) (by omega)
  · rw [if_neg hb, if_neg hb]; rfl
theorem lo2_ln (a b : V16 F) (l : ℕ) (h : l < 16) : ln (lo2 m2 a b) l = if l / 4 % 2 = 0 then ln a l else ln b (l - 4) := by
  unfold lo2 ln
  show (if m2 (ix 16 l) = 1#1 then _ else _) = _
  rw [m2_ln l h]
  by_cases hb : l / 4 % 2 = 0
  · rw [if_pos hb, if_pos hb]; rfl
  · rw [if_neg hb, if_neg hb]; exact cat_snd 4 12 b _ _ _ l h (by omega) (by omega)
theorem hi2_ln (a b : V16 F) (l : ℕ) (h : l < 16) : ln (hi2 m2 a b) l = if l / 4 % 2 = 0 then ln a (l + 4) else ln b l := by
  unfold hi2 ln
  show (if m2 (ix 16 l) = 1#1 then _ else _) = _
  rw [m2_ln l h]
  by_cases hb : l / 4 % 2 = 0
  · rw [if_pos hb, if_pos hb]; exact cat_fst 12 4 a _ 4 _ _ l h (by omega) (by omega)
  · rw [if_neg hb, if_neg hb]; rfl
theorem lo3_ln (a b : V16 F) (l : ℕ) (h : l < 16) : ln (lo3 m3 a b) l = if l / 8 % 2 = 0 then ln a l else ln b (l - 8) := by
  unfold lo3 ln
  show (if m3 (ix 16 l) = 1#1 then _ else _) = _
  rw [m3_ln l h]
  by_cases hb : l / 8 % 2 = 0
  · rw [if_pos hb, if_pos hb]; rfl
  · rw [if_neg hb, if_neg hb]; exact cat_snd 8 8 b _ _ _ l h (by omega) (by omega)
theorem hi3_ln (a b : V16 F) (l : ℕ) (h : l < 16) : ln (hi3 m3 a b) l = if l / 8 % 2 = 0 then ln a (l + 8) else ln b l := by
  unfold hi3 ln
  show (if m3 (ix 16 l) = 1#1 then _ else _) = _
  rw [m3_ln l h]
  by_cases hb : l / 8 % 2 = 0
  · rw [if_pos hb, if_pos hb]; exact cat_fst 8 8 a _ 8 _ _ l h (by omega) (by omega)
  · rw [if_neg hb, if_neg hb]; rfl

theorem st0_ln (p l : ℕ) (hl : l < 16) : ln (st0 c p) l = ln (c (p - p % 2 + l % 2)) (l - l % 2 + p % 2) := by
  unfold st0
  split
  · rw [lo0_ln _ _ _ hl]; split
    · exact congrArg₂ (fun a b => ln (c a) b) (by omega) (by omega)
    · exact congrArg₂ (fun a b => ln (c a) b) (by omega) (by omega)
  · rw [hi0_ln _ _ _ hl]; split
    · exact congrArg₂ (fun a b => ln (c a) b) (by omega) (by omega)
    · exact congrArg₂ (fun a b => ln (c a) b) (by omega) (by omega)

theorem st1_ln (p l : ℕ) (hp : p < 16) (hl : l < 16) : ln (st1 c p) l = ln (c (p - p % 4 + l % 4)) (l - l % 4 + p % 4) := by
  unfold st1
  split
  · rw [lo1_ln _ _ _ hl]; split
    · rw [st0_ln _ _ _ (by omega)]; exact congrArg₂ (fun a b => ln (c a) b) (by omega) (by omega)
    · rw [st0_ln _ _ _ (by omega)]; exact congrArg₂ (fun a b => ln (c a) b) (by omega) (by omega)
  · rw [hi1_ln _ _ _ hl]; split
    · rw [st0_ln _ _ _ (by omega)]; exact congrArg₂ (fun a b => ln (c a) b) (by omega) (by omega)
    · rw [st0_ln _ _ _ (by omega)]; exact congrArg₂ (fun a b => ln (c a) b) (by omega) (by omega)

theorem st2_ln (p l : ℕ) (hp : p < 16) (hl : l < 16) : ln (st2 c p) l = ln (c (p - p % 8 + l % 8)) (l - l % 8 + p % 8) := by
  unfold st2
  split
  · rw [lo2_ln _ _ _ hl]; split
    · rw [st1_ln _ _ _ (by omega) (by omega)]; exact congrArg₂ (fun a b => ln (c a) b) (by omega) (by omega)
    · rw [st1_ln _ _ _ (by omega) (by omega)]; exact congrArg₂ (fun a b => ln (c a) b) (by omega) (by omega)
  · rw [hi2_ln _ _ _ hl]; split
    · rw [st1_ln _ _ _ (by omega) (by omega)]; exact congrArg₂ (fun a b => ln (c a) b) (by omega) (by omega)
    · rw [st1_ln _ _ _ (by omega) (by omega)]; exact congrArg₂ (fun a b => ln (c a) b) (by omega) (by omega)

/-- After the four stages row `p` holds, in lane `l`, lane `p` of column `l`. -/
theorem st3_ln (p l : ℕ) (hp : p < 16) (hl : l < 16) : ln (st3 c p) l = ln (c l) p := by
  unfold st3
  split
  · rw [lo3_ln _ _ _ hl]; split
    · rw [st2_ln _ _ _ (by omega) (by omega)]; exact congrArg₂ (fun a b => ln (c a) b) (by omega) (by omega)
    · rw [st2_ln _ _ _ (by omega) (by omega)]; exact congrArg₂ (fun a b => ln (c a) b) (by omega) (by omega)
  · rw [hi3_ln _ _ _ hl]; split
    · rw [st2_ln _ _ _ (by omega) (by omega)]; exact congrArg₂ (fun a b => ln (c a) b) (by omega) (by omega)
    · rw [st2_ln _ _ _ (by omega) (by omega)]; exact congrArg₂ (fun a b => ln (c a) b) (by omega) (by omega)

/-! ## One point -/

/-- The least distance of one point to the sixteen planes. -/
def pmin (y0 y1 y2 : F .f32) : F .f32 :=
  accM W B (broadcast S16 y0) (broadcast S16 y1) (broadcast S16 y2) 15 (ix 16 0)

/-- The first plane at that distance. -/
def pidx (y0 y1 y2 : F .f32) : ℕ :=
  (accI W B (broadcast S16 y0) (broadcast S16 y1) (broadcast S16 y2) 15 (ix 16 0)).toNat

/-- Attribute `a` of one point, at that plane. -/
def psel (A : (⟨1, ![768]⟩ : Shape).Idx → F .f32) (y0 y1 y2 : F .f32) (a : ℕ) : F .f32 :=
  col (broadcast S16 y0) (broadcast S16 y1) (broadcast S16 y2) A
    (accI W B (broadcast S16 y0) (broadcast S16 y1) (broadcast S16 y2) 15) a (ix 16 0)

theorem dist_lane (k : ℕ) (i j : S16.Idx) :
    dist W B x0 x1 x2 k i = dist W B (broadcast S16 (x0 i)) (broadcast S16 (x1 i)) (broadcast S16 (x2 i)) k j := rfl

theorem accM_lane (k : ℕ) (i j : S16.Idx) :
    accM W B x0 x1 x2 k i = accM W B (broadcast S16 (x0 i)) (broadcast S16 (x1 i)) (broadcast S16 (x2 i)) k j := by
  induction k with
  | zero => rfl
  | succ k ih => simp only [accM, select, cmpf, dist_lane W B x0 x1 x2 _ i j, ih]

theorem accI_lane (k : ℕ) (i j : S16.Idx) :
    accI W B x0 x1 x2 k i = accI W B (broadcast S16 (x0 i)) (broadcast S16 (x1 i)) (broadcast S16 (x2 i)) k j := by
  induction k with
  | zero => rfl
  | succ k ih => simp only [accI, select, cmpf, dist_lane W B x0 x1 x2 _ i j, accM_lane W B x0 x1 x2 _ i j, ih, broadcast]

theorem pmin_lane (i : S16.Idx) : accM W B x0 x1 x2 15 i = pmin W B (x0 i) (x1 i) (x2 i) := accM_lane W B x0 x1 x2 15 i _

theorem psel_lane (A : (⟨1, ![768]⟩ : Shape).Idx → F .f32) (a : ℕ) (i : S16.Idx) :
    col x0 x1 x2 A (accI W B x0 x1 x2 15) a i = psel W B A (x0 i) (x1 i) (x2 i) a := by
  unfold psel col cpart avec
  simp only [addf, mulf, broadcast, accI_lane W B x0 x1 x2 15 i (ix 16 0)]

end Cert.Proof.Value
-- ==== Proof.Setup.lean ====
/-
  The program as the launch theorem sees it: its launch, the resources the proof keeps beside the
  machine's (the handshakes' rounds, the write-mode cells, the transfers' counters), and the arrays.
-/
module

public import proofs.«01_k».proof.Defs
public import proofs.«01_k».proof.Proof.Value
public import Idealize.ShloMosaic.Lib.SparseCore.Quiescent
public import Idealize.ShloMosaic.Lib.SparseCore.Ops
public import Idealize.ShloMosaic.Lib.StableHlo.Run
public import Idealize.ShloMosaic.Lib.WriteMode
public import Idealize.ShloMosaic.Lib.Transfers
public import Idealize.ShloMosaic.Lib.Writes
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Tile

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The resource algebra -/

abbrev UH : Type := URounds (GSem nD τ sig) ℕ
/-- The handshakes' rounds, the cells in write mode, the transfers' counters. -/
abbrev UU (F : FTy → Type) : Type := UH × (WmRA nD τ sig (Elt F) × Counters)

local notation "𝕄" => MT nD τ sig (HIx 1) (Elt F) ℕ (UU F) ℕ

/-- The handshakes' rounds: the left factor. -/
abbrev EH : Emb UH (MT nD τ sig (HIx 1) (Elt F) ℕ (UU F) ℕ) := embL

/-- The write-mode cells: the left of the right factor. -/
abbrev eWm : UEmb (WmRA nD τ sig (Elt F)) (UU F) := UEmb.inl.trans UEmb.inr

/-- The transfers' counters, found by instance. -/
abbrev EC : UEmb Counters (MT nD τ sig (HIx 1) (Elt F) ℕ (UU F) ℕ) := countersEmb

/-! ## A tile's thread -/

abbrev cV (L : grid0.Coords) : Fin τ.nSC := (L 0).castLE hcore0
abbrev jV (L : grid0.Coords) : Fin τ.nSub := (L 1).castLE hsub0
/-- The thread of the tile at the coordinates `L` of device `d`. -/
abbrev thr (d : Dev nD) (L : grid0.Coords) : Thread nD τ := V d (cV L) (jV L)

end Cert.Proof.Tile
-- ==== Proof.Gather.lean ====
/-
  The gathers of the tile kernel: the steps that read a scratch array at sixteen places, each part
  of a group's body with the vectors it computes named as in `Value`.
-/
module

public import proofs.«01_k».proof.Proof.Setup

@[expose] public section

set_option synthInstance.maxSize 4096

noncomputable section

namespace Cert.Proof.Tile

open Cert.KernelIdeal Cert.KernelIdeal.Gen Cert.Proof.Value

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ (UU F) ℕ

/-- A checked gather from a whole one-axis scratch: with the check true, the program goes on at the elements at the
    sixteen numbers. -/
theorem wp_take {N : ℕ} [NeZero N] {d : Dev nD} {L : grid0.Coords} {base : Memref sig .scVector .vmem (⟨1, ![N]⟩ : Shape) .f32}
    {v : IVec S16 32} {P : Prop} {dP : Decidable P} {H : P → ∀ a x, ((![v] : Fin 1 → IVec S16 32) a x).toNat < (⟨1, ![N]⟩ : Shape).size a}
    {hl : base.view.Loads} {α : Type} {k : PLift P → Vec F S16 .f32 → Prog (TpuEff nD τ sig (Elt F) Λ₀ (thr d L).2) α} {Q : α → sProp 𝕄}
    {q : PosShare TreeShare} {f : Buf (Elt F) (base.view.loc (thr d L))}
    (hP : P) (G : Vec F S16 .f32) (hG : ∀ i, G i = rd (base.view.read (Elt F) f) (v i).toNat) :
    (base.view.loc (thr d L) ↦{q} f)
      ⊢ iprop(((base.view.loc (thr d L) ↦{q} f) -∗ wp frame (wpE (defs₀ (F := F)) 𝒱₀ (thr d L) none) Set.univ (k ⟨hP⟩ G) Q)
        -∗ wp frame (wpE (defs₀ (F := F)) 𝒱₀ (thr d L) none) Set.univ
            (Prog.lift (TpuEff.assume P dP) >>= fun x => SparseCore.vectorLoadIdx base ![v] (H x.down) hl >>= k x) Q) := by
  have e : G = loadIdx ((base.access (.whole _)).read (Elt F) f) ![v] (H hP) := by
    funext i
    rw [hG]
    refine (rd_eq _ (fun a => ⟨(v i).toNat, by have ha := Subsingleton.elim a 0; subst ha; exact H hP 0 i⟩) rfl).trans ?_
    show _ = base.view.read (Elt F) f _
    refine congrArg _ ?_
    funext a
    apply Fin.ext
    have ha := Subsingleton.elim a 0
    subst ha
    show _ = 0 + 1 * _
    simp only [Nat.zero_add, Nat.one_mul]
    rfl
  subst e
  simp only [Prog.lift, Prog.bind_op, Prog.bind_ret]
  rw [wp_assume_of _ _ _ _ hP]
  exact SparseCore.wp_vectorLoadIdx 𝒱₀ (thr d L) none Set.univ (base := base) (Finset.subset_univ _)

/-! ## Numbers held in words -/

theorem ix_self (i : S16.Idx) : ix 16 (i 0).val = i := ix_eq i rfl

/-- A statement about the lanes, one by one. -/
theorem lane_all {P : S16.Idx → Prop} (h : ∀ l, l < 16 → P (ix 16 l)) (i : S16.Idx) : P i := ix_self i ▸ h (i 0).val (i 0).isLt

theorem addi_toNat (c : ℕ) (v : IVec S16 32) (n : ℕ) (i : S16.Idx) (h : (v i).toNat < n) (hc : c + n < 4294967296) :
    (addi (broadcast S16 (BitVec.ofNat 32 c)) v i).toNat = c + (v i).toNat := by
  show (BitVec.ofNat 32 c + v i).toNat = _
  rw [BitVec.toNat_add, BitVec.toNat_ofNat]
  omega

theorem chk768 (c : ℕ) (hc : c ≤ 752) (v : IVec S16 32) (h : ∀ i, (v i).toNat < 16) :
    ∀ a x, ((![addi (broadcast S16 (BitVec.ofNat 32 c)) v] : Fin 1 → IVec S16 32) a x).toNat < S768.size a := by
  intro a x
  have ha := Subsingleton.elim a 0
  subst ha
  show (addi (broadcast S16 (BitVec.ofNat 32 c)) v x).toNat < 768
  rw [addi_toNat c v 16 x (h x) (by omega)]
  have := h x
  omega

theorem avec_at (A : S768.Idx → F .f32) (c : ℕ) (hc : c ≤ 752) (v : IVec S16 32) (h : ∀ i, (v i).toNat < 16) (i : S16.Idx) :
    avec A c v i = rd A (addi (broadcast S16 (BitVec.ofNat 32 c)) v i).toNat := by
  rw [addi_toNat c v 16 i (h i) (by omega)]
  rfl

/-- The first point of group `t`, as the loop computes it. -/
def iv16 (t : ℕ) : BitVec 32 := Scalar.muli (Scf.iv 0#32 1#32 t) 16#32

theorem iv16_toNat (t : ℕ) (h : t < 163) : (iv16 t).toNat = 16 * t := by
  show ((0#32 + BitVec.ofNat 32 t * 1#32) * 16#32).toNat = _
  simp only [BitVec.toNat_mul, BitVec.toNat_add, BitVec.toNat_ofNat]
  omega

/-- The sixteen elements of the coordinates of group `t`, `o` past its first, at the places `v`. -/
def xpart (X : S8192.Idx → F .f32) (t o : ℕ) (v : IVec S16 32) : Vec F S16 .f32 := fun i => rd X (48 * t + o + (v i).toNat)

theorem x_toNat (t : ℕ) (ht : t < 163) (o : ℕ) (ho : o ≤ 32) (v : IVec S16 32) (h : ∀ i, (v i).toNat < 16) (i : S16.Idx) :
    (addi (broadcast S16 (Scalar.addi (Scalar.muli (iv16 t) 3#32) (BitVec.ofNat 32 o))) v i).toNat = 48 * t + o + (v i).toNat := by
  have e : Scalar.addi (Scalar.muli (iv16 t) 3#32) (BitVec.ofNat 32 o) = BitVec.ofNat 32 (48 * t + o) := by
    apply BitVec.eq_of_toNat_eq
    have := iv16_toNat t ht
    show (iv16 t * 3#32 + BitVec.ofNat 32 o).toNat = _
    simp only [BitVec.toNat_mul, BitVec.toNat_add, BitVec.toNat_ofNat, this]
    omega
  rw [e, addi_toNat _ v 16 i (h i) (by omega)]

theorem chk8192 (t : ℕ) (ht : t < 163) (o : ℕ) (ho : o ≤ 32) (v : IVec S16 32) (h : ∀ i, (v i).toNat < 16) :
    ∀ a x, ((![addi (broadcast S16 (Scalar.addi (Scalar.muli (iv16 t) 3#32) (BitVec.ofNat 32 o))) v] : Fin 1 → IVec S16 32) a x).toNat < S8192.size a := by
  intro a x
  have ha := Subsingleton.elim a 0
  subst ha
  show (addi (broadcast S16 (Scalar.addi (Scalar.muli (iv16 t) 3#32) (BitVec.ofNat 32 o))) v x).toNat < 8192
  rw [x_toNat t ht o ho v h x]
  have := h x
  omega

theorem xpart_at (X : S8192.Idx → F .f32) (t : ℕ) (ht : t < 163) (o : ℕ) (ho : o ≤ 32) (v : IVec S16 32) (h : ∀ i, (v i).toNat < 16) (i : S16.Idx) :
    xpart X t o v i = rd X (addi (broadcast S16 (Scalar.addi (Scalar.muli (iv16 t) 3#32) (BitVec.ofNat 32 o))) v i).toNat := by
  rw [x_toNat t ht o ho v h i]
  rfl

/-- Of the three sixteen-element windows, the one a lane's coordinate falls in. -/
theorem pick_xvec (X : S8192.Idx → F .f32) (t d : ℕ) (q v : IVec S16 32)
    (h : ∀ i, q i = 0#32 ∧ (v i).toNat = 3 * (i 0).val + d ∨ q i = 1#32 ∧ 16 + (v i).toNat = 3 * (i 0).val + d
      ∨ q i = 2#32 ∧ 32 + (v i).toNat = 3 * (i 0).val + d) :
    select (cmpi .eq q (broadcast S16 0#32)) (xpart X t 0 v) (select (cmpi .eq q (broadcast S16 1#32)) (xpart X t 16 v) (xpart X t 32 v))
      = xvec X t d := by
  funext i
  show (if BitVec.ofBool (q i == 0#32) = 1#1 then _ else if BitVec.ofBool (q i == 1#32) = 1#1 then _ else _) = _
  rcases h i with ⟨h1, h2⟩ | ⟨h1, h2⟩ | ⟨h1, h2⟩
  all_goals
    rw [h1]
    show rd X _ = rd X _
    exact congrArg _ (by omega)

theorem at0_lt (i : S16.Idx) : (k0_pay518 i).toNat < 16 :=
  lane_all (P := fun i => (k0_pay518 i).toNat < 16) (lt16 (P := fun l => (k0_pay518 (ix 16 l)).toNat < 16)
    (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) ) i

theorem pick0 (i : S16.Idx) : k0_pay519 i = 0#32 ∧ (k0_pay518 i).toNat = 3 * (i 0).val + 0 ∨ k0_pay519 i = 1#32 ∧ 16 + (k0_pay518 i).toNat = 3 * (i 0).val + 0
      ∨ k0_pay519 i = 2#32 ∧ 32 + (k0_pay518 i).toNat = 3 * (i 0).val + 0 :=
  lane_all (P := fun i => k0_pay519 i = 0#32 ∧ (k0_pay518 i).toNat = 3 * (i 0).val + 0 ∨ k0_pay519 i = 1#32 ∧ 16 + (k0_pay518 i).toNat = 3 * (i 0).val + 0
      ∨ k0_pay519 i = 2#32 ∧ 32 + (k0_pay518 i).toNat = 3 * (i 0).val + 0)
    (lt16 (P := fun l => k0_pay519 (ix 16 l) = 0#32 ∧ (k0_pay518 (ix 16 l)).toNat = 3 * (ix 16 l 0).val + 0 ∨ k0_pay519 (ix 16 l) = 1#32 ∧ 16 + (k0_pay518 (ix 16 l)).toNat = 3 * (ix 16 l 0).val + 0
      ∨ k0_pay519 (ix 16 l) = 2#32 ∧ 32 + (k0_pay518 (ix 16 l)).toNat = 3 * (ix 16 l 0).val + 0)
    (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) ) i

theorem at1_lt (i : S16.Idx) : (k0_pay521 i).toNat < 16 :=
  lane_all (P := fun i => (k0_pay521 i).toNat < 16) (lt16 (P := fun l => (k0_pay521 (ix 16 l)).toNat < 16)
    (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) ) i

theorem pick1 (i : S16.Idx) : k0_pay522 i = 0#32 ∧ (k0_pay521 i).toNat = 3 * (i 0).val + 1 ∨ k0_pay522 i = 1#32 ∧ 16 + (k0_pay521 i).toNat = 3 * (i 0).val + 1
      ∨ k0_pay522 i = 2#32 ∧ 32 + (k0_pay521 i).toNat = 3 * (i 0).val + 1 :=
  lane_all (P := fun i => k0_pay522 i = 0#32 ∧ (k0_pay521 i).toNat = 3 * (i 0).val + 1 ∨ k0_pay522 i = 1#32 ∧ 16 + (k0_pay521 i).toNat = 3 * (i 0).val + 1
      ∨ k0_pay522 i = 2#32 ∧ 32 + (k0_pay521 i).toNat = 3 * (i 0).val + 1)
    (lt16 (P := fun l => k0_pay522 (ix 16 l) = 0#32 ∧ (k0_pay521 (ix 16 l)).toNat = 3 * (ix 16 l 0).val + 1 ∨ k0_pay522 (ix 16 l) = 1#32 ∧ 16 + (k0_pay521 (ix 16 l)).toNat = 3 * (ix 16 l 0).val + 1
      ∨ k0_pay522 (ix 16 l) = 2#32 ∧ 32 + (k0_pay521 (ix 16 l)).toNat = 3 * (ix 16 l 0).val + 1)
    (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) ) i

theorem at2_lt (i : S16.Idx) : ((k0_pay525 k0_pay523 2#32) i).toNat < 16 :=
  lane_all (P := fun i => ((k0_pay525 k0_pay523 2#32) i).toNat < 16) (lt16 (P := fun l => ((k0_pay525 k0_pay523 2#32) (ix 16 l)).toNat < 16)
    (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) ) i

theorem pick2 (i : S16.Idx) : (k0_pay526 k0_pay523 2#32) i = 0#32 ∧ ((k0_pay525 k0_pay523 2#32) i).toNat = 3 * (i 0).val + 2 ∨ (k0_pay526 k0_pay523 2#32) i = 1#32 ∧ 16 + ((k0_pay525 k0_pay523 2#32) i).toNat = 3 * (i 0).val + 2
      ∨ (k0_pay526 k0_pay523 2#32) i = 2#32 ∧ 32 + ((k0_pay525 k0_pay523 2#32) i).toNat = 3 * (i 0).val + 2 :=
  lane_all (P := fun i => (k0_pay526 k0_pay523 2#32) i = 0#32 ∧ ((k0_pay525 k0_pay523 2#32) i).toNat = 3 * (i 0).val + 2 ∨ (k0_pay526 k0_pay523 2#32) i = 1#32 ∧ 16 + ((k0_pay525 k0_pay523 2#32) i).toNat = 3 * (i 0).val + 2
      ∨ (k0_pay526 k0_pay523 2#32) i = 2#32 ∧ 32 + ((k0_pay525 k0_pay523 2#32) i).toNat = 3 * (i 0).val + 2)
    (lt16 (P := fun l => (k0_pay526 k0_pay523 2#32) (ix 16 l) = 0#32 ∧ ((k0_pay525 k0_pay523 2#32) (ix 16 l)).toNat = 3 * (ix 16 l 0).val + 2 ∨ (k0_pay526 k0_pay523 2#32) (ix 16 l) = 1#32 ∧ 16 + ((k0_pay525 k0_pay523 2#32) (ix 16 l)).toNat = 3 * (ix 16 l 0).val + 2
      ∨ (k0_pay526 k0_pay523 2#32) (ix 16 l) = 2#32 ∧ 32 + ((k0_pay525 k0_pay523 2#32) (ix 16 l)).toNat = 3 * (ix 16 l 0).val + 2)
    (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) (by decide +kernel) ) i

/-! ## The parts of a group's body

The parts' parameters: the coordinates, the arrays and scratches, the semaphores. -/

variable (i : grid0.Coords) (arg2 : Memref sig .scVector .hbm S1500000 .f32) (harg2 : arg2.IsWhole) (arg3 : Memref sig .scVector .hbm S48 .f32) (harg3 : arg3.IsWhole) (arg4 : Memref sig .scVector .hbm S16 .f32) (harg4 : arg4.IsWhole) (arg5 : Memref sig .scVector .hbm S768 .f32) (harg5 : arg5.IsWhole) (arg6 : Memref sig .scVector .hbm S500000 .f32) (harg6 : arg6.IsWhole) (arg7 : Memref sig .scVector .hbm S8000000 .f32) (harg7 : arg7.IsWhole) (arg8 : Memref sig .scVector .vmem S48 .f32) (harg8 : arg8.IsWhole) (arg9 : Memref sig .scVector .vmem S16 .f32) (harg9 : arg9.IsWhole) (arg10 : Memref sig .scVector .vmem S768 .f32) (harg10 : arg10.IsWhole) (arg11 : Memref sig .scVector .vmem S8192 .f32) (harg11 : arg11.IsWhole) (arg12 : Memref sig .scVector .vmem S3072 .f32) (harg12 : arg12.IsWhole) (arg13 : Memref sig .scVector .vmem S41984 .f32) (harg13 : arg13.IsWhole) (arg14 : Memref sig .scVector .vmem S8192 .f32) (harg14 : arg14.IsWhole) (arg15 : Memref sig .scVector .vmem S3072 .f32) (harg15 : arg15.IsWhole) (arg16 : Memref sig .scVector .vmem S41984 .f32) (harg16 : arg16.IsWhole) (arg17 : DmaSems sig S_) (arg18 : DmaSems sig S_) (arg19 : DmaSems sig S_) (arg20 : DmaSems sig S_) (arg21 : DmaSems sig S_) (arg22 : DmaSems sig S_) (v189_r0 : DmaSems sig S_) (v189_r1 : DmaSems sig S_) (v189_r2 : DmaSems sig S_)
variable (d : Dev nD) (W : ℕ → ℕ → F .f32) (B : ℕ → F .f32)

theorem part1_wp {q : PosShare TreeShare} {X : S8192.Idx → F .f32} {f : Buf (Elt F) (arg11.view.loc (thr d i))} (hX : arg11.view.read (Elt F) f = X) (k0_t2 : Fin k0_t2_loop.trips) {Q : _ → sProp 𝕄} :
    (arg11.view.loc (thr d i) ↦{q} f)
      ⊢ iprop(((arg11.view.loc (thr d i) ↦{q} f) -∗ Q ⟨(iv16 k0_t2.val), (xvec X k0_t2.val 0), (xpart X k0_t2.val 0 k0_pay521), (xpart X k0_t2.val 16 k0_pay521), (xpart X k0_t2.val 32 k0_pay521)⟩)
        -∗ wp frame (wpE (defs₀ (F := F)) 𝒱₀ (thr d i) none) Set.univ (k0_part1 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 k0_pay518 k0_pay519 k0_pay521 0#32 1#32 k0_t2) Q) := by
  subst hX
  have ht : k0_t2.val < 163 := k0_t2.isLt
  rw [k0_part1_eq_skeleton]
  unfold k0_part1_skel
  dsimp only
  iintro Hx Hk
  iapply (wp_take (dP := _) (chk8192 k0_t2.val ht 0 (by decide) k0_pay518 at0_lt) (xpart (arg11.view.read (Elt F) f) k0_t2.val 0 k0_pay518) (xpart_at (arg11.view.read (Elt F) f) k0_t2.val ht 0 (by decide) k0_pay518 at0_lt)) $$ Hx
  iintro Hx
  iapply (wp_take (dP := _) (chk8192 k0_t2.val ht 16 (by decide) k0_pay518 at0_lt) (xpart (arg11.view.read (Elt F) f) k0_t2.val 16 k0_pay518) (xpart_at (arg11.view.read (Elt F) f) k0_t2.val ht 16 (by decide) k0_pay518 at0_lt)) $$ Hx
  iintro Hx
  iapply (wp_take (dP := _) (chk8192 k0_t2.val ht 32 (by decide) k0_pay518 at0_lt) (xpart (arg11.view.read (Elt F) f) k0_t2.val 32 k0_pay518) (xpart_at (arg11.view.read (Elt F) f) k0_t2.val ht 32 (by decide) k0_pay518 at0_lt)) $$ Hx
  iintro Hx
  iapply (wp_take (dP := _) (chk8192 k0_t2.val ht 0 (by decide) k0_pay521 at1_lt) (xpart (arg11.view.read (Elt F) f) k0_t2.val 0 k0_pay521) (xpart_at (arg11.view.read (Elt F) f) k0_t2.val ht 0 (by decide) k0_pay521 at1_lt)) $$ Hx
  iintro Hx
  iapply (wp_take (dP := _) (chk8192 k0_t2.val ht 16 (by decide) k0_pay521 at1_lt) (xpart (arg11.view.read (Elt F) f) k0_t2.val 16 k0_pay521) (xpart_at (arg11.view.read (Elt F) f) k0_t2.val ht 16 (by decide) k0_pay521 at1_lt)) $$ Hx
  iintro Hx
  iapply (wp_take (dP := _) (chk8192 k0_t2.val ht 32 (by decide) k0_pay521 at1_lt) (xpart (arg11.view.read (Elt F) f) k0_t2.val 32 k0_pay521) (xpart_at (arg11.view.read (Elt F) f) k0_t2.val ht 32 (by decide) k0_pay521 at1_lt)) $$ Hx
  iintro Hx
  rw [show k0_pay4 k0_pay519 (xpart _ k0_t2.val 0 k0_pay518) (xpart _ k0_t2.val 16 k0_pay518) (xpart _ k0_t2.val 32 k0_pay518) = _ from pick_xvec (F := F) _ k0_t2.val 0 k0_pay519 k0_pay518 pick0]
  dsimp only [iv16]
  rw [wp_pure]
  imodintro
  ihave HQ := Hk $$ Hx
  iexact HQ

theorem part2_wp {q : PosShare TreeShare} {X : S8192.Idx → F .f32} {f : Buf (Elt F) (arg11.view.loc (thr d i))} (hX : arg11.view.read (Elt F) f = X) (k0_t2 : Fin k0_t2_loop.trips) {Q : _ → sProp 𝕄} :
    (arg11.view.loc (thr d i) ↦{q} f)
      ⊢ iprop(((arg11.view.loc (thr d i) ↦{q} f) -∗ Q ⟨(xvec X k0_t2.val 1), (xvec X k0_t2.val 2), (dist W B (xvec X k0_t2.val 0) (xvec X k0_t2.val 1) (xvec X k0_t2.val 2) 0), (broadcast S16 0#32), (pd W (xvec X k0_t2.val 0) (xvec X k0_t2.val 1) (xvec X k0_t2.val 2) 1)⟩)
        -∗ wp frame (wpE (defs₀ (F := F)) 𝒱₀ (thr d i) none) Set.univ (k0_part2 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 (W 0 0) (W 0 1) (W 0 2) (W 1 0) (W 1 1) (W 1 2) (B 0) k0_pay522 (k0_pay525 k0_pay523 2#32) (k0_pay526 k0_pay523 2#32) (iv16 k0_t2.val) (xvec X k0_t2.val 0) (xpart X k0_t2.val 0 k0_pay521) (xpart X k0_t2.val 16 k0_pay521) (xpart X k0_t2.val 32 k0_pay521)) Q) := by
  subst hX
  have ht : k0_t2.val < 163 := k0_t2.isLt
  rw [k0_part2_eq_skeleton]
  unfold k0_part2_skel
  dsimp only
  iintro Hx Hk
  iapply (wp_take (dP := _) (chk8192 k0_t2.val ht 0 (by decide) (k0_pay525 k0_pay523 2#32) at2_lt) (xpart (arg11.view.read (Elt F) f) k0_t2.val 0 (k0_pay525 k0_pay523 2#32)) (xpart_at (arg11.view.read (Elt F) f) k0_t2.val ht 0 (by decide) (k0_pay525 k0_pay523 2#32) at2_lt)) $$ Hx
  iintro Hx
  iapply (wp_take (dP := _) (chk8192 k0_t2.val ht 16 (by decide) (k0_pay525 k0_pay523 2#32) at2_lt) (xpart (arg11.view.read (Elt F) f) k0_t2.val 16 (k0_pay525 k0_pay523 2#32)) (xpart_at (arg11.view.read (Elt F) f) k0_t2.val ht 16 (by decide) (k0_pay525 k0_pay523 2#32) at2_lt)) $$ Hx
  iintro Hx
  iapply (wp_take (dP := _) (chk8192 k0_t2.val ht 32 (by decide) (k0_pay525 k0_pay523 2#32) at2_lt) (xpart (arg11.view.read (Elt F) f) k0_t2.val 32 (k0_pay525 k0_pay523 2#32)) (xpart_at (arg11.view.read (Elt F) f) k0_t2.val ht 32 (by decide) (k0_pay525 k0_pay523 2#32) at2_lt)) $$ Hx
  iintro Hx
  have e1 : k0_pay8 k0_pay522 (xpart (arg11.view.read (Elt F) f) k0_t2.val 0 k0_pay521) (xpart (arg11.view.read (Elt F) f) k0_t2.val 16 k0_pay521) (xpart (arg11.view.read (Elt F) f) k0_t2.val 32 k0_pay521) = _ :=
    pick_xvec (F := F) _ k0_t2.val 1 k0_pay522 k0_pay521 pick1
  have e2 : k0_pay12 (k0_pay526 k0_pay523 2#32) (xpart (arg11.view.read (Elt F) f) k0_t2.val 0 (k0_pay525 k0_pay523 2#32)) (xpart (arg11.view.read (Elt F) f) k0_t2.val 16 (k0_pay525 k0_pay523 2#32)) (xpart (arg11.view.read (Elt F) f) k0_t2.val 32 (k0_pay525 k0_pay523 2#32)) = _ :=
    pick_xvec (F := F) _ k0_t2.val 2 (k0_pay526 k0_pay523 2#32) (k0_pay525 k0_pay523 2#32) pick2
  unfold k0_pay13 k0_pay14 k0_pay15
  rw [e1, e2]
  dsimp only [Value.dist, pd]
  rw [wp_pure]
  imodintro
  ihave HQ := Hk $$ Hx
  iexact HQ

variable (x0 x1 x2 : FVec F S16 .f32)

theorem part3_eq : k0_part3 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 (W 2 0) (W 2 1) (W 2 2) (W 3 0) (W 3 1) (W 3 2) (W 4 0) (W 4 1) (W 4 2) (W 5 0) (W 5 1) (W 5 2) (B 1) (B 2) (B 3) (B 4) x0 x1 x2 (dist W B x0 x1 x2 0) (broadcast S16 0#32) (pd W x0 x1 x2 1)
    = pure ⟨(accI W B x0 x1 x2 4), (accM W B x0 x1 x2 4), (pd W x0 x1 x2 5)⟩ := by
  rw [k0_part3_eq_skeleton]
  rfl

theorem part4_eq : k0_part4 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 (W 6 0) (W 6 1) (W 6 2) (W 7 0) (W 7 1) (W 7 2) (W 8 0) (W 8 1) (W 8 2) (W 9 0) (W 9 1) (W 9 2) (B 5) (B 6) (B 7) (B 8) x0 x1 x2 (accI W B x0 x1 x2 4) (accM W B x0 x1 x2 4) (pd W x0 x1 x2 5)
    = pure ⟨(accI W B x0 x1 x2 8), (accM W B x0 x1 x2 8), (pd W x0 x1 x2 9)⟩ := by
  rw [k0_part4_eq_skeleton]
  rfl

theorem part5_eq : k0_part5 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 (W 10 0) (W 10 1) (W 10 2) (W 11 0) (W 11 1) (W 11 2) (W 12 0) (W 12 1) (W 12 2) (W 13 0) (W 13 1) (W 13 2) (B 9) (B 10) (B 11) (B 12) x0 x1 x2 (accI W B x0 x1 x2 8) (accM W B x0 x1 x2 8) (pd W x0 x1 x2 9)
    = pure ⟨(accI W B x0 x1 x2 12), (accM W B x0 x1 x2 12), (pd W x0 x1 x2 13)⟩ := by
  rw [k0_part5_eq_skeleton]
  rfl

theorem part7_wp {q : PosShare TreeShare} {A : S768.Idx → F .f32} {f : Buf (Elt F) (arg10.view.loc (thr d i))} (hA : arg10.view.read (Elt F) f = A) (I : IVec S16 32) (hI : ∀ i, (I i).toNat < 16) {Q : _ → sProp 𝕄} :
    (arg10.view.loc (thr d i) ↦{q} f)
      ⊢ iprop(((arg10.view.loc (thr d i) ↦{q} f) -∗ Q ⟨(col x0 x1 x2 A I 0), (col x0 x1 x2 A I 1), (col x0 x1 x2 A I 2), (avec A 560 I), (cpart x0 x1 A I 3)⟩)
        -∗ wp frame (wpE (defs₀ (F := F)) 𝒱₀ (thr d i) none) Set.univ (k0_part7 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 x0 x1 x2 I (avec A 512 I) (cpart x0 x1 A I 0)) Q) := by
  subst hA
  rw [k0_part7_eq_skeleton]
  unfold k0_part7_skel
  dsimp only [k0_pay72, k0_pay76, k0_pay80, k0_pay84, col, cpart]
  iintro Hx Hk
  iapply (wp_take (dP := _) (chk768 16 (by decide) I hI) (avec (arg10.view.read (Elt F) f) 16 I) (avec_at (arg10.view.read (Elt F) f) 16 (by decide) I hI)) $$ Hx
  iintro Hx
  iapply (wp_take (dP := _) (chk768 272 (by decide) I hI) (avec (arg10.view.read (Elt F) f) 272 I) (avec_at (arg10.view.read (Elt F) f) 272 (by decide) I hI)) $$ Hx
  iintro Hx
  iapply (wp_take (dP := _) (chk768 528 (by decide) I hI) (avec (arg10.view.read (Elt F) f) 528 I) (avec_at (arg10.view.read (Elt F) f) 528 (by decide) I hI)) $$ Hx
  iintro Hx
  iapply (wp_take (dP := _) (chk768 32 (by decide) I hI) (avec (arg10.view.read (Elt F) f) 32 I) (avec_at (arg10.view.read (Elt F) f) 32 (by decide) I hI)) $$ Hx
  iintro Hx
  iapply (wp_take (dP := _) (chk768 288 (by decide) I hI) (avec (arg10.view.read (Elt F) f) 288 I) (avec_at (arg10.view.read (Elt F) f) 288 (by decide) I hI)) $$ Hx
  iintro Hx
  iapply (wp_take (dP := _) (chk768 544 (by decide) I hI) (avec (arg10.view.read (Elt F) f) 544 I) (avec_at (arg10.view.read (Elt F) f) 544 (by decide) I hI)) $$ Hx
  iintro Hx
  iapply (wp_take (dP := _) (chk768 48 (by decide) I hI) (avec (arg10.view.read (Elt F) f) 48 I) (avec_at (arg10.view.read (Elt F) f) 48 (by decide) I hI)) $$ Hx
  iintro Hx
  iapply (wp_take (dP := _) (chk768 304 (by decide) I hI) (avec (arg10.view.read (Elt F) f) 304 I) (avec_at (arg10.view.read (Elt F) f) 304 (by decide) I hI)) $$ Hx
  iintro Hx
  iapply (wp_take (dP := _) (chk768 560 (by decide) I hI) (avec (arg10.view.read (Elt F) f) 560 I) (avec_at (arg10.view.read (Elt F) f) 560 (by decide) I hI)) $$ Hx
  iintro Hx
  rw [wp_pure]
  imodintro
  ihave HQ := Hk $$ Hx
  iexact HQ

theorem part8_wp {q : PosShare TreeShare} {A : S768.Idx → F .f32} {f : Buf (Elt F) (arg10.view.loc (thr d i))} (hA : arg10.view.read (Elt F) f = A) (I : IVec S16 32) (hI : ∀ i, (I i).toNat < 16) {Q : _ → sProp 𝕄} :
    (arg10.view.loc (thr d i) ↦{q} f)
      ⊢ iprop(((arg10.view.loc (thr d i) ↦{q} f) -∗ Q ⟨(col x0 x1 x2 A I 3), (col x0 x1 x2 A I 4), (col x0 x1 x2 A I 5), (avec A 608 I), (cpart x0 x1 A I 6)⟩)
        -∗ wp frame (wpE (defs₀ (F := F)) 𝒱₀ (thr d i) none) Set.univ (k0_part8 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 x0 x1 x2 I (avec A 560 I) (cpart x0 x1 A I 3)) Q) := by
  subst hA
  rw [k0_part8_eq_skeleton]
  unfold k0_part8_skel
  dsimp only [k0_pay85, k0_pay89, k0_pay93, k0_pay97, col, cpart]
  iintro Hx Hk
  iapply (wp_take (dP := _) (chk768 64 (by decide) I hI) (avec (arg10.view.read (Elt F) f) 64 I) (avec_at (arg10.view.read (Elt F) f) 64 (by decide) I hI)) $$ Hx
  iintro Hx
  iapply (wp_take (dP := _) (chk768 320 (by decide) I hI) (avec (arg10.view.read (Elt F) f) 320 I) (avec_at (arg10.view.read (Elt F) f) 320 (by decide) I hI)) $$ Hx
  iintro Hx
  iapply (wp_take (dP := _) (chk768 576 (by decide) I hI) (avec (arg10.view.read (Elt F) f) 576 I) (avec_at (arg10.view.read (Elt F) f) 576 (by decide) I hI)) $$ Hx
  iintro Hx
  iapply (wp_take (dP := _) (chk768 80 (by decide) I hI) (avec (arg10.view.read (Elt F) f) 80 I) (avec_at (arg10.view.read (Elt F) f) 80 (by decide) I hI)) $$ Hx
  iintro Hx
  iapply (wp_take (dP := _) (chk768 336 (by decide) I hI) (avec (arg10.view.read (Elt F) f) 336 I) (avec_at (arg10.view.read (Elt F) f) 336 (by decide) I hI)) $$ Hx
  iintro Hx
  iapply (wp_take (dP := _) (chk768 592 (by decide) I hI) (avec (arg10.view.read (Elt F) f) 592 I) (avec_at (arg10.view.read (Elt F) f) 592 (by decide) I hI)) $$ Hx
  iintro Hx
  iapply (wp_take (dP := _) (chk768 96 (by decide) I hI) (avec (arg10.view.read (Elt F) f) 96 I) (avec_at (arg10.view.read (Elt F) f) 96 (by decide) I hI)) $$ Hx
  iintro Hx
  iapply (wp_take (dP := _) (chk768 352 (by decide) I hI) (avec (arg10.view.read (Elt F) f) 352 I) (avec_at (arg10.view.read (Elt F) f) 352 (by decide) I hI)) $$ Hx
  iintro Hx
  iapply (wp_take (dP := _) (chk768 608 (by decide) I hI) (avec (arg10.view.read (Elt F) f) 608 I) (avec_at (arg10.view.read (Elt F) f) 608 (by decide) I hI)) $$ Hx
  iintro Hx
  rw [wp_pure]
  imodintro
  ihave HQ := Hk $$ Hx
  iexact HQ

theorem part9_wp {q : PosShare TreeShare} {A : S768.Idx → F .f32} {f : Buf (Elt F) (arg10.view.loc (thr d i))} (hA : arg10.view.read (Elt F) f = A) (I : IVec S16 32) (hI : ∀ i, (I i).toNat < 16) {Q : _ → sProp 𝕄} :
    (arg10.view.loc (thr d i) ↦{q} f)
      ⊢ iprop(((arg10.view.loc (thr d i) ↦{q} f) -∗ Q ⟨(col x0 x1 x2 A I 6), (col x0 x1 x2 A I 7), (col x0 x1 x2 A I 8), (avec A 656 I), (cpart x0 x1 A I 9)⟩)
        -∗ wp frame (wpE (defs₀ (F := F)) 𝒱₀ (thr d i) none) Set.univ (k0_part9 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 x0 x1 x2 I (avec A 608 I) (cpart x0 x1 A I 6)) Q) := by
  subst hA
  rw [k0_part9_eq_skeleton]
  unfold k0_part9_skel
  dsimp only [k0_pay98, k0_pay102, k0_pay106, k0_pay110, col, cpart]
  iintro Hx Hk
  iapply (wp_take (dP := _) (chk768 112 (by decide) I hI) (avec (arg10.view.read (Elt F) f) 112 I) (avec_at (arg10.view.read (Elt F) f) 112 (by decide) I hI)) $$ Hx
  iintro Hx
  iapply (wp_take (dP := _) (chk768 368 (by decide) I hI) (avec (arg10.view.read (Elt F) f) 368 I) (avec_at (arg10.view.read (Elt F) f) 368 (by decide) I hI)) $$ Hx
  iintro Hx
  iapply (wp_take (dP := _) (chk768 624 (by decide) I hI) (avec (arg10.view.read (Elt F) f) 624 I) (avec_at (arg10.view.read (Elt F) f) 624 (by decide) I hI)) $$ Hx
  iintro Hx
  iapply (wp_take (dP := _) (chk768 128 (by decide) I hI) (avec (arg10.view.read (Elt F) f) 128 I) (avec_at (arg10.view.read (Elt F) f) 128 (by decide) I hI)) $$ Hx
  iintro Hx
  iapply (wp_take (dP := _) (chk768 384 (by decide) I hI) (avec (arg10.view.read (Elt F) f) 384 I) (avec_at (arg10.view.read (Elt F) f) 384 (by decide) I hI)) $$ Hx
  iintro Hx
  iapply (wp_take (dP := _) (chk768 640 (by decide) I hI) (avec (arg10.view.read (Elt F) f) 640 I) (avec_at (arg10.view.read (Elt F) f) 640 (by decide) I hI)) $$ Hx
  iintro Hx
  iapply (wp_take (dP := _) (chk768 144 (by decide) I hI) (avec (arg10.view.read (Elt F) f) 144 I) (avec_at (arg10.view.read (Elt F) f) 144 (by decide) I hI)) $$ Hx
  iintro Hx
  iapply (wp_take (dP := _) (chk768 400 (by decide) I hI) (avec (arg10.view.read (Elt F) f) 400 I) (avec_at (arg10.view.read (Elt F) f) 400 (by decide) I hI)) $$ Hx
  iintro Hx
  iapply (wp_take (dP := _) (chk768 656 (by decide) I hI) (avec (arg10.view.read (Elt F) f) 656 I) (avec_at (arg10.view.read (Elt F) f) 656 (by decide) I hI)) $$ Hx
  iintro Hx
  rw [wp_pure]
  imodintro
  ihave HQ := Hk $$ Hx
  iexact HQ

theorem part10_wp {q : PosShare TreeShare} {A : S768.Idx → F .f32} {f : Buf (Elt F) (arg10.view.loc (thr d i))} (hA : arg10.view.read (Elt F) f = A) (I : IVec S16 32) (hI : ∀ i, (I i).toNat < 16) {Q : _ → sProp 𝕄} :
    (arg10.view.loc (thr d i) ↦{q} f)
      ⊢ iprop(((arg10.view.loc (thr d i) ↦{q} f) -∗ Q ⟨(col x0 x1 x2 A I 9), (col x0 x1 x2 A I 10), (col x0 x1 x2 A I 11), (avec A 704 I), (cpart x0 x1 A I 12)⟩)
        -∗ wp frame (wpE (defs₀ (F := F)) 𝒱₀ (thr d i) none) Set.univ (k0_part10 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 x0 x1 x2 I (avec A 656 I) (cpart x0 x1 A I 9)) Q) := by
  subst hA
  rw [k0_part10_eq_skeleton]
  unfold k0_part10_skel
  dsimp only [k0_pay111, k0_pay115, k0_pay119, k0_pay123, col, cpart]
  iintro Hx Hk
  iapply (wp_take (dP := _) (chk768 160 (by decide) I hI) (avec (arg10.view.read (Elt F) f) 160 I) (avec_at (arg10.view.read (Elt F) f) 160 (by decide) I hI)) $$ Hx
  iintro Hx
  iapply (wp_take (dP := _) (chk768 416 (by decide) I hI) (avec (arg10.view.read (Elt F) f) 416 I) (avec_at (arg10.view.read (Elt F) f) 416 (by decide) I hI)) $$ Hx
  iintro Hx
  iapply (wp_take (dP := _) (chk768 672 (by decide) I hI) (avec (arg10.view.read (Elt F) f) 672 I) (avec_at (arg10.view.read (Elt F) f) 672 (by decide) I hI)) $$ Hx
  iintro Hx
  iapply (wp_take (dP := _) (chk768 176 (by decide) I hI) (avec (arg10.view.read (Elt F) f) 176 I) (avec_at (arg10.view.read (Elt F) f) 176 (by decide) I hI)) $$ Hx
  iintro Hx
  iapply (wp_take (dP := _) (chk768 432 (by decide) I hI) (avec (arg10.view.read (Elt F) f) 432 I) (avec_at (arg10.view.read (Elt F) f) 432 (by decide) I hI)) $$ Hx
  iintro Hx
  iapply (wp_take (dP := _) (chk768 688 (by decide) I hI) (avec (arg10.view.read (Elt F) f) 688 I) (avec_at (arg10.view.read (Elt F) f) 688 (by decide) I hI)) $$ Hx
  iintro Hx
  iapply (wp_take (dP := _) (chk768 192 (by decide) I hI) (avec (arg10.view.read (Elt F) f) 192 I) (avec_at (arg10.view.read (Elt F) f) 192 (by decide) I hI)) $$ Hx
  iintro Hx
  iapply (wp_take (dP := _) (chk768 448 (by decide) I hI) (avec (arg10.view.read (Elt F) f) 448 I) (avec_at (arg10.view.read (Elt F) f) 448 (by decide) I hI)) $$ Hx
  iintro Hx
  iapply (wp_take (dP := _) (chk768 704 (by decide) I hI) (avec (arg10.view.read (Elt F) f) 704 I) (avec_at (arg10.view.read (Elt F) f) 704 (by decide) I hI)) $$ Hx
  iintro Hx
  rw [wp_pure]
  imodintro
  ihave HQ := Hk $$ Hx
  iexact HQ

theorem part11_wp {q : PosShare TreeShare} {A : S768.Idx → F .f32} {f : Buf (Elt F) (arg10.view.loc (thr d i))} (hA : arg10.view.read (Elt F) f = A) (I : IVec S16 32) (hI : ∀ i, (I i).toNat < 16) {Q : _ → sProp 𝕄} :
    (arg10.view.loc (thr d i) ↦{q} f)
      ⊢ iprop(((arg10.view.loc (thr d i) ↦{q} f) -∗ Q ⟨(col x0 x1 x2 A I 12), (col x0 x1 x2 A I 13), (col x0 x1 x2 A I 14), (avec A 752 I), (cpart x0 x1 A I 15)⟩)
        -∗ wp frame (wpE (defs₀ (F := F)) 𝒱₀ (thr d i) none) Set.univ (k0_part11 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 x0 x1 x2 I (avec A 704 I) (cpart x0 x1 A I 12)) Q) := by
  subst hA
  rw [k0_part11_eq_skeleton]
  unfold k0_part11_skel
  dsimp only [k0_pay124, k0_pay128, k0_pay132, k0_pay136, col, cpart]
  iintro Hx Hk
  iapply (wp_take (dP := _) (chk768 208 (by decide) I hI) (avec (arg10.view.read (Elt F) f) 208 I) (avec_at (arg10.view.read (Elt F) f) 208 (by decide) I hI)) $$ Hx
  iintro Hx
  iapply (wp_take (dP := _) (chk768 464 (by decide) I hI) (avec (arg10.view.read (Elt F) f) 464 I) (avec_at (arg10.view.read (Elt F) f) 464 (by decide) I hI)) $$ Hx
  iintro Hx
  iapply (wp_take (dP := _) (chk768 720 (by decide) I hI) (avec (arg10.view.read (Elt F) f) 720 I) (avec_at (arg10.view.read (Elt F) f) 720 (by decide) I hI)) $$ Hx
  iintro Hx
  iapply (wp_take (dP := _) (chk768 224 (by decide) I hI) (avec (arg10.view.read (Elt F) f) 224 I) (avec_at (arg10.view.read (Elt F) f) 224 (by decide) I hI)) $$ Hx
  iintro Hx
  iapply (wp_take (dP := _) (chk768 480 (by decide) I hI) (avec (arg10.view.read (Elt F) f) 480 I) (avec_at (arg10.view.read (Elt F) f) 480 (by decide) I hI)) $$ Hx
  iintro Hx
  iapply (wp_take (dP := _) (chk768 736 (by decide) I hI) (avec (arg10.view.read (Elt F) f) 736 I) (avec_at (arg10.view.read (Elt F) f) 736 (by decide) I hI)) $$ Hx
  iintro Hx
  iapply (wp_take (dP := _) (chk768 240 (by decide) I hI) (avec (arg10.view.read (Elt F) f) 240 I) (avec_at (arg10.view.read (Elt F) f) 240 (by decide) I hI)) $$ Hx
  iintro Hx
  iapply (wp_take (dP := _) (chk768 496 (by decide) I hI) (avec (arg10.view.read (Elt F) f) 496 I) (avec_at (arg10.view.read (Elt F) f) 496 (by decide) I hI)) $$ Hx
  iintro Hx
  iapply (wp_take (dP := _) (chk768 752 (by decide) I hI) (avec (arg10.view.read (Elt F) f) 752 I) (avec_at (arg10.view.read (Elt F) f) 752 (by decide) I hI)) $$ Hx
  iintro Hx
  rw [wp_pure]
  imodintro
  ihave HQ := Hk $$ Hx
  iexact HQ

variable (c : ℕ → V16 F)

theorem part12_eq (A : S768.Idx → F .f32) (I : IVec S16 32) (hc : c = col x0 x1 x2 A I) : k0_part12 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 lanes x2 (c 0) (c 1) (c 2) (c 3) (c 4) (c 5) (c 6) (c 7) (c 8) (c 9) (c 10) (c 11) (c 13) (avec A 752 I) (cpart x0 x1 A I 15)
    = pure ⟨(c 15), m0, (st0 c 0), (st0 c 1), (st0 c 2), (st0 c 3), (st0 c 4), (st0 c 5), (st0 c 6), (st0 c 7), (st0 c 8), (st0 c 9), (st0 c 10), (st0 c 11), (k0_pay151 (c 13))⟩ := by
  rw [k0_part12_eq_skeleton]
  subst hc
  rfl

theorem part13_eq : k0_part13 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 lanes (c 12) (c 13) (c 14) (c 15) m0 (st0 c 0) (st0 c 1) (st0 c 2) (st0 c 3) (st0 c 4) (st0 c 5) (st0 c 6) (st0 c 7) (st0 c 8) (st0 c 10) (k0_pay151 (c 13))
    = pure ⟨(st0 c 12), (st0 c 13), (st0 c 14), (st0 c 15), m1, (st1 c 0), (st1 c 2), (st1 c 1), (st1 c 3), (st1 c 4), (st1 c 6), (st1 c 5), (st1 c 7), (st1 c 8)⟩ := by
  rw [k0_part13_eq_skeleton]
  rfl

theorem part14_eq : k0_part14 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 lanes (st0 c 8) (st0 c 9) (st0 c 10) (st0 c 11) (st0 c 12) (st0 c 13) (st0 c 14) (st0 c 15) m1 (st1 c 0) (st1 c 2) (st1 c 1) (st1 c 4) (st1 c 6) (st1 c 5)
    = pure ⟨(st1 c 10), (st1 c 9), (st1 c 11), (st1 c 12), (st1 c 14), (st1 c 13), (st1 c 15), m2, (st2 c 0), (st2 c 4), (st2 c 1), (st2 c 5), (st2 c 2), (k0_pay179 (st1 c 2))⟩ := by
  rw [k0_part14_eq_skeleton]
  rfl

theorem part15_eq : k0_part15 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 lanes (st1 c 3) (st1 c 6) (st1 c 7) (st1 c 8) (st1 c 10) (st1 c 9) (st1 c 11) (st1 c 12) (st1 c 14) (st1 c 13) (st1 c 15) m2 (st2 c 0) (k0_pay179 (st1 c 2))
    = pure ⟨(st2 c 6), (st2 c 3), (st2 c 7), (st2 c 12), (st2 c 9), (st2 c 13), (st2 c 10), (st2 c 14), (st2 c 11), (st2 c 15), m3, (st3 c 0), (st3 c 8), (k0_pay194 (st1 c 9) (st1 c 13) m2), (k0_pay195 (st1 c 9) (st1 c 13) m2)⟩ := by
  rw [k0_part15_eq_skeleton]
  rfl

theorem part16_eq (k0_t2 : Fin k0_t2_loop.trips) : k0_part16 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 (iv16 k0_t2.val) (st2 c 4) (st2 c 1) (st2 c 5) (st2 c 2) (st2 c 6) (st2 c 3) (st2 c 7) (st2 c 12) (st2 c 9) (st2 c 13) (st2 c 10) (st2 c 14) (st2 c 11) (st2 c 15) m3 (k0_pay194 (st1 c 9) (st1 c 13) m2) (k0_pay195 (st1 c 9) (st1 c 13) m2)
    = pure ⟨(st3 c 1), (st3 c 9), (st3 c 2), (st3 c 10), (st3 c 3), (st3 c 11), (st3 c 4), (st3 c 12), (st3 c 5), (st3 c 13), (st3 c 6), (st3 c 14), (st3 c 7), (st3 c 15)⟩ := by
  rw [k0_part16_eq_skeleton]
  rfl

end Cert.Proof.Tile
-- ==== Proof.Group.lean ====
/-
  One group of sixteen points: its distances and its sixteen rows are stored into the two result
  scratches, each of which fills from the front.
-/
module

public import proofs.«01_k».proof.Proof.Gather
public import Idealize.ShloMosaic.Lib.WritesUnit

@[expose] public section

set_option synthInstance.maxSize 4096

noncomputable section

namespace Cert.Proof.Tile

open Cert.KernelIdeal Cert.KernelIdeal.Gen Cert.Proof.Value

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ (UU F) ℕ

/-! ## A scratch that fills from the front -/

/-- The scratch `m` held outright, its first `n` elements those of `g`. -/
def filled (d : Dev nD) (i : grid0.Coords) {N : ℕ} [NeZero N] (m : Memref sig .scVector .vmem (⟨1, ![N]⟩ : Shape) .f32) (g : ℕ → F .f32) (n : ℕ) : sProp 𝕄 :=
  iprop(∃ f : Buf (Elt F) (m.view.loc (thr d i)), ⌜∀ j, j < n → rd (α := F .f32) (m.view.read (Elt F) f) j = g j⌝ ∗ m.view.loc (thr d i) ↦{fullShare} f)

theorem filled_congr {d : Dev nD} {i : grid0.Coords} {N : ℕ} [NeZero N] {m : Memref sig .scVector .vmem (⟨1, ![N]⟩ : Shape) .f32} {g : ℕ → F .f32} {n n' : ℕ}
    (h : n = n') : (filled d i m g n : sProp 𝕄) ⊢ filled d i m g n' := by
  subst h
  exact .rfl

/-- What a scratch reads after sixteen elements are stored at the place `n`, if its first `n` were those of `g` and the sixteen go on with `g`. -/
theorem read_put {N : ℕ} [NeZero N] {m : Memref sig .scVector .vmem (⟨1, ![N]⟩ : Shape) .f32} {g : ℕ → F .f32} {n : ℕ}
    {off : Fin 1 → ℕ} {inb : ∀ a, off a + S16.size a ≤ (⟨1, ![N]⟩ : Shape).size a} {w : Vec F S16 .f32} {f : m.view.ty.Contents (Elt F)}
    (hoff : off = ![n]) (hw : ∀ l, l < 16 → ln w l = g (n + l)) (hf : ∀ j, j < n → rd (α := F .f32) (m.view.read (Elt F) f) j = g j) :
    ∀ j, j < n + 16 → rd (α := F .f32) (m.view.read (Elt F) (m.view.writes (Elt F) f [⟨Rect.unit (s := (⟨1, ![N]⟩ : Shape)) off S16.size inb, w⟩])) j = g j := by
  intro j hj
  have hN : n + 16 ≤ N := by subst hoff; exact inb 0
  have hjN : (ix N j 0).val = j := ix_val (by omega)
  by_cases h : j < n
  · refine Eq.trans ?_ (hf j h)
    exact View.read_writes_cons_unit_of_not_mem m.view f inb w [] (ix N j) hoff 0 (Or.inl (by rw [hjN]; exact h))
  · have hl : j - n < 16 := by omega
    have e := View.read_writes_cons_unit_of_mem m.view f inb w [] (ix N j) (ix 16 (j - n)) hoff (fun a => by
      have ha := Subsingleton.elim a 0
      subst ha
      rw [hjN, ix_val hl]
      show j = n + (j - n)
      omega)
    refine e.trans ((hw (j - n) hl).trans (congrArg g ?_))
    omega

/-- Sixteen elements stored at the place `n` (where sixteen were read before, of no use) extend the filled part by sixteen. -/
theorem wp_put {d : Dev nD} {i : grid0.Coords} {N : ℕ} [NeZero N] {m : Memref sig .scVector .vmem (⟨1, ![N]⟩ : Shape) .f32} {g : ℕ → F .f32} {n : ℕ}
    {off : Fin 1 → ℕ} {inb : ∀ a, off a + S16.size a ≤ (⟨1, ![N]⟩ : Shape).size a} {w : Vec F S16 .f32}
    {hl : m.view.LoadsAt (Rect.unit (s := (⟨1, ![N]⟩ : Shape)) off S16.size inb).toLoadRect} {hx : (m.access (Rect.unit (s := (⟨1, ![N]⟩ : Shape)) off S16.size inb)).Stores Finset.univ}
    {α : Type} {k : PUnit → Prog (TpuEff nD τ sig (Elt F) Λ₀ (thr d i).2) α} {Q : α → sProp 𝕄}
    (hoff : off = ![n]) (hw : ∀ l, l < 16 → ln w l = g (n + l)) :
    (filled d i m g n : sProp 𝕄)
      ⊢ iprop((filled d i m g (n + 16) -∗ wp frame (wpE (defs₀ (F := F)) 𝒱₀ (thr d i) none) Set.univ (k ⟨⟩) Q)
        -∗ wp frame (wpE (defs₀ (F := F)) 𝒱₀ (thr d i) none) Set.univ
            (Prog.lift (TpuEff.load m (Rect.unit (s := (⟨1, ![N]⟩ : Shape)) off S16.size inb).toLoadRect hl)
              >>= fun _ => Prog.lift (TpuEff.store m (Rect.unit (s := (⟨1, ![N]⟩ : Shape)) off S16.size inb) w Finset.univ hx (.inl rfl)) >>= k) Q) := by
  unfold filled
  simp only [Prog.lift, Prog.bind_op, Prog.bind_ret]
  iintro ⟨%f, %hf, H⟩ Hk
  iapply (wp_load 𝒱₀ (thr d i) none Set.univ (m := m) (S := Finset.univ) (Finset.subset_univ _)) $$ H
  iintro H
  iapply (wp_store_writes₀ 𝒱₀ (thr d i) none Set.univ (m := m) (r := Rect.unit (s := (⟨1, ![N]⟩ : Shape)) off S16.size inb) (w := w) (hx := hx)
    (hm := .inl rfl) (k := k) (Q := Q) (f := f) (S := Finset.univ) (Finset.subset_univ _)) $$ H
  iintro H
  iapply Hk
  iexists m.view.writes (Elt F) f [⟨Rect.unit (s := (⟨1, ![N]⟩ : Shape)) off S16.size inb, w⟩]
  isplitr
  · ipureintro
    exact read_put hoff hw hf
  · iexact H

/-! ## The two results of a point, from the scratches' contents -/

/-- The distance of point `n` of a chunk with the coordinates `X`. -/
def gMin (W : ℕ → ℕ → F .f32) (B : ℕ → F .f32) (X : S8192.Idx → F .f32) (n : ℕ) : F .f32 :=
  pmin W B (rd X (3 * n)) (rd X (3 * n + 1)) (rd X (3 * n + 2))

/-- Element `n` of the chunk's rows of attributes: attribute `n % 16` of point `n / 16`. -/
def gSel (W : ℕ → ℕ → F .f32) (B : ℕ → F .f32) (A : S768.Idx → F .f32) (X : S8192.Idx → F .f32) (n : ℕ) : F .f32 :=
  psel W B A (rd X (3 * (n / 16))) (rd X (3 * (n / 16) + 1)) (rd X (3 * (n / 16) + 2)) (n % 16)

theorem xvec_lane (X : S8192.Idx → F .f32) (t d : ℕ) (l : ℕ) (h : l < 16) : xvec X t d (ix 16 l) = rd X (3 * (16 * t + l) + d) := by
  show rd X (48 * t + 3 * (ix 16 l 0).val + d) = _
  rw [ix_val h]
  exact congrArg _ (by omega)

theorem min_lane (W : ℕ → ℕ → F .f32) (B : ℕ → F .f32) (X : S8192.Idx → F .f32) (t l : ℕ) (h : l < 16) :
    ln (accM W B (xvec X t 0) (xvec X t 1) (xvec X t 2) 15) l = gMin W B X (16 * t + l) := by
  unfold ln gMin
  rw [pmin_lane, xvec_lane _ _ _ _ h, xvec_lane _ _ _ _ h, xvec_lane _ _ _ _ h]
  rfl

theorem sel_lane (W : ℕ → ℕ → F .f32) (B : ℕ → F .f32) (A : S768.Idx → F .f32) (X : S8192.Idx → F .f32) (t p l : ℕ) (hp : p < 16) (h : l < 16) :
    ln (st3 (col (xvec X t 0) (xvec X t 1) (xvec X t 2) A (accI W B (xvec X t 0) (xvec X t 1) (xvec X t 2) 15)) p) l
      = gSel W B A X (256 * t + 16 * p + l) := by
  rw [st3_ln _ _ _ hp h]
  unfold ln gSel
  rw [psel_lane, xvec_lane _ _ _ _ hp, xvec_lane _ _ _ _ hp, xvec_lane _ _ _ _ hp]
  have e1 : (256 * t + 16 * p + l) / 16 = 16 * t + p := by omega
  have e2 : (256 * t + 16 * p + l) % 16 = l := by omega
  rw [e1, e2]
  rfl

theorem row_cast (v : V16 F) (l : ℕ) (x : F .f32) (h : ln v l = x) : ln (shapeCast S16 v shapeCasts_S16_S16) l = x := by
  rw [shapeCast_self]
  exact h

/-! ## The parts that store -/

variable (i : grid0.Coords) (arg2 : Memref sig .scVector .hbm S1500000 .f32) (harg2 : arg2.IsWhole) (arg3 : Memref sig .scVector .hbm S48 .f32) (harg3 : arg3.IsWhole) (arg4 : Memref sig .scVector .hbm S16 .f32) (harg4 : arg4.IsWhole) (arg5 : Memref sig .scVector .hbm S768 .f32) (harg5 : arg5.IsWhole) (arg6 : Memref sig .scVector .hbm S500000 .f32) (harg6 : arg6.IsWhole) (arg7 : Memref sig .scVector .hbm S8000000 .f32) (harg7 : arg7.IsWhole) (arg8 : Memref sig .scVector .vmem S48 .f32) (harg8 : arg8.IsWhole) (arg9 : Memref sig .scVector .vmem S16 .f32) (harg9 : arg9.IsWhole) (arg10 : Memref sig .scVector .vmem S768 .f32) (harg10 : arg10.IsWhole) (arg11 : Memref sig .scVector .vmem S8192 .f32) (harg11 : arg11.IsWhole) (arg12 : Memref sig .scVector .vmem S3072 .f32) (harg12 : arg12.IsWhole) (arg13 : Memref sig .scVector .vmem S41984 .f32) (harg13 : arg13.IsWhole) (arg14 : Memref sig .scVector .vmem S8192 .f32) (harg14 : arg14.IsWhole) (arg15 : Memref sig .scVector .vmem S3072 .f32) (harg15 : arg15.IsWhole) (arg16 : Memref sig .scVector .vmem S41984 .f32) (harg16 : arg16.IsWhole) (arg17 : DmaSems sig S_) (arg18 : DmaSems sig S_) (arg19 : DmaSems sig S_) (arg20 : DmaSems sig S_) (arg21 : DmaSems sig S_) (arg22 : DmaSems sig S_) (v189_r0 : DmaSems sig S_) (v189_r1 : DmaSems sig S_) (v189_r2 : DmaSems sig S_)
variable (d : Dev nD) (W : ℕ → ℕ → F .f32) (B : ℕ → F .f32)

theorem part6_wp (x0 x1 x2 : FVec F S16 .f32) {q : PosShare TreeShare} {A : S768.Idx → F .f32} {f : Buf (Elt F) (arg10.view.loc (thr d i))}
    (hA : arg10.view.read (Elt F) f = A) (k0_t2 : Fin k0_t2_loop.trips) {g : ℕ → F .f32}
    (hg : ∀ l, l < 16 → ln (accM W B x0 x1 x2 15) l = g (16 * k0_t2.val + l)) {Q : _ → sProp 𝕄} :
    iprop((arg10.view.loc (thr d i) ↦{q} f) ∗ filled d i arg12 g (16 * k0_t2.val))
      ⊢ iprop(((arg10.view.loc (thr d i) ↦{q} f) ∗ filled d i arg12 g (16 * k0_t2.val + 16) -∗ Q ⟨(accI W B x0 x1 x2 15), (avec A 512 (accI W B x0 x1 x2 15)), (cpart x0 x1 A (accI W B x0 x1 x2 15) 0)⟩)
        -∗ wp frame (wpE (defs₀ (F := F)) 𝒱₀ (thr d i) none) Set.univ (k0_part6 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 (W 14 0) (W 14 1) (W 14 2) (W 15 0) (W 15 1) (W 15 2) (B 13) (B 14) (B 15) k0_t2 (iv16 k0_t2.val) x0 x1 x2 (accI W B x0 x1 x2 12) (accM W B x0 x1 x2 12) (pd W x0 x1 x2 13)) Q) := by
  subst hA
  have hI : ∀ j, (accI W B x0 x1 x2 15 j).toNat < 16 := accI_lt W B x0 x1 x2 15 (by decide)
  have h66 : k0_pay66 (W 14 0) (W 14 1) (W 14 2) (W 15 0) (W 15 1) (W 15 2) (B 13) (B 14) (B 15) x0 x1 x2 (accI W B x0 x1 x2 12) (accM W B x0 x1 x2 12) (pd W x0 x1 x2 13) = accI W B x0 x1 x2 15 := rfl
  rw [k0_part6_eq_skeleton]
  unfold k0_part6_skel
  dsimp only
  iintro ⟨Hx, Hm⟩ Hk
  iapply (wp_put (g := g) (n := 16 * k0_t2.val) (k0_off3_eq k0_t2) (fun l hl => row_cast _ l _ (hg l hl))) $$ Hm
  iintro Hm
  iapply (wp_take (dP := _) (chk768 0 (by decide) _ hI) (avec (arg10.view.read (Elt F) f) 0 (accI W B x0 x1 x2 15)) (avec_at (arg10.view.read (Elt F) f) 0 (by decide) _ hI)) $$ Hx
  iintro Hx
  iapply (wp_take (dP := _) (chk768 256 (by decide) _ hI) (avec (arg10.view.read (Elt F) f) 256 (accI W B x0 x1 x2 15)) (avec_at (arg10.view.read (Elt F) f) 256 (by decide) _ hI)) $$ Hx
  iintro Hx
  iapply (wp_take (dP := _) (chk768 512 (by decide) _ hI) (avec (arg10.view.read (Elt F) f) 512 (accI W B x0 x1 x2 15)) (avec_at (arg10.view.read (Elt F) f) 512 (by decide) _ hI)) $$ Hx
  iintro Hx
  dsimp only [k0_pay71, cpart]
  rw [h66, wp_pure]
  imodintro
  ihave HQ := Hk $$ [Hx Hm]
  · isplitl [Hx] <;> iassumption
  iexact HQ

theorem part17_wp (c : ℕ → V16 F) (k0_t2 : Fin k0_t2_loop.trips) {g : ℕ → F .f32}
    (hg : ∀ p l, p < 16 → l < 16 → ln (st3 c p) l = g (256 * k0_t2.val + 16 * p + l)) {Q : _ → sProp 𝕄} :
    (filled d i arg13 g (256 * k0_t2.val + 0) : sProp 𝕄)
      ⊢ iprop((filled d i arg13 g (256 * k0_t2.val + 96) -∗ Q ⟨⟩)
        -∗ wp frame (wpE (defs₀ (F := F)) 𝒱₀ (thr d i) none) Set.univ (k0_part17 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 k0_t2 (iv16 k0_t2.val) (st3 c 0) (st3 c 1) (st3 c 2) (st3 c 3) (st3 c 4) (st3 c 5)) Q) := by
  rw [k0_part17_eq_skeleton]
  unfold k0_part17_skel
  dsimp only
  iintro Hm Hk
  iapply (wp_put (g := g) (n := 256 * k0_t2.val + 0) (k0_off4_eq k0_t2 0) (fun l hl => row_cast _ l _ (hg 0 l (by decide) hl))) $$ Hm
  iintro Hm
  iapply (wp_put (g := g) (n := 256 * k0_t2.val + 16) (k0_off4_eq k0_t2 1) (fun l hl => row_cast _ l _ (hg 1 l (by decide) hl))) $$ Hm
  iintro Hm
  iapply (wp_put (g := g) (n := 256 * k0_t2.val + 32) (k0_off4_eq k0_t2 2) (fun l hl => row_cast _ l _ (hg 2 l (by decide) hl))) $$ Hm
  iintro Hm
  iapply (wp_put (g := g) (n := 256 * k0_t2.val + 48) (k0_off4_eq k0_t2 3) (fun l hl => row_cast _ l _ (hg 3 l (by decide) hl))) $$ Hm
  iintro Hm
  iapply (wp_put (g := g) (n := 256 * k0_t2.val + 64) (k0_off4_eq k0_t2 4) (fun l hl => row_cast _ l _ (hg 4 l (by decide) hl))) $$ Hm
  iintro Hm
  iapply (wp_put (g := g) (n := 256 * k0_t2.val + 80) (k0_off4_eq k0_t2 5) (fun l hl => row_cast _ l _ (hg 5 l (by decide) hl))) $$ Hm
  iintro Hm
  rw [wp_pure]
  imodintro
  iapply Hk $$ Hm

theorem part18_wp (c : ℕ → V16 F) (k0_t2 : Fin k0_t2_loop.trips) {g : ℕ → F .f32}
    (hg : ∀ p l, p < 16 → l < 16 → ln (st3 c p) l = g (256 * k0_t2.val + 16 * p + l)) {Q : _ → sProp 𝕄} :
    (filled d i arg13 g (256 * k0_t2.val + 96) : sProp 𝕄)
      ⊢ iprop((filled d i arg13 g (256 * k0_t2.val + 192) -∗ Q ⟨⟩)
        -∗ wp frame (wpE (defs₀ (F := F)) 𝒱₀ (thr d i) none) Set.univ (k0_part18 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 k0_t2 (iv16 k0_t2.val) (st3 c 8) (st3 c 9) (st3 c 10) (st3 c 11) (st3 c 6) (st3 c 7)) Q) := by
  rw [k0_part18_eq_skeleton]
  unfold k0_part18_skel
  dsimp only
  iintro Hm Hk
  iapply (wp_put (g := g) (n := 256 * k0_t2.val + 96) (k0_off4_eq k0_t2 6) (fun l hl => row_cast _ l _ (hg 6 l (by decide) hl))) $$ Hm
  iintro Hm
  iapply (wp_put (g := g) (n := 256 * k0_t2.val + 112) (k0_off4_eq k0_t2 7) (fun l hl => row_cast _ l _ (hg 7 l (by decide) hl))) $$ Hm
  iintro Hm
  iapply (wp_put (g := g) (n := 256 * k0_t2.val + 128) (k0_off4_eq k0_t2 8) (fun l hl => row_cast _ l _ (hg 8 l (by decide) hl))) $$ Hm
  iintro Hm
  iapply (wp_put (g := g) (n := 256 * k0_t2.val + 144) (k0_off4_eq k0_t2 9) (fun l hl => row_cast _ l _ (hg 9 l (by decide) hl))) $$ Hm
  iintro Hm
  iapply (wp_put (g := g) (n := 256 * k0_t2.val + 160) (k0_off4_eq k0_t2 10) (fun l hl => row_cast _ l _ (hg 10 l (by decide) hl))) $$ Hm
  iintro Hm
  iapply (wp_put (g := g) (n := 256 * k0_t2.val + 176) (k0_off4_eq k0_t2 11) (fun l hl => row_cast _ l _ (hg 11 l (by decide) hl))) $$ Hm
  iintro Hm
  rw [wp_pure]
  imodintro
  iapply Hk $$ Hm

attribute [local irreducible] k0_part1 k0_part2 k0_part3 k0_part4 k0_part5 k0_part6 k0_part7 k0_part8 k0_part9 k0_part10 k0_part11 k0_part12 k0_part13 k0_part14 k0_part15 k0_part16 k0_part17 k0_part18

/-- A program that is known to return `a` runs as what follows it does on `a`. -/
theorem wp_known {d : Dev nD} {i : grid0.Coords} {α β : Type} {m : Prog (TpuEff nD τ sig (Elt F) Λ₀ (thr d i).2) α} {a : α} (h : m = pure a)
    {k : α → Prog (TpuEff nD τ sig (Elt F) Λ₀ (thr d i).2) β} {Q : β → sProp 𝕄} :
    wp frame (wpE (defs₀ (F := F)) 𝒱₀ (thr d i) none) Set.univ (k a) Q
      ⊢ wp frame (wpE (defs₀ (F := F)) 𝒱₀ (thr d i) none) Set.univ (m >>= k) Q := by
  subst h
  exact .rfl

/-- One group: from the coordinates of a chunk and the tables, sixteen more distances and sixteen more rows. -/
theorem group_wp {qx qa : PosShare TreeShare} {X : S8192.Idx → F .f32} {A : S768.Idx → F .f32} {fx : Buf (Elt F) (arg11.view.loc (thr d i))}
    {fa : Buf (Elt F) (arg10.view.loc (thr d i))} (hX : arg11.view.read (Elt F) fx = X) (hA : arg10.view.read (Elt F) fa = A) (v1 z0 z1 : BitVec 32)
    (k0_t1 : Fin k0_t1_loop.trips) (k0_t2 : Fin k0_t2_loop.trips) {Q : _ → sProp 𝕄} :
    iprop((arg11.view.loc (thr d i) ↦{qx} fx) ∗ (arg10.view.loc (thr d i) ↦{qa} fa) ∗ filled d i arg12 (gMin W B X) (16 * k0_t2.val) ∗ filled d i arg13 (gSel W B A X) (256 * k0_t2.val))
      ⊢ iprop(((arg11.view.loc (thr d i) ↦{qx} fx) ∗ (arg10.view.loc (thr d i) ↦{qa} fa) ∗ filled d i arg12 (gMin W B X) (16 * (k0_t2.val + 1)) ∗ filled d i arg13 (gSel W B A X) (256 * (k0_t2.val + 1)) -∗ Q ⟨⟩)
        -∗ wp frame (wpE (defs₀ (F := F)) 𝒱₀ (thr d i) none) Set.univ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 v1 (W 0 0) (W 0 1) (W 0 2) (W 1 0) (W 1 1) (W 1 2) (W 2 0) (W 2 1) (W 2 2) (W 3 0) (W 3 1) (W 3 2) (W 4 0) (W 4 1) (W 4 2) (W 5 0) (W 5 1) (W 5 2) (W 6 0) (W 6 1) (W 6 2) (W 7 0) (W 7 1) (W 7 2) (W 8 0) (W 8 1) (W 8 2) (W 9 0) (W 9 1) (W 9 2) (W 10 0) (W 10 1) (W 10 2) (W 11 0) (W 11 1) (W 11 2) (W 12 0) (W 12 1) (W 12 2) (W 13 0) (W 13 1) (W 13 2) (W 14 0) (W 14 1) (W 14 2) (W 15 0) (W 15 1) (W 15 2) (B 0) (B 1) (B 2) (B 3) (B 4) (B 5) (B 6) (B 7) (B 8) (B 9) (B 10) (B 11) (B 12) (B 13) (B 14) (B 15) lanes k0_pay518 k0_pay519 k0_pay521 k0_pay522 (k0_pay525 k0_pay523 2#32) (k0_pay526 k0_pay523 2#32) z0 z1 k0_t1 k0_t2 ⟨⟩) Q) := by
  have hI : ∀ j, ((accI W B (xvec X k0_t2.val 0) (xvec X k0_t2.val 1) (xvec X k0_t2.val 2) 15) j).toNat < 16 := accI_lt W B (xvec X k0_t2.val 0) (xvec X k0_t2.val 1) (xvec X k0_t2.val 2) 15 (by decide)
  have hs : ∀ p l, p < 16 → l < 16 → ln (st3 (col (xvec X k0_t2.val 0) (xvec X k0_t2.val 1) (xvec X k0_t2.val 2) A (accI W B (xvec X k0_t2.val 0) (xvec X k0_t2.val 1) (xvec X k0_t2.val 2) 15)) p) l = gSel W B A X (256 * k0_t2.val + 16 * p + l) :=
    fun p l hp hl => sel_lane W B A X k0_t2.val p l hp hl
  unfold k0_t2_body
  dsimp only
  iintro ⟨Hx, Ha, Hm, Hs⟩ Hk
  rw [wp_bind]
  iapply (part1_wp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 d hX k0_t2) $$ Hx
  iintro Hx
  dsimp only
  rw [wp_bind]
  iapply (part2_wp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 d W B hX k0_t2) $$ Hx
  iintro Hx
  dsimp only
  iapply (wp_known (part3_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 W B (xvec X k0_t2.val 0) (xvec X k0_t2.val 1) (xvec X k0_t2.val 2)))
  dsimp only
  iapply (wp_known (part4_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 W B (xvec X k0_t2.val 0) (xvec X k0_t2.val 1) (xvec X k0_t2.val 2)))
  dsimp only
  iapply (wp_known (part5_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 W B (xvec X k0_t2.val 0) (xvec X k0_t2.val 1) (xvec X k0_t2.val 2)))
  dsimp only
  rw [wp_bind]
  iapply (part6_wp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 d W B (xvec X k0_t2.val 0) (xvec X k0_t2.val 1) (xvec X k0_t2.val 2) hA k0_t2 (fun l hl => min_lane W B X k0_t2.val l hl)) $$ [Ha Hm]
  · isplitl [Ha] <;> iassumption
  iintro ⟨Ha, Hm⟩
  dsimp only
  rw [wp_bind]
  iapply (part7_wp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 d (xvec X k0_t2.val 0) (xvec X k0_t2.val 1) (xvec X k0_t2.val 2) hA (accI W B (xvec X k0_t2.val 0) (xvec X k0_t2.val 1) (xvec X k0_t2.val 2) 15) hI) $$ Ha
  iintro Ha
  dsimp only
  rw [wp_bind]
  iapply (part8_wp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 d (xvec X k0_t2.val 0) (xvec X k0_t2.val 1) (xvec X k0_t2.val 2) hA (accI W B (xvec X k0_t2.val 0) (xvec X k0_t2.val 1) (xvec X k0_t2.val 2) 15) hI) $$ Ha
  iintro Ha
  dsimp only
  rw [wp_bind]
  iapply (part9_wp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 d (xvec X k0_t2.val 0) (xvec X k0_t2.val 1) (xvec X k0_t2.val 2) hA (accI W B (xvec X k0_t2.val 0) (xvec X k0_t2.val 1) (xvec X k0_t2.val 2) 15) hI) $$ Ha
  iintro Ha
  dsimp only
  rw [wp_bind]
  iapply (part10_wp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 d (xvec X k0_t2.val 0) (xvec X k0_t2.val 1) (xvec X k0_t2.val 2) hA (accI W B (xvec X k0_t2.val 0) (xvec X k0_t2.val 1) (xvec X k0_t2.val 2) 15) hI) $$ Ha
  iintro Ha
  dsimp only
  rw [wp_bind]
  iapply (part11_wp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 d (xvec X k0_t2.val 0) (xvec X k0_t2.val 1) (xvec X k0_t2.val 2) hA (accI W B (xvec X k0_t2.val 0) (xvec X k0_t2.val 1) (xvec X k0_t2.val 2) 15) hI) $$ Ha
  iintro Ha
  dsimp only
  iapply (wp_known (part12_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 (xvec X k0_t2.val 0) (xvec X k0_t2.val 1) (xvec X k0_t2.val 2) (col (xvec X k0_t2.val 0) (xvec X k0_t2.val 1) (xvec X k0_t2.val 2) A (accI W B (xvec X k0_t2.val 0) (xvec X k0_t2.val 1) (xvec X k0_t2.val 2) 15)) A (accI W B (xvec X k0_t2.val 0) (xvec X k0_t2.val 1) (xvec X k0_t2.val 2) 15) rfl))
  dsimp only
  iapply (wp_known (part13_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 (col (xvec X k0_t2.val 0) (xvec X k0_t2.val 1) (xvec X k0_t2.val 2) A (accI W B (xvec X k0_t2.val 0) (xvec X k0_t2.val 1) (xvec X k0_t2.val 2) 15)) ))
  dsimp only
  iapply (wp_known (part14_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 (col (xvec X k0_t2.val 0) (xvec X k0_t2.val 1) (xvec X k0_t2.val 2) A (accI W B (xvec X k0_t2.val 0) (xvec X k0_t2.val 1) (xvec X k0_t2.val 2) 15)) ))
  dsimp only
  iapply (wp_known (part15_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 (col (xvec X k0_t2.val 0) (xvec X k0_t2.val 1) (xvec X k0_t2.val 2) A (accI W B (xvec X k0_t2.val 0) (xvec X k0_t2.val 1) (xvec X k0_t2.val 2) 15)) ))
  dsimp only
  iapply (wp_known (part16_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 (col (xvec X k0_t2.val 0) (xvec X k0_t2.val 1) (xvec X k0_t2.val 2) A (accI W B (xvec X k0_t2.val 0) (xvec X k0_t2.val 1) (xvec X k0_t2.val 2) 15)) k0_t2))
  dsimp only
  rw [wp_bind]
  iapply (part17_wp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 d (col (xvec X k0_t2.val 0) (xvec X k0_t2.val 1) (xvec X k0_t2.val 2) A (accI W B (xvec X k0_t2.val 0) (xvec X k0_t2.val 1) (xvec X k0_t2.val 2) 15)) k0_t2 hs) $$ Hs
  iintro Hs
  rw [wp_bind]
  iapply (part18_wp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 d (col (xvec X k0_t2.val 0) (xvec X k0_t2.val 1) (xvec X k0_t2.val 2) A (accI W B (xvec X k0_t2.val 0) (xvec X k0_t2.val 1) (xvec X k0_t2.val 2) 15)) k0_t2 hs) $$ Hs
  iintro Hs
  iapply (wp_put (g := gSel W B A X) (n := 256 * k0_t2.val + 192) (k0_off4_eq k0_t2 12) (fun l hl => row_cast _ l _ (hs 12 l (by decide) hl))) $$ Hs
  iintro Hs
  iapply (wp_put (g := gSel W B A X) (n := 256 * k0_t2.val + 208) (k0_off4_eq k0_t2 13) (fun l hl => row_cast _ l _ (hs 13 l (by decide) hl))) $$ Hs
  iintro Hs
  iapply (wp_put (g := gSel W B A X) (n := 256 * k0_t2.val + 224) (k0_off4_eq k0_t2 14) (fun l hl => row_cast _ l _ (hs 14 l (by decide) hl))) $$ Hs
  iintro Hs
  iapply (wp_put (g := gSel W B A X) (n := 256 * k0_t2.val + 240) (k0_off4_eq k0_t2 15) (fun l hl => row_cast _ l _ (hs 15 l (by decide) hl))) $$ Hs
  iintro Hs
  rw [wp_pure]
  imodintro
  iapply Hk
  isplitl [Hx]; · iexact Hx
  isplitl [Ha]; · iexact Ha
  isplitl [Hm]
  · iapply (filled_congr (by omega)) $$ Hm
  · iapply (filled_congr (by omega)) $$ Hs

end Cert.Proof.Tile
-- ==== Proof.Moves.lean ====
/-
  A tile's transfers: a chunk's coordinates fetched into a scratch, a filled scratch sent to an output whose
  elements are in write mode, and the waits for them.
-/
module

public import proofs.«01_k».proof.Proof.Group

@[expose] public section

set_option synthInstance.maxSize 4096

noncomputable section

namespace Cert.Proof.Tile

open Cert.KernelIdeal Cert.KernelIdeal.Gen Cert.Proof.Value

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ (UU F) ℕ

variable {d : Dev nD} {i : grid0.Coords}

/-! ## One transfer and its wait -/

/-- What the tile owes, after waits of its own: those it had made before, and waits outside the launch's ladder. -/
def waits (d : Dev nD) (i : grid0.Coords) (O : CellTallies nD τ sig (HIx 1)) (W : Waits sig (HIx 1)) : sProp 𝕄 :=
  iprop(∃ W', ⌜∀ p ∈ W', p ∈ W ∨ p.2 = none⌝ ∗ owes (thr d i) O W')

/-- A transfer started: its source's elements lent, its destination's update handed over. -/
theorem wp_move {sp sp' : Space} {s : Shape} {e : EltTy} {src : Memref sig .scVector sp s e} {dst : Memref sig .scVector sp' s e} {sem : DmaSem sig}
    {hsrc : src.view.WordExact} {hdst : dst.view.WordExact} {hsem : DmaTarget.Typed (nD := nD) sp (.dma sem) (DmaTarget.here (p := (thr d i).2) dst)} {α : Type}
    {k : PUnit → Prog (TpuEff nD τ sig (Elt F) Λ₀ (thr d i).2) α} {Q : α → sProp 𝕄} {q : PosShare TreeShare} {fs : Buf (Elt F) (src.view.loc (thr d i))}
    {R : sProp 𝕄} [Storable (upEmb : UEmb _ 𝕄) R] (hs : 0 < s.numel) :
    iprop((src.view.loc (thr d i) ↦[src.view.set]{q} fs) ∗ writeUpdate (thr d i) dst.view (src.view.read (Elt F) fs) R ∗ semVal (thr d i, SemLoc.dma sem) 0)
      ⊢ iprop((Transfers.Flight EC (thr d i) (.dma sem) none dst.view.dmaCredit iprop(R ∗ (src.view.loc (thr d i) ↦[src.view.set]{q} fs))
            -∗ wp frame (wpE (defs₀ (F := F)) 𝒱₀ (thr d i) none) Set.univ (k ⟨⟩) Q)
        -∗ wp frame (wpE (defs₀ (F := F)) 𝒱₀ (thr d i) none) Set.univ
            (Prog.lift (TpuEff.enqueueDma src (.here dst) (.dma sem) hsrc hdst hsem) >>= k) Q) := by
  simp only [Prog.lift, Prog.bind_op, Prog.bind_ret]
  iintro ⟨Hs, Hd, Hv⟩ Hk
  imod (Transfers.flight_alloc EC (dst.view.dmaCredit_pos hs) iprop(R ∗ (src.view.loc (thr d i) ↦[src.view.set]{q} fs)) (g := (thr d i, SemLoc.dma sem)))
    $$ Hv with ⟨%γ, %δ, %κ, #Hinv, Hγ, Hδ⟩
  iapply (wp_enqueueDma 𝒱₀ (thr d i) none Set.univ none dst.view.dmaCredit rfl) $$ [Hs Hd] [Hγ]
  · isplitl [Hs]; · iexact Hs
    iexact Hd
  · iapply (Transfers.flight_creditUpdate EC (δ := δ))
    isplitr; · iexact Hinv
    iexact Hγ
  iintro Hcred
  iapply Hk
  iapply (Transfers.flight_intro EC (thr d i) (κ := κ))
  isplitr; · iexact Hinv
  isplitl [Hδ] <;> iassumption

/-- The wait for a transfer in flight: what it was to deliver, and its semaphore back at zero. -/
theorem wp_landed {sp sp' : Space} {s s' : Shape} {e e' : EltTy} {srcw : Memref sig .scVector sp' s' e'} {dstw : Memref sig .scVector sp s e} {sem : DmaSem sig}
    {hsrc : srcw.view.WordExact} {hdst : dstw.view.WordExact} {α : Type}
    {k : PUnit → Prog (TpuEff nD τ sig (Elt F) Λ₀ (thr d i).2) α} {Q : α → sProp 𝕄} {N : ℕ} (hN : dstw.view.dmaCredit = N) {E : sProp 𝕄}
    {O : CellTallies nD τ sig (HIx 1)} {W : Waits sig (HIx 1)} :
    iprop(Transfers.Flight EC (thr d i) (.dma sem) none N E ∗ waits d i O W ∗ Transfers.MayWaits (thr d i) none O)
      ⊢ iprop((iprop(E ∗ semVal (thr d i, SemLoc.dma sem) 0 ∗ waits d i O W) -∗ wp frame (wpE (defs₀ (F := F)) 𝒱₀ (thr d i) none) Set.univ (k ⟨⟩) Q)
        -∗ wp frame (wpE (defs₀ (F := F)) 𝒱₀ (thr d i) none) Set.univ
            (Prog.lift (TpuEff.waitDma2 sem srcw dstw hsrc hdst) >>= k) Q) := by
  simp only [Prog.lift, Prog.bind_op, Prog.bind_ret]
  unfold waits
  iintro ⟨Hf, ⟨%W', %hW', HO⟩, Hm⟩ Hk
  ihave Hm' := (Transfers.MayWaits.elim (SemLoc.dma sem)) $$ Hm
  iapply (Transfers.wp_waitLocalO EC 𝒱₀ (thr d i) none none hN) $$ [Hf HO Hm']
  · isplitl [Hf]; · iexact Hf
    isplitl [HO] <;> iassumption
  iintro ⟨HE, Hv, HO⟩
  iapply Hk
  isplitl [HE]; · iexact HE
  isplitl [Hv]; · iexact Hv
  iexists (insert (SemLoc.dma sem, none) W')
  isplitr
  · ipureintro
    intro p hp
    rcases Finset.mem_insert.mp hp with rfl | h
    · exact Or.inr rfl
    · exact hW' p h
  · iexact HO

/-! ## Fetching a chunk -/

/-- The scratch `buf` holds the `L` elements of `src` from `s` on, in front; and the share `q` of `src` is back. -/
def fetched (d : Dev nD) (i : grid0.Coords) {M N : ℕ} [NeZero M] [NeZero N] (src : Memref sig .scVector .hbm (⟨1, ![M]⟩ : Shape) .f32)
    (fX : Buf (Elt F) (src.view.loc (thr d i))) (q : PosShare TreeShare) (buf : Memref sig .scVector .vmem (⟨1, ![N]⟩ : Shape) .f32) (s L : ℕ) : sProp 𝕄 :=
  iprop((∃ f : Buf (Elt F) (buf.view.loc (thr d i)), ⌜∀ j, j < L → rd (α := F .f32) (buf.view.read (Elt F) f) j = rd (α := F .f32) (src.view.read (Elt F) fX) (s + j)⌝
      ∗ buf.view.loc (thr d i) ↦{fullShare} f)
    ∗ (src.view.loc (thr d i) ↦{q} fX))

/-- Some contents of the scratch `buf`. -/
def idle (d : Dev nD) (i : grid0.Coords) {N : ℕ} (buf : Memref sig .scVector .vmem (⟨1, ![N]⟩ : Shape) .f32) : sProp 𝕄 :=
  iprop(∃ f : Buf (Elt F) (buf.view.loc (thr d i)), buf.view.loc (thr d i) ↦{fullShare} f)

theorem read_part {sp : Space} {M L : ℕ} [NeZero M] [NeZero L] (src : Memref sig .scVector sp (⟨1, ![M]⟩ : Shape) .f32) {off : Fin 1 → ℕ} {s : ℕ}
    {inb : ∀ a, off a + (⟨1, ![L]⟩ : Shape).size a ≤ (⟨1, ![M]⟩ : Shape).size a} (hoff : off = ![s])
    (fX : src.view.ty.Contents (Elt F)) {j : ℕ} (hj : j < L) :
    (src.view.slice (Rect.unit (s := (⟨1, ![M]⟩ : Shape)) off (⟨1, ![L]⟩ : Shape).size inb)).read (Elt F) fX (ix L j) = rd (α := F .f32) (src.view.read (Elt F) fX) (s + j) := by
  subst hoff
  have h : (Rect.unit (s := (⟨1, ![M]⟩ : Shape)) ![s] (⟨1, ![L]⟩ : Shape).size inb).emb (ix L j) = ix M (s + j) := by
    refine (ix_eq _ ?_).symm
    show s + 1 * (ix L j 0).val = s + j
    rw [ix_val hj, Nat.one_mul]
  exact congrArg (src.view.read (Elt F) fX) h

theorem read_landed {N L : ℕ} [NeZero N] [NeZero L] (buf : Memref sig .scVector .vmem (⟨1, ![N]⟩ : Shape) .f32)
    {inb : ∀ a, (![0] : Fin 1 → ℕ) a + (⟨1, ![L]⟩ : Shape).size a ≤ (⟨1, ![N]⟩ : Shape).size a} (f : buf.view.ty.Contents (Elt F)) (w : Vec F (⟨1, ![L]⟩ : Shape) .f32) {j : ℕ} (hj : j < L) :
    rd (α := F .f32) (buf.view.read (Elt F) ((buf.view.slice (Rect.unit (s := (⟨1, ![N]⟩ : Shape)) ![0] (⟨1, ![L]⟩ : Shape).size inb)).write (Elt F) f w Finset.univ)) j = w (ix L j) := by
  have hN : 0 + L ≤ N := inb 0
  refine View.read_writes_cons_unit_of_mem buf.view f inb w [] (ix N j) (ix L j) rfl (fun a => ?_)
  have ha := Subsingleton.elim a 0
  subst ha
  rw [ix_val (by omega), ix_val hj]
  show j = 0 + j
  omega

/-- The fetch started. -/
theorem wp_fetch {M N : ℕ} (L : ℕ) [NeZero M] [NeZero N] [NeZero L] {src : Memref sig .scVector .hbm (⟨1, ![M]⟩ : Shape) .f32}
    {fX : Buf (Elt F) (src.view.loc (thr d i))} {q : PosShare TreeShare} {buf : Memref sig .scVector .vmem (⟨1, ![N]⟩ : Shape) .f32} {s : ℕ} {sem : DmaSem sig}
    {off : Fin 1 → ℕ} {inb : ∀ a, off a + (⟨1, ![L]⟩ : Shape).size a ≤ (⟨1, ![M]⟩ : Shape).size a}
    {inb0 : ∀ a, (![0] : Fin 1 → ℕ) a + (⟨1, ![L]⟩ : Shape).size a ≤ (⟨1, ![N]⟩ : Shape).size a} {hr hr0 hsrc hdst hsem} {α : Type}
    {k : PUnit → Prog (TpuEff nD τ sig (Elt F) Λ₀ (thr d i).2) α} {Q : α → sProp 𝕄} (hoff : off = ![s]) (hs : 0 < (⟨1, ![L]⟩ : Shape).numel) :
    iprop(idle d i buf ∗ (src.view.loc (thr d i) ↦{q} fX) ∗ semVal (thr d i, SemLoc.dma sem) 0)
      ⊢ iprop((Transfers.Flight EC (thr d i) (.dma sem) none (buf.view.ref.dmaCredit (⟨1, ![L]⟩ : Shape) .f32) (fetched d i src fX q buf s L)
            -∗ wp frame (wpE (defs₀ (F := F)) 𝒱₀ (thr d i) none) Set.univ (k ⟨⟩) Q)
        -∗ wp frame (wpE (defs₀ (F := F)) 𝒱₀ (thr d i) none) Set.univ
            (Prog.lift (TpuEff.enqueueDma (src.slice (Rect.unit (s := (⟨1, ![M]⟩ : Shape)) off (⟨1, ![L]⟩ : Shape).size inb) hr)
              (.here (buf.slice (Rect.unit (s := (⟨1, ![N]⟩ : Shape)) ![0] (⟨1, ![L]⟩ : Shape).size inb0) hr0)) (.dma sem) hsrc hdst hsem) >>= k) Q) := by
  unfold idle
  iintro ⟨⟨%f, Hb⟩, Hs, Hv⟩ Hk
  let r := Rect.unit (s := (⟨1, ![M]⟩ : Shape)) off (⟨1, ![L]⟩ : Shape).size inb
  let r0 := Rect.unit (s := (⟨1, ![N]⟩ : Shape)) ![0] (⟨1, ![L]⟩ : Shape).size inb0
  let w : Vec F (⟨1, ![L]⟩ : Shape) .f32 := (src.view.slice r).read (Elt F) fX
  ihave Hs' := (pointsTo_split_subset (Finset.subset_univ (src.view.slice r).set)).1 $$ Hs
  icases Hs' with ⟨Hs1, Hs2⟩
  iapply (wp_move (src := src.slice r hr) (dst := buf.slice r0 hr0) (q := q) (fs := fX)
    (R := iprop((buf.view.loc (thr d i) ↦{fullShare} ((buf.view.slice r0).write (Elt F) f w Finset.univ))
      ∗ (src.view.loc (thr d i) ↦[Finset.univ \ (src.view.slice r).set]{q} fX))) hs) $$ [Hs1 Hs2 Hb Hv]
  · isplitl [Hs1]; · iexact Hs1
    isplitl [Hs2 Hb]
    · iapply (writeUpdate_frame (thr d i))
      isplitl [Hb]
      · iapply (pointsTo_writeUpdate (thr d i) (v := buf.view.slice r0) (Finset.subset_univ _)) $$ Hb
      · iexact Hs2
    · iexact Hv
  iintro Hf
  iapply Hk
  iapply (Transfers.Flight_mono EC (thr d i) ?_) $$ Hf
  unfold fetched
  iintro ⟨⟨Hb, Hs2⟩, Hs1⟩
  isplitl [Hb]
  · iexists ((buf.view.slice r0).write (Elt F) f w Finset.univ)
    isplitr
    · ipureintro
      intro j hj
      exact (read_landed buf f w hj).trans (read_part src hoff fX hj)
    · iexact Hb
  · iapply (pointsTo_split_subset (Finset.subset_univ (src.view.slice r).set)).2
    isplitl [Hs1] <;> iassumption

/-! ## Sending a filled scratch to an output in write mode -/

/-- A share of the elements `I` of the output `dst` in write mode, towards the contents `G`; marked as written are at least the chunks of `L` elements
    from `ch 0`, …, `ch (n - 1)`. -/
def wmOut (d : Dev nD) (i : grid0.Coords) {M : ℕ} [NeZero M] (dst : Memref sig .scVector .hbm (⟨1, ![M]⟩ : Shape) .f32) (I : Finset (Idx (dst.view.loc (thr d i))))
    (q : PosShare TreeShare) (f0 G : Buf (Elt F) (dst.view.loc (thr d i))) (ch : ℕ → ℕ) (L n : ℕ) : sProp 𝕄 :=
  iprop(∃ W : Finset (Idx (dst.view.loc (thr d i))), ⌜∀ c, c < n → ∀ j, j < L → dst.view.emb (ix M (ch c + j)) ∈ W⌝
    ∗ willBeTo eWm (dst.view.loc (thr d i)) I q f0 (fun x => some (G x)) W)

instance {M : ℕ} [NeZero M] (dst : Memref sig .scVector .hbm (⟨1, ![M]⟩ : Shape) .f32) (I : Finset (Idx (dst.view.loc (thr d i))))
    (q : PosShare TreeShare) (f0 G : Buf (Elt F) (dst.view.loc (thr d i))) (ch : ℕ → ℕ) (L n : ℕ) : Storable (upEmb : UEmb _ 𝕄) (wmOut d i dst I q f0 G ch L n) := by
  unfold wmOut
  infer_instance

theorem cast_some {Val : EltTy → Type} {a b : EltTy} (h : a = b) (y : Val a) :
    _root_.cast (congrArg (fun e => Option (Val e)) h) (some y) = some (_root_.cast (congrArg Val h) y) := by
  subst h
  rfl

/-- A scratch's front sent to the chunk `ch n` of an output: the chunk is marked when it lands. -/
theorem wp_send {M N : ℕ} (L : ℕ) [NeZero M] [NeZero N] [NeZero L] {dst : Memref sig .scVector .hbm (⟨1, ![M]⟩ : Shape) .f32}
    {I : Finset (Idx (dst.view.loc (thr d i)))} {q : PosShare TreeShare} {f0 G : Buf (Elt F) (dst.view.loc (thr d i))} {ch : ℕ → ℕ} {n ιwm : ℕ}
    {buf : Memref sig .scVector .vmem (⟨1, ![N]⟩ : Shape) .f32} {g : ℕ → F .f32} {sem : DmaSem sig}
    {off : Fin 1 → ℕ} {inb : ∀ a, off a + (⟨1, ![L]⟩ : Shape).size a ≤ (⟨1, ![M]⟩ : Shape).size a}
    {inb0 : ∀ a, (![0] : Fin 1 → ℕ) a + (⟨1, ![L]⟩ : Shape).size a ≤ (⟨1, ![N]⟩ : Shape).size a} {hr hr0 hsrc hdst hsem} {α : Type}
    {k : PUnit → Prog (TpuEff nD τ sig (Elt F) Λ₀ (thr d i).2) α} {Q : α → sProp 𝕄} (hoff : off = ![ch n]) (hs : 0 < (⟨1, ![L]⟩ : Shape).numel)
    (hI : ∀ j, j < L → dst.view.emb (ix M (ch n + j)) ∈ I) (hg : ∀ j, j < L → g j = rd (α := F .f32) (dst.view.read (Elt F) G) (ch n + j)) :
    iprop(filled d i buf g L ∗ wmOut d i dst I q f0 G ch L n ∗ semVal (thr d i, SemLoc.dma sem) 0 ∗ wmInv eWm ιwm)
      ⊢ iprop((Transfers.Flight EC (thr d i) (.dma sem) none (dst.view.ref.dmaCredit (⟨1, ![L]⟩ : Shape) .f32) iprop(idle d i buf ∗ wmOut d i dst I q f0 G ch L (n + 1))
            -∗ wp frame (wpE (defs₀ (F := F)) 𝒱₀ (thr d i) none) Set.univ (k ⟨⟩) Q)
        -∗ wp frame (wpE (defs₀ (F := F)) 𝒱₀ (thr d i) none) Set.univ
            (Prog.lift (TpuEff.enqueueDma (buf.slice (Rect.unit (s := (⟨1, ![N]⟩ : Shape)) ![0] (⟨1, ![L]⟩ : Shape).size inb0) hr0)
              (.here (dst.slice (Rect.unit (s := (⟨1, ![M]⟩ : Shape)) off (⟨1, ![L]⟩ : Shape).size inb) hr)) (.dma sem) hsrc hdst hsem) >>= k) Q) := by
  let r := Rect.unit (s := (⟨1, ![M]⟩ : Shape)) off (⟨1, ![L]⟩ : Shape).size inb
  let r0 := Rect.unit (s := (⟨1, ![N]⟩ : Shape)) ![0] (⟨1, ![L]⟩ : Shape).size inb0
  have hemb : ∀ x : (⟨1, ![L]⟩ : Shape).Idx, r.emb x = ix M (ch n + (x 0).val) := fun x => by
    refine (ix_eq _ ?_).symm
    show off 0 + 1 * (x 0).val = ch n + (x 0).val
    rw [hoff, Nat.one_mul]
    rfl
  have hset : (dst.view.slice r).set ⊆ I := fun y hy => by
    obtain ⟨x, -, rfl⟩ := Finset.mem_map.mp hy
    show dst.view.emb (r.emb x) ∈ I
    rw [hemb]
    exact hI _ (x 0).isLt
  unfold filled wmOut
  iintro ⟨⟨%f, %hf, Hb⟩, ⟨%W, %hW, Hd⟩, Hv, Hinv⟩ Hk
  have hadm : (dst.view.slice r).Admitted (Elt F) (fun x => some (G x)) ((buf.view.slice r0).read (Elt F) f) Finset.univ := by
    intro x _ u hu
    have hx : ix L (x 0).val = x := ix_eq x rfl
    have h1 : (dst.view.slice r).read (fun e => Option (Elt F e)) (fun x => some (G x)) x = some ((dst.view.slice r).read (Elt F) G x) := cast_some (dst.view.slice r).elt_eq _
    have h2 := h1.symm.trans hu
    have h3 := read_part (F := F) dst (inb := inb) hoff G (x 0).isLt
    have h4 := read_part (F := F) buf (inb := inb0) rfl f (x 0).isLt
    rw [hx] at h3 h4
    refine Eq.trans ?_ (Option.some.inj h2)
    refine (h4.trans ?_).trans h3.symm
    rw [Nat.zero_add, hf _ (x 0).isLt]
    exact hg _ (x 0).isLt
  ihave Hb' := (pointsTo_split_subset (Finset.subset_univ (buf.view.slice r0).set)).1 $$ Hb
  icases Hb' with ⟨Hb1, Hb2⟩
  iapply (wp_move (src := buf.slice r0 hr0) (dst := dst.slice r hr) (q := fullShare) (fs := f)
    (R := iprop((willBeTo eWm (dst.view.loc (thr d i)) I q f0 (fun x => some (G x)) (W ∪ (dst.view.slice r).set))
      ∗ (buf.view.loc (thr d i) ↦[Finset.univ \ (buf.view.slice r0).set]{fullShare} f))) hs) $$ [Hb1 Hb2 Hd Hv Hinv]
  · isplitl [Hb1]; · iexact Hb1
    isplitl [Hb2 Hd Hinv]
    · iapply (writeUpdate_frame (thr d i))
      isplitl [Hd Hinv]
      · iapply (willBeTo_writeUpdate (thr d i) (v := dst.view.slice r) (ιwm := ιwm) hset hadm)
        isplitl [Hinv] <;> iassumption
      · iexact Hb2
    · iexact Hv
  iintro Hf
  iapply Hk
  iapply (Transfers.Flight_mono EC (thr d i) ?_) $$ Hf
  unfold idle
  iintro ⟨⟨Hd, Hb2⟩, Hb1⟩
  isplitl [Hb1 Hb2]
  · iexists f
    iapply (pointsTo_split_subset (Finset.subset_univ (buf.view.slice r0).set)).2
    isplitl [Hb1] <;> iassumption
  · iexists (W ∪ (dst.view.slice r).set)
    isplitr
    · ipureintro
      intro c hc j hj
      by_cases h : c < n
      · exact Finset.mem_union_left _ (hW c h j hj)
      · obtain rfl : c = n := by omega
        refine Finset.mem_union_right _ ?_
        have hm := (dst.view.slice r).emb_mem_set (ix L j)
        have he : (dst.view.slice r).emb (ix L j) = dst.view.emb (ix M (ch c + j)) := by
          show dst.view.emb (r.emb (ix L j)) = _
          rw [hemb, ix_val hj]
        rw [he] at hm
        exact hm
    · iexact Hd

/-! ## Write mode's shares -/

/-- Write-mode assertions at two halves of a share join, and so do their marks. -/
theorem willBe_halves (ℓ : Loc nD τ sig) (I : Finset (Idx ℓ)) (q : PosShare TreeShare) (f : Buf (Elt F) ℓ) (g : Tgt (Elt F) ℓ) (W₁ W₂ : Finset (Idx ℓ)) :
    (willBeTo eWm ℓ I q f g (W₁ ∪ W₂) : sProp 𝕄) ⊣⊢ iprop(willBeTo eWm ℓ I q.left f g W₁ ∗ willBeTo eWm ℓ I q.right f g W₂) := by
  unfold willBeTo BI.Region.willBe
  refine BI.Region.held_share (PosShare.mem_left_op_right q) fun x _ => ?_
  simp only [Finset.mem_union, Bool.decide_or]
  exact Region.WB.mem_mk_op_mk _ _ _ _

end Cert.Proof.Tile
-- ==== Proof.Chunk.lean ====
/-
  One chunk: the loop over its groups, from the coordinates fetched to the two scratches filled, for either pair of
  scratches.
-/
module

public import proofs.«01_k».proof.Proof.Moves

@[expose] public section

set_option synthInstance.maxSize 4096

noncomputable section

namespace Cert.Proof.Tile

open Cert.KernelIdeal Cert.KernelIdeal.Gen Cert.Proof.Value

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ (UU F) ℕ

/-- The distance of point `p`, of the array of coordinates `xs`. -/
def tMin (W : ℕ → ℕ → F .f32) (B : ℕ → F .f32) (xs : S1500000.Idx → F .f32) (p : ℕ) : F .f32 :=
  pmin W B (rd xs (3 * p)) (rd xs (3 * p + 1)) (rd xs (3 * p + 2))

/-- Element `e` of the rows of attributes. -/
def tSel (W : ℕ → ℕ → F .f32) (B : ℕ → F .f32) (A : S768.Idx → F .f32) (xs : S1500000.Idx → F .f32) (e : ℕ) : F .f32 :=
  psel W B A (rd xs (3 * (e / 16))) (rd xs (3 * (e / 16) + 1)) (rd xs (3 * (e / 16) + 2)) (e % 16)

theorem gMin_eq (W : ℕ → ℕ → F .f32) (B : ℕ → F .f32) {X : S8192.Idx → F .f32} {xs : S1500000.Idx → F .f32} {st : ℕ}
    (h : ∀ j, j < 7824 → rd X j = rd xs (3 * st + j)) {n : ℕ} (hn : n < 2608) : gMin W B X n = tMin W B xs (st + n) := by
  unfold gMin tMin
  rw [h _ (by omega), h _ (by omega), h _ (by omega), show 3 * st + 3 * n = 3 * (st + n) by omega, show 3 * st + (3 * n + 1) = 3 * (st + n) + 1 by omega,
    show 3 * st + (3 * n + 2) = 3 * (st + n) + 2 by omega]

theorem gSel_eq (W : ℕ → ℕ → F .f32) (B : ℕ → F .f32) (A : S768.Idx → F .f32) {X : S8192.Idx → F .f32} {xs : S1500000.Idx → F .f32} {st : ℕ}
    (h : ∀ j, j < 7824 → rd X j = rd xs (3 * st + j)) {n : ℕ} (hn : n < 41728) : gSel W B A X n = tSel W B A xs (16 * st + n) := by
  unfold gSel tSel
  rw [show (16 * st + n) / 16 = st + n / 16 by omega, show (16 * st + n) % 16 = n % 16 by omega, h _ (by omega), h _ (by omega), h _ (by omega),
    show 3 * st + 3 * (n / 16) = 3 * (st + n / 16) by omega, show 3 * st + (3 * (n / 16) + 1) = 3 * (st + n / 16) + 1 by omega,
    show 3 * st + (3 * (n / 16) + 2) = 3 * (st + n / 16) + 2 by omega]

variable {d : Dev nD} {i : grid0.Coords}

theorem filled_none {N : ℕ} [NeZero N] {m : Memref sig .scVector .vmem (⟨1, ![N]⟩ : Shape) .f32} {g : ℕ → F .f32} :
    (idle d i m : sProp 𝕄) ⊢ filled d i m g 0 := by
  unfold idle filled
  iintro ⟨%f, H⟩
  iexists f
  isplitr
  · ipureintro
    intro j hj
    exact absurd hj (Nat.not_lt_zero j)
  · iexact H

theorem filled_as {N : ℕ} [NeZero N] {m : Memref sig .scVector .vmem (⟨1, ![N]⟩ : Shape) .f32} {g g' : ℕ → F .f32} {n : ℕ} (h : ∀ j, j < n → g j = g' j) :
    (filled d i m g n : sProp 𝕄) ⊢ filled d i m g' n := by
  unfold filled
  iintro ⟨%f, %hf, H⟩
  iexists f
  isplitr
  · ipureintro
    intro j hj
    exact (hf j hj).trans (h j hj)
  · iexact H

/-- The first pair of scratches. -/
theorem chunk_wp (arg2 : Memref sig .scVector .hbm S1500000 .f32) (harg2 : arg2.IsWhole) (arg3 : Memref sig .scVector .hbm S48 .f32) (harg3 : arg3.IsWhole) (arg4 : Memref sig .scVector .hbm S16 .f32) (harg4 : arg4.IsWhole) (arg5 : Memref sig .scVector .hbm S768 .f32) (harg5 : arg5.IsWhole) (arg6 : Memref sig .scVector .hbm S500000 .f32) (harg6 : arg6.IsWhole) (arg7 : Memref sig .scVector .hbm S8000000 .f32) (harg7 : arg7.IsWhole) (arg8 : Memref sig .scVector .vmem S48 .f32) (harg8 : arg8.IsWhole) (arg9 : Memref sig .scVector .vmem S16 .f32) (harg9 : arg9.IsWhole) (arg10 : Memref sig .scVector .vmem S768 .f32) (harg10 : arg10.IsWhole) (arg11 : Memref sig .scVector .vmem S8192 .f32) (harg11 : arg11.IsWhole) (arg12 : Memref sig .scVector .vmem S3072 .f32) (harg12 : arg12.IsWhole) (arg13 : Memref sig .scVector .vmem S41984 .f32) (harg13 : arg13.IsWhole) (arg14 : Memref sig .scVector .vmem S8192 .f32) (harg14 : arg14.IsWhole) (arg15 : Memref sig .scVector .vmem S3072 .f32) (harg15 : arg15.IsWhole) (arg16 : Memref sig .scVector .vmem S41984 .f32) (harg16 : arg16.IsWhole) (arg17 : DmaSems sig S_) (arg18 : DmaSems sig S_) (arg19 : DmaSems sig S_) (arg20 : DmaSems sig S_) (arg21 : DmaSems sig S_) (arg22 : DmaSems sig S_) (v189_r0 : DmaSems sig S_) (v189_r1 : DmaSems sig S_) (v189_r2 : DmaSems sig S_) (W : ℕ → ℕ → F .f32) (B : ℕ → F .f32)
    {qa : PosShare TreeShare} {A : S768.Idx → F .f32} {fa : Buf (Elt F) (arg10.view.loc (thr d i))} (hA : arg10.view.read (Elt F) fa = A) (v1 z0 z1 : BitVec 32)
    (k0_t1 : Fin k0_t1_loop.trips) {xs : S1500000.Idx → F .f32} {st : ℕ} {α : Type} {k : Unit → Prog (TpuEff nD τ sig (Elt F) Λ₀ (thr d i).2) α} {Q : α → sProp 𝕄} :
    iprop((∃ f : Buf (Elt F) (arg11.view.loc (thr d i)), ⌜∀ j, j < 7824 → rd (α := F .f32) (arg11.view.read (Elt F) f) j = rd xs (3 * st + j)⌝ ∗ arg11.view.loc (thr d i) ↦{fullShare} f)
        ∗ (arg10.view.loc (thr d i) ↦{qa} fa) ∗ idle d i arg12 ∗ idle d i arg13)
      ⊢ iprop((iprop(idle d i arg11 ∗ (arg10.view.loc (thr d i) ↦{qa} fa) ∗ filled d i arg12 (fun j => tMin W B xs (st + j)) 2608
            ∗ filled d i arg13 (fun j => tSel W B A xs (16 * st + j)) 41728) -∗ wp frame (wpE (defs₀ (F := F)) 𝒱₀ (thr d i) none) Set.univ (k ⟨⟩) Q)
        -∗ wp frame (wpE (defs₀ (F := F)) 𝒱₀ (thr d i) none) Set.univ (Scf.Loop.for k0_t2_loop k0_t2_ok ⟨⟩ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 v1 (W 0 0) (W 0 1) (W 0 2) (W 1 0) (W 1 1) (W 1 2) (W 2 0) (W 2 1) (W 2 2) (W 3 0) (W 3 1) (W 3 2) (W 4 0) (W 4 1) (W 4 2) (W 5 0) (W 5 1) (W 5 2) (W 6 0) (W 6 1) (W 6 2) (W 7 0) (W 7 1) (W 7 2) (W 8 0) (W 8 1) (W 8 2) (W 9 0) (W 9 1) (W 9 2) (W 10 0) (W 10 1) (W 10 2) (W 11 0) (W 11 1) (W 11 2) (W 12 0) (W 12 1) (W 12 2) (W 13 0) (W 13 1) (W 13 2) (W 14 0) (W 14 1) (W 14 2) (W 15 0) (W 15 1) (W 15 2) (B 0) (B 1) (B 2) (B 3) (B 4) (B 5) (B 6) (B 7) (B 8) (B 9) (B 10) (B 11) (B 12) (B 13) (B 14) (B 15) lanes k0_pay518 k0_pay519 k0_pay521 k0_pay522 (k0_pay525 k0_pay523 2#32) (k0_pay526 k0_pay523 2#32) z0 z1 k0_t1) >>= k) Q) := by
  iintro ⟨⟨%f, %hf, Hx⟩, Ha, Hm, Hs⟩ Hk
  let X : S8192.Idx → F .f32 := arg11.view.read (Elt F) f
  let I : ℕ → Unit → sProp 𝕄 := fun n _ => iprop((arg11.view.loc (thr d i) ↦{fullShare} f) ∗ (arg10.view.loc (thr d i) ↦{qa} fa)
    ∗ filled d i arg12 (gMin W B X) (16 * n) ∗ filled d i arg13 (gSel W B A X) (256 * n))
  iapply (Scf.wp_for_bind frame (wpE (defs₀ (F := F)) 𝒱₀ (thr d i) none) Set.univ k0_t2_loop.lb k0_t2_loop.ub k0_t2_loop.st k0_t2_ok ⟨⟩
    (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 v1 (W 0 0) (W 0 1) (W 0 2) (W 1 0) (W 1 1) (W 1 2) (W 2 0) (W 2 1) (W 2 2) (W 3 0) (W 3 1) (W 3 2) (W 4 0) (W 4 1) (W 4 2) (W 5 0) (W 5 1) (W 5 2) (W 6 0) (W 6 1) (W 6 2) (W 7 0) (W 7 1) (W 7 2) (W 8 0) (W 8 1) (W 8 2) (W 9 0) (W 9 1) (W 9 2) (W 10 0) (W 10 1) (W 10 2) (W 11 0) (W 11 1) (W 11 2) (W 12 0) (W 12 1) (W 12 2) (W 13 0) (W 13 1) (W 13 2) (W 14 0) (W 14 1) (W 14 2) (W 15 0) (W 15 1) (W 15 2) (B 0) (B 1) (B 2) (B 3) (B 4) (B 5) (B 6) (B 7) (B 8) (B 9) (B 10) (B 11) (B 12) (B 13) (B 14) (B 15) lanes k0_pay518 k0_pay519 k0_pay521 k0_pay522 (k0_pay525 k0_pay523 2#32) (k0_pay526 k0_pay523 2#32) z0 z1 k0_t1) I ?_) $$ [Hx Ha Hm Hs]
  · intro t acc
    dsimp only [I]
    iintro H
    iapply (group_wp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 d W B (fx := f) (X := X) rfl hA v1 z0 z1 k0_t1 t) $$ H
    iintro H
    iexact H
  · dsimp only [I]
    isplitl [Hx]; · iexact Hx
    isplitl [Ha]; · iexact Ha
    isplitl [Hm]
    · iapply filled_none $$ Hm
    · iapply filled_none $$ Hs
  iintro %acc HI
  dsimp only [I]
  icases HI with ⟨Hx, Ha, Hm, Hs⟩
  iapply Hk
  isplitl [Hx]
  · unfold idle
    iexists f
    iexact Hx
  isplitl [Ha]; · iexact Ha
  isplitl [Hm]
  · ihave Hm := (filled_congr (show 16 * k0_t2_loop.trips = 2608 from by decide +kernel)) $$ Hm
    iapply (filled_as (g := gMin W B X) (fun j hj => gMin_eq W B hf hj)) $$ Hm
  · ihave Hs := (filled_congr (show 256 * k0_t2_loop.trips = 41728 from by decide +kernel)) $$ Hs
    iapply (filled_as (g := gSel W B A X) (fun j hj => gSel_eq W B A hf hj)) $$ Hs

/-- The second pair of scratches: the same program on the other scratches. -/
theorem chunk_wp' (arg2 : Memref sig .scVector .hbm S1500000 .f32) (harg2 : arg2.IsWhole) (arg3 : Memref sig .scVector .hbm S48 .f32) (harg3 : arg3.IsWhole) (arg4 : Memref sig .scVector .hbm S16 .f32) (harg4 : arg4.IsWhole) (arg5 : Memref sig .scVector .hbm S768 .f32) (harg5 : arg5.IsWhole) (arg6 : Memref sig .scVector .hbm S500000 .f32) (harg6 : arg6.IsWhole) (arg7 : Memref sig .scVector .hbm S8000000 .f32) (harg7 : arg7.IsWhole) (arg8 : Memref sig .scVector .vmem S48 .f32) (harg8 : arg8.IsWhole) (arg9 : Memref sig .scVector .vmem S16 .f32) (harg9 : arg9.IsWhole) (arg10 : Memref sig .scVector .vmem S768 .f32) (harg10 : arg10.IsWhole) (arg11 : Memref sig .scVector .vmem S8192 .f32) (harg11 : arg11.IsWhole) (arg12 : Memref sig .scVector .vmem S3072 .f32) (harg12 : arg12.IsWhole) (arg13 : Memref sig .scVector .vmem S41984 .f32) (harg13 : arg13.IsWhole) (arg14 : Memref sig .scVector .vmem S8192 .f32) (harg14 : arg14.IsWhole) (arg15 : Memref sig .scVector .vmem S3072 .f32) (harg15 : arg15.IsWhole) (arg16 : Memref sig .scVector .vmem S41984 .f32) (harg16 : arg16.IsWhole) (arg17 : DmaSems sig S_) (arg18 : DmaSems sig S_) (arg19 : DmaSems sig S_) (arg20 : DmaSems sig S_) (arg21 : DmaSems sig S_) (arg22 : DmaSems sig S_) (v189_r0 : DmaSems sig S_) (v189_r1 : DmaSems sig S_) (v189_r2 : DmaSems sig S_) (W : ℕ → ℕ → F .f32) (B : ℕ → F .f32)
    {qa : PosShare TreeShare} {A : S768.Idx → F .f32} {fa : Buf (Elt F) (arg10.view.loc (thr d i))} (hA : arg10.view.read (Elt F) fa = A) (v1 : BitVec 32)
    (k0_t1 : Fin k0_t1_loop.trips) {xs : S1500000.Idx → F .f32} {st : ℕ} {α : Type} {k : Unit → Prog (TpuEff nD τ sig (Elt F) Λ₀ (thr d i).2) α} {Q : α → sProp 𝕄} :
    iprop((∃ f : Buf (Elt F) (arg14.view.loc (thr d i)), ⌜∀ j, j < 7824 → rd (α := F .f32) (arg14.view.read (Elt F) f) j = rd xs (3 * st + j)⌝ ∗ arg14.view.loc (thr d i) ↦{fullShare} f)
        ∗ (arg10.view.loc (thr d i) ↦{qa} fa) ∗ idle d i arg15 ∗ idle d i arg16)
      ⊢ iprop((iprop(idle d i arg14 ∗ (arg10.view.loc (thr d i) ↦{qa} fa) ∗ filled d i arg15 (fun j => tMin W B xs (st + j)) 2608
            ∗ filled d i arg16 (fun j => tSel W B A xs (16 * st + j)) 41728) -∗ wp frame (wpE (defs₀ (F := F)) 𝒱₀ (thr d i) none) Set.univ (k ⟨⟩) Q)
        -∗ wp frame (wpE (defs₀ (F := F)) 𝒱₀ (thr d i) none) Set.univ (Scf.Loop.for k0_t3_loop k0_t3_ok ⟨⟩ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 v1 (W 0 0) (W 0 1) (W 0 2) (W 1 0) (W 1 1) (W 1 2) (W 2 0) (W 2 1) (W 2 2) (W 3 0) (W 3 1) (W 3 2) (W 4 0) (W 4 1) (W 4 2) (W 5 0) (W 5 1) (W 5 2) (W 6 0) (W 6 1) (W 6 2) (W 7 0) (W 7 1) (W 7 2) (W 8 0) (W 8 1) (W 8 2) (W 9 0) (W 9 1) (W 9 2) (W 10 0) (W 10 1) (W 10 2) (W 11 0) (W 11 1) (W 11 2) (W 12 0) (W 12 1) (W 12 2) (W 13 0) (W 13 1) (W 13 2) (W 14 0) (W 14 1) (W 14 2) (W 15 0) (W 15 1) (W 15 2) (B 0) (B 1) (B 2) (B 3) (B 4) (B 5) (B 6) (B 7) (B 8) (B 9) (B 10) (B 11) (B 12) (B 13) (B 14) (B 15) lanes k0_pay518 k0_pay519 k0_pay521 k0_pay522 k0_pay523 2#32) >>= k) Q) := by
  exact chunk_wp (k := k) (Q := Q) arg2 harg2 arg3 harg3 arg4 harg4 arg5 harg5 arg6 harg6 arg7 harg7 arg8 harg8 arg9 harg9 arg10 harg10 arg14 harg14 arg15 harg15 arg16 harg16 arg11 harg11 arg12 harg12 arg13 harg13 arg17 arg18 arg19 arg20 arg21 arg22 v189_r0 v189_r1 v189_r2 W B hA v1 0#32 1#32 k0_t1

end Cert.Proof.Tile
-- ==== Proof.Loop.lean ====
/-
  The double-buffered loop of a tile over its six chunks: at each trip one chunk through each pair of scratches, the next
  chunk's coordinates on their way meanwhile, and the results of the trip before landing.
-/
module

public import proofs.«01_k».proof.Proof.Chunk

@[expose] public section

set_option synthInstance.maxSize 4096

noncomputable section

namespace Cert.Proof.Tile

open Cert.KernelIdeal Cert.KernelIdeal.Gen Cert.Proof.Value

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ (UU F) ℕ

/-- The first point of chunk `c` of the tile `i`: the last tile's last chunk begins earlier, to end with the points. -/
def cs (i : grid0.Coords) (c : ℕ) : ℕ := min (31296 * (i 1).val + 15648 * (i 0).val + 2608 * c) 497392

theorem coord0_lt (i : grid0.Coords) : (i 0).val < 2 := (i 0).isLt
theorem coord1_lt (i : grid0.Coords) : (i 1).val < 16 := (i 1).isLt

theorem one_off {a b : ℕ} (h : a = b) : (![a] : Fin 1 → ℕ) = ![b] := by rw [h]

theorem off1_cs (i : grid0.Coords) : k0_off1 i = ![3 * cs i (2 * 0)] :=
  (k0_off1_eq i).trans (one_off (by unfold cs; have := coord0_lt i; have := coord1_lt i; omega))
theorem off2_cs (i : grid0.Coords) (t : Fin k0_t1_loop.trips) : k0_off2 i t = ![3 * cs i (2 * t.val + 1)] :=
  (k0_off2_eq i t).trans (one_off (by unfold cs; omega))
theorem off7_cs (i : grid0.Coords) (t : Fin k0_t1_loop.trips) : k0_off7 i t = ![3 * cs i (2 * (t.val + 1))] :=
  (k0_off7_eq i t).trans (one_off (by unfold cs; omega))
theorem trips_lt (t : Fin k0_t1_loop.trips) : t.val < 3 := t.isLt
theorem off5_cs (i : grid0.Coords) (t : Fin k0_t1_loop.trips) : k0_off5 i t = ![cs i (2 * t.val)] :=
  (k0_off5_eq i t).trans (one_off (by unfold cs; have := coord0_lt i; have := coord1_lt i; have := trips_lt t; omega))
theorem off6_cs (i : grid0.Coords) (t : Fin k0_t1_loop.trips) : k0_off6 i t = ![16 * cs i (2 * t.val)] :=
  (k0_off6_eq i t).trans (one_off (by unfold cs; have := coord0_lt i; have := coord1_lt i; have := trips_lt t; omega))
theorem off10_cs (i : grid0.Coords) (t : Fin k0_t1_loop.trips) : k0_off10 i t = ![cs i (2 * t.val + 1)] :=
  (k0_off10_eq i t).trans (one_off (by unfold cs; have := coord0_lt i; have := coord1_lt i; have := trips_lt t; omega))
theorem off11_cs (i : grid0.Coords) (t : Fin k0_t1_loop.trips) : k0_off11 i t = ![16 * cs i (2 * t.val + 1)] :=
  (k0_off11_eq i t).trans (one_off (by unfold cs; have := coord0_lt i; have := coord1_lt i; have := trips_lt t; omega))

theorem cond1_true : ∀ t : Fin k0_t1_loop.trips, k0_cond1 t = 1#1 := by decide +kernel
theorem cond3_true : ∀ t : Fin k0_t1_loop.trips, t.val < 2 → k0_cond3 t = 1#1 := by decide +kernel
theorem cond3_false : ∀ t : Fin k0_t1_loop.trips, ¬ t.val < 2 → ¬ k0_cond3 t = 1#1 := by decide +kernel
theorem later_true : ∀ t : Fin k0_t1_loop.trips, ¬ t.val = 0 → Scalar.cmpi .ne (Scalar.extui (Scalar.cmpi .sge (Scf.iv 0#32 1#32 t.val) 1#32)) 0#32 = 1#1 := by decide +kernel
theorem later_false : ∀ t : Fin k0_t1_loop.trips, t.val = 0 → ¬ Scalar.cmpi .ne (Scalar.extui (Scalar.cmpi .sge (Scf.iv 0#32 1#32 t.val) 1#32)) 0#32 = 1#1 := by decide +kernel

/-! ## What is on its way and what is at rest -/

/-- The chunk from element `s` on is on its way to the scratch `buf`. -/
def fetching (d : Dev nD) (i : grid0.Coords) (src : Memref sig .scVector .hbm S1500000 .f32) (fX : Buf (Elt F) (src.view.loc (thr d i))) (q : PosShare TreeShare)
    (buf : Memref sig .scVector .vmem S8192 .f32) (sem : DmaSem sig) (s : ℕ) : sProp 𝕄 :=
  Transfers.Flight EC (thr d i) (.dma sem) none (buf.view.ref.dmaCredit S7824 .f32) (fetched d i src fX q buf s 7824)

/-- Nothing is on its way to the scratch `buf`. -/
def parked (d : Dev nD) (i : grid0.Coords) (src : Memref sig .scVector .hbm S1500000 .f32) (fX : Buf (Elt F) (src.view.loc (thr d i))) (q : PosShare TreeShare)
    (buf : Memref sig .scVector .vmem S8192 .f32) (sem : DmaSem sig) : sProp 𝕄 :=
  iprop(idle d i buf ∗ (src.view.loc (thr d i) ↦{q} fX) ∗ semVal (thr d i, SemLoc.dma sem) 0)

/-- `n` chunks have landed in the output, and the scratch `buf` is free. -/
def ready (d : Dev nD) (i : grid0.Coords) {M N : ℕ} [NeZero M] (dst : Memref sig .scVector .hbm (⟨1, ![M]⟩ : Shape) .f32) (I : Finset (Idx (dst.view.loc (thr d i))))
    (q : PosShare TreeShare) (f0 G : Buf (Elt F) (dst.view.loc (thr d i))) (ch : ℕ → ℕ) (L : ℕ) (buf : Memref sig .scVector .vmem (⟨1, ![N]⟩ : Shape) .f32)
    (sem : DmaSem sig) (n : ℕ) : sProp 𝕄 :=
  iprop(idle d i buf ∗ wmOut d i dst I q f0 G ch L n ∗ semVal (thr d i, SemLoc.dma sem) 0)

/-- `n` chunks will have landed in the output once the one on its way from the scratch `buf` has. -/
def sending (d : Dev nD) (i : grid0.Coords) {M N : ℕ} [NeZero M] (dst : Memref sig .scVector .hbm (⟨1, ![M]⟩ : Shape) .f32) (I : Finset (Idx (dst.view.loc (thr d i))))
    (q : PosShare TreeShare) (f0 G : Buf (Elt F) (dst.view.loc (thr d i))) (ch : ℕ → ℕ) (L : ℕ) (buf : Memref sig .scVector .vmem (⟨1, ![N]⟩ : Shape) .f32)
    (sem : DmaSem sig) (n : ℕ) : sProp 𝕄 :=
  Transfers.Flight EC (thr d i) (.dma sem) none (dst.view.ref.dmaCredit (⟨1, ![L]⟩ : Shape) .f32) iprop(idle d i buf ∗ wmOut d i dst I q f0 G ch L n)

/-- Before the first trip the scratch is free; after each trip its chunk is on its way. -/
def sent (d : Dev nD) (i : grid0.Coords) {M N : ℕ} [NeZero M] (dst : Memref sig .scVector .hbm (⟨1, ![M]⟩ : Shape) .f32) (I : Finset (Idx (dst.view.loc (thr d i))))
    (q : PosShare TreeShare) (f0 G : Buf (Elt F) (dst.view.loc (thr d i))) (ch : ℕ → ℕ) (L : ℕ) (buf : Memref sig .scVector .vmem (⟨1, ![N]⟩ : Shape) .f32)
    (sem : DmaSem sig) (n : ℕ) : sProp 𝕄 :=
  if n = 0 then ready d i dst I q f0 G ch L buf sem n else sending d i dst I q f0 G ch L buf sem n

/-- Before each trip its first chunk is on its way; after the last, none is. -/
def coming (d : Dev nD) (i : grid0.Coords) (src : Memref sig .scVector .hbm S1500000 .f32) (fX : Buf (Elt F) (src.view.loc (thr d i))) (q : PosShare TreeShare)
    (buf : Memref sig .scVector .vmem S8192 .f32) (sem : DmaSem sig) (n : ℕ) : sProp 𝕄 :=
  if n < 3 then fetching d i src fX q buf sem (3 * cs i (2 * n)) else parked d i src fX q buf sem

/-- What is in flight from both scratches of a pair, if a trip went before, lands before the scratches are filled again. -/
theorem wp_drain {d : Dev nD} {i : grid0.Coords} {M M' N N' L L' : ℕ} [NeZero M] [NeZero M']
    {dst : Memref sig .scVector .hbm (⟨1, ![M]⟩ : Shape) .f32} {I : Finset (Idx (dst.view.loc (thr d i)))} {q : PosShare TreeShare} {f0 G : Buf (Elt F) (dst.view.loc (thr d i))}
    {ch : ℕ → ℕ} {buf : Memref sig .scVector .vmem (⟨1, ![N]⟩ : Shape) .f32} {sem : DmaSem sig}
    {dst' : Memref sig .scVector .hbm (⟨1, ![M']⟩ : Shape) .f32} {I' : Finset (Idx (dst'.view.loc (thr d i)))} {q' : PosShare TreeShare} {f0' G' : Buf (Elt F) (dst'.view.loc (thr d i))}
    {ch' : ℕ → ℕ} {buf' : Memref sig .scVector .vmem (⟨1, ![N']⟩ : Shape) .f32} {sem' : DmaSem sig} {n : ℕ}
    {sp sp' : Space} {s s' : Shape} {e e' : EltTy} {srcw : Memref sig .scVector sp s e} {inb : ∀ a, (![0] : Fin 1 → ℕ) a + (⟨1, ![L]⟩ : Shape).size a ≤ (⟨1, ![M]⟩ : Shape).size a} {hr}
    {hsrc : srcw.view.WordExact} {hdst : (dst.slice (Rect.unit (s := (⟨1, ![M]⟩ : Shape)) ![0] (⟨1, ![L]⟩ : Shape).size inb) hr).view.WordExact} {srcw' : Memref sig .scVector sp' s' e'} {inb' : ∀ a, (![0] : Fin 1 → ℕ) a + (⟨1, ![L']⟩ : Shape).size a ≤ (⟨1, ![M']⟩ : Shape).size a} {hr'}
    {hsrc' : srcw'.view.WordExact} {hdst' : (dst'.slice (Rect.unit (s := (⟨1, ![M']⟩ : Shape)) ![0] (⟨1, ![L']⟩ : Shape).size inb') hr').view.WordExact} {c : Prop} [Decidable c]
    {α : Type} {k : Prog (TpuEff nD τ sig (Elt F) Λ₀ (thr d i).2) α} {Q : α → sProp 𝕄} {O : CellTallies nD τ sig (HIx 1)} {W : Waits sig (HIx 1)}
    (hc : ¬ n = 0 → c) (hc' : n = 0 → ¬ c) :
    iprop(sent d i dst I q f0 G ch L buf sem n ∗ sent d i dst' I' q' f0' G' ch' L' buf' sem' n ∗ waits d i O W ∗ Transfers.MayWaits (thr d i) none O)
      ⊢ iprop((iprop(ready d i dst I q f0 G ch L buf sem n ∗ ready d i dst' I' q' f0' G' ch' L' buf' sem' n ∗ waits d i O W)
          -∗ wp frame (wpE (defs₀ (F := F)) 𝒱₀ (thr d i) none) Set.univ k Q)
        -∗ wp frame (wpE (defs₀ (F := F)) 𝒱₀ (thr d i) none) Set.univ
            (if _h : c then Prog.lift (TpuEff.waitDma2 sem srcw (dst.slice (Rect.unit (s := (⟨1, ![M]⟩ : Shape)) ![0] (⟨1, ![L]⟩ : Shape).size inb) hr) hsrc hdst) >>= fun _ =>
              Prog.lift (TpuEff.waitDma2 sem' srcw' (dst'.slice (Rect.unit (s := (⟨1, ![M']⟩ : Shape)) ![0] (⟨1, ![L']⟩ : Shape).size inb') hr') hsrc' hdst') >>= fun _ => k else k) Q) := by
  unfold sent
  by_cases hn : n = 0
  · rw [dif_neg (hc' hn), if_pos hn, if_pos hn]
    iintro ⟨Hm, Hs, HO, _⟩ Hk
    iapply Hk
    isplitl [Hm]; · iexact Hm
    isplitl [Hs] <;> iassumption
  rw [dif_pos (hc hn), if_neg hn, if_neg hn]
  unfold sending ready
  iintro ⟨Hm, Hs, HO, #HM⟩ Hk
  iapply (wp_landed (N := dst.view.ref.dmaCredit (⟨1, ![L]⟩ : Shape) .f32) rfl) $$ [Hm HO]
  · isplitl [Hm]; · iexact Hm
    isplitl [HO]; · iexact HO
    iexact HM
  iintro ⟨⟨Hm, Hwm⟩, Hvm, HO⟩
  iapply (wp_landed (N := dst'.view.ref.dmaCredit (⟨1, ![L']⟩ : Shape) .f32) rfl) $$ [Hs HO]
  · isplitl [Hs]; · iexact Hs
    isplitl [HO]; · iexact HO
    iexact HM
  iintro ⟨⟨Hs, Hws⟩, Hvs, HO⟩
  iapply Hk
  isplitl [Hm Hwm Hvm]
  · isplitl [Hm]; · iexact Hm
    isplitl [Hwm] <;> iassumption
  isplitl [Hs Hws Hvs]
  · isplitl [Hs]; · iexact Hs
    isplitl [Hws] <;> iassumption
  iexact HO

/-- The next trip's first chunk is sent for, if there is a next trip. -/
theorem wp_next {d : Dev nD} {i : grid0.Coords} {src : Memref sig .scVector .hbm S1500000 .f32} {fX : Buf (Elt F) (src.view.loc (thr d i))} {q : PosShare TreeShare}
    {buf : Memref sig .scVector .vmem S8192 .f32} {sem : DmaSem sig} {n : ℕ} {off : Fin 1 → ℕ} {c : Prop} [Decidable c]
    {hin : c → ∀ a, off a + S7824.size a ≤ S1500000.size a} {hin' : ∀ a, (![0] : Fin 1 → ℕ) a + S7824.size a ≤ S8192.size a}
    {hsrc : ∀ h : c, (src.slice (Rect.unit (s := S1500000) off S7824.size (hin h)) (fun _ => rfl)).view.WordExact}
    {hdst : (buf.slice (Rect.unit (s := S8192) ![0] S7824.size hin') (fun _ => rfl)).view.WordExact}
    {hsem : DmaTarget.Typed (nD := nD) .hbm (.dma sem) (DmaTarget.here (p := (thr d i).2) (buf.slice (Rect.unit (s := S8192) ![0] S7824.size hin') (fun _ => rfl)))}
    {α : Type} {k : Prog (TpuEff nD τ sig (Elt F) Λ₀ (thr d i).2) α} {Q : α → sProp 𝕄}
    (hc : n < 3 → c) (hc' : ¬ n < 3 → ¬ c) (hoff : off = ![3 * cs i (2 * n)]) :
    parked d i src fX q buf sem
      ⊢ iprop((coming d i src fX q buf sem n -∗ wp frame (wpE (defs₀ (F := F)) 𝒱₀ (thr d i) none) Set.univ k Q)
        -∗ wp frame (wpE (defs₀ (F := F)) 𝒱₀ (thr d i) none) Set.univ
            (if h : c then Prog.lift (TpuEff.enqueueDma (src.slice (Rect.unit (s := S1500000) off S7824.size (hin h)) (fun _ => rfl))
              (.here (buf.slice (Rect.unit (s := S8192) ![0] S7824.size hin') (fun _ => rfl))) (.dma sem) (hsrc h) hdst hsem) >>= fun _ => k else k) Q) := by
  unfold coming
  by_cases hn : n < 3
  · rw [dif_pos (hc hn), if_pos hn]
    unfold parked fetching
    iintro ⟨Hx, Hxs, Hvx⟩ Hk
    iapply (wp_fetch 7824 hoff (by decide)) $$ [Hx Hxs Hvx]
    · isplitl [Hx]; · iexact Hx
      isplitl [Hxs] <;> iassumption
    iexact Hk
  rw [dif_neg (hc' hn), if_neg hn]
  iintro Hx Hk
  iapply Hk
  iexact Hx

variable (i : grid0.Coords) (arg2 : Memref sig .scVector .hbm S1500000 .f32) (harg2 : arg2.IsWhole) (arg3 : Memref sig .scVector .hbm S48 .f32) (harg3 : arg3.IsWhole) (arg4 : Memref sig .scVector .hbm S16 .f32) (harg4 : arg4.IsWhole) (arg5 : Memref sig .scVector .hbm S768 .f32) (harg5 : arg5.IsWhole) (arg6 : Memref sig .scVector .hbm S500000 .f32) (harg6 : arg6.IsWhole) (arg7 : Memref sig .scVector .hbm S8000000 .f32) (harg7 : arg7.IsWhole) (arg8 : Memref sig .scVector .vmem S48 .f32) (harg8 : arg8.IsWhole) (arg9 : Memref sig .scVector .vmem S16 .f32) (harg9 : arg9.IsWhole) (arg10 : Memref sig .scVector .vmem S768 .f32) (harg10 : arg10.IsWhole) (arg11 : Memref sig .scVector .vmem S8192 .f32) (harg11 : arg11.IsWhole) (arg12 : Memref sig .scVector .vmem S3072 .f32) (harg12 : arg12.IsWhole) (arg13 : Memref sig .scVector .vmem S41984 .f32) (harg13 : arg13.IsWhole) (arg14 : Memref sig .scVector .vmem S8192 .f32) (harg14 : arg14.IsWhole) (arg15 : Memref sig .scVector .vmem S3072 .f32) (harg15 : arg15.IsWhole) (arg16 : Memref sig .scVector .vmem S41984 .f32) (harg16 : arg16.IsWhole) (arg17 : DmaSems sig S_) (arg18 : DmaSems sig S_) (arg19 : DmaSems sig S_) (arg20 : DmaSems sig S_) (arg21 : DmaSems sig S_) (arg22 : DmaSems sig S_) (v189_r0 : DmaSems sig S_) (v189_r1 : DmaSems sig S_) (v189_r2 : DmaSems sig S_)
variable (d : Dev nD) (W : ℕ → ℕ → F .f32) (B : ℕ → F .f32) {ql qa qb q6a q6b q7a q7b : PosShare TreeShare} {A : S768.Idx → F .f32}
  {fa : Buf (Elt F) (arg10.view.loc (thr d i))} (hA : arg10.view.read (Elt F) fa = A) {fX : Buf (Elt F) (arg2.view.loc (thr d i))}
  {xs : S1500000.Idx → F .f32} (hX : arg2.view.read (Elt F) fX = xs)
  {I6 : Finset (Idx (arg6.view.loc (thr d i)))} {f6 G6 : Buf (Elt F) (arg6.view.loc (thr d i))}
  {I7 : Finset (Idx (arg7.view.loc (thr d i)))} {f7 G7 : Buf (Elt F) (arg7.view.loc (thr d i))}
  (hI6 : ∀ c, c < 6 → ∀ j, j < 2608 → arg6.view.emb (ix 500000 (cs i c + j)) ∈ I6)
  (hI7 : ∀ c, c < 6 → ∀ j, j < 41728 → arg7.view.emb (ix 8000000 (16 * cs i c + j)) ∈ I7)
  (hG6 : ∀ p, p < 500000 → tMin W B xs p = rd (α := F .f32) (arg6.view.read (Elt F) G6) p)
  (hG7 : ∀ e, e < 8000000 → tSel W B A xs e = rd (α := F .f32) (arg7.view.read (Elt F) G7) e)
  {ιwm : ℕ} {O : CellTallies nD τ sig (HIx 1)} {W0 : Waits sig (HIx 1)} (v1 : BitVec 32)

theorem cs_le (c : ℕ) : cs i c ≤ 497392 := by unfold cs; omega

include hA hX hI6 hI7 hG6 hG7 in
/-- A trip's work on the first pair of scratches, once its coordinates are there and its scratches are free. -/
theorem tailA_wp (t : Fin k0_t1_loop.trips) {α : Type} {k : PUnit → Prog (TpuEff nD τ sig (Elt F) Λ₀ (thr d i).2) α} {Q : α → sProp 𝕄} :
    iprop((∃ f : Buf (Elt F) (arg11.view.loc (thr d i)), ⌜∀ j, j < 7824 → rd (α := F .f32) (arg11.view.read (Elt F) f) j = rd (α := F .f32) (arg2.view.read (Elt F) fX) (3 * cs i (2 * t.val) + j)⌝ ∗ arg11.view.loc (thr d i) ↦{fullShare} f)
        ∗ (arg10.view.loc (thr d i) ↦{ql} fa) ∗ ready d i arg6 I6 q6a f6 G6 (fun n => cs i (2 * n)) 2608 arg12 arg19.sem (t.val) ∗ ready d i arg7 I7 q7a f7 G7 (fun n => 16 * cs i (2 * n)) 41728 arg13 arg21.sem (t.val) ∗ wmInv eWm ιwm)
      ⊢ iprop((iprop(idle d i arg11 ∗ (arg10.view.loc (thr d i) ↦{ql} fa) ∗ sending d i arg6 I6 q6a f6 G6 (fun n => cs i (2 * n)) 2608 arg12 arg19.sem (t.val + 1) ∗ sending d i arg7 I7 q7a f7 G7 (fun n => 16 * cs i (2 * n)) 41728 arg13 arg21.sem (t.val + 1)) -∗ wp frame (wpE (defs₀ (F := F)) 𝒱₀ (thr d i) none) Set.univ (k ⟨⟩) Q)
        -∗ wp frame (wpE (defs₀ (F := F)) 𝒱₀ (thr d i) none) Set.univ (Scf.Loop.for k0_t2_loop k0_t2_ok ⟨⟩ (k0_t2_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 v1 (W 0 0) (W 0 1) (W 0 2) (W 1 0) (W 1 1) (W 1 2) (W 2 0) (W 2 1) (W 2 2) (W 3 0) (W 3 1) (W 3 2) (W 4 0) (W 4 1) (W 4 2) (W 5 0) (W 5 1) (W 5 2) (W 6 0) (W 6 1) (W 6 2) (W 7 0) (W 7 1) (W 7 2) (W 8 0) (W 8 1) (W 8 2) (W 9 0) (W 9 1) (W 9 2) (W 10 0) (W 10 1) (W 10 2) (W 11 0) (W 11 1) (W 11 2) (W 12 0) (W 12 1) (W 12 2) (W 13 0) (W 13 1) (W 13 2) (W 14 0) (W 14 1) (W 14 2) (W 15 0) (W 15 1) (W 15 2) (B 0) (B 1) (B 2) (B 3) (B 4) (B 5) (B 6) (B 7) (B 8) (B 9) (B 10) (B 11) (B 12) (B 13) (B 14) (B 15) lanes k0_pay518 k0_pay519 k0_pay521 k0_pay522 (k0_pay525 k0_pay523 2#32) (k0_pay526 k0_pay523 2#32) 0#32 1#32 t) >>= fun _ =>
          Prog.lift (TpuEff.enqueueDma (arg12.slice (Rect.unit (s := S3072) ![0] S2608.size inb_S3072_S2608_0) (fun _ => rfl))
            (.here (arg6.slice (Rect.unit (s := S500000) (k0_off5 i t) S2608.size (k0_off5_inb i t)) (fun _ => rfl))) (.dma arg19.sem) (View.wordExact_bits rfl) (View.wordExact_bits rfl) ⟨Or.inl rfl, trivial⟩) >>= fun _ =>
          Prog.lift (TpuEff.enqueueDma (arg13.slice (Rect.unit (s := S41984) ![0] S41728.size inb_S41984_S41728_0) (fun _ => rfl))
            (.here (arg7.slice (Rect.unit (s := S8000000) (k0_off6 i t) S41728.size (k0_off6_inb i t)) (fun _ => rfl))) (.dma arg21.sem) (View.wordExact_bits rfl) (View.wordExact_bits rfl) ⟨Or.inl rfl, trivial⟩) >>= k) Q) := by
  subst hX
  have ht := trips_lt t
  have hc : 2 * t.val < 6 := by omega
  have hle := cs_le (i := i) (2 * t.val)
  unfold ready
  iintro ⟨Hx, Ha, ⟨Hm, Hwm, Hvm⟩, ⟨Hs, Hws, Hvs⟩, #Hinv⟩ Hk
  iapply (chunk_wp arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 W B hA v1 0#32 1#32 t (st := cs i (2 * t.val))) $$ [Hx Ha Hm Hs]
  · isplitl [Hx]; · iexact Hx
    isplitl [Ha]; · iexact Ha
    isplitl [Hm] <;> iassumption
  iintro ⟨Hx, Ha, Hm, Hs⟩
  iapply (wp_send 2608 (ch := fun n => cs i (2 * n)) (n := t.val) (off5_cs i t) (by decide) (hI6 _ hc) (fun j hj => hG6 _ (by omega))) $$ [Hm Hwm Hvm]
  · isplitl [Hm]; · iexact Hm
    isplitl [Hwm]; · iexact Hwm
    isplitl [Hvm]; · iexact Hvm
    iexact Hinv
  iintro Hm
  iapply (wp_send 41728 (ch := fun n => 16 * cs i (2 * n)) (n := t.val) (off6_cs i t) (by decide) (hI7 _ hc) (fun j hj => hG7 _ (by omega))) $$ [Hs Hws Hvs]
  · isplitl [Hs]; · iexact Hs
    isplitl [Hws]; · iexact Hws
    isplitl [Hvs]; · iexact Hvs
    iexact Hinv
  iintro Hs
  iapply Hk
  unfold sending
  isplitl [Hx]; · iexact Hx
  isplitl [Ha]; · iexact Ha
  isplitl [Hm] <;> iassumption

include hA hX hI6 hI7 hG6 hG7 in
/-- A trip's work on the second pair of scratches, once its coordinates are there and its scratches are free. -/
theorem tailB_wp (t : Fin k0_t1_loop.trips) {α : Type} {k : PUnit → Prog (TpuEff nD τ sig (Elt F) Λ₀ (thr d i).2) α} {Q : α → sProp 𝕄} :
    iprop((∃ f : Buf (Elt F) (arg14.view.loc (thr d i)), ⌜∀ j, j < 7824 → rd (α := F .f32) (arg14.view.read (Elt F) f) j = rd (α := F .f32) (arg2.view.read (Elt F) fX) (3 * cs i (2 * t.val + 1) + j)⌝ ∗ arg14.view.loc (thr d i) ↦{fullShare} f)
        ∗ (arg10.view.loc (thr d i) ↦{ql} fa) ∗ ready d i arg6 I6 q6b f6 G6 (fun n => cs i (2 * n + 1)) 2608 arg15 arg20.sem (t.val) ∗ ready d i arg7 I7 q7b f7 G7 (fun n => 16 * cs i (2 * n + 1)) 41728 arg16 arg22.sem (t.val) ∗ wmInv eWm ιwm)
      ⊢ iprop((iprop(idle d i arg14 ∗ (arg10.view.loc (thr d i) ↦{ql} fa) ∗ sending d i arg6 I6 q6b f6 G6 (fun n => cs i (2 * n + 1)) 2608 arg15 arg20.sem (t.val + 1) ∗ sending d i arg7 I7 q7b f7 G7 (fun n => 16 * cs i (2 * n + 1)) 41728 arg16 arg22.sem (t.val + 1)) -∗ wp frame (wpE (defs₀ (F := F)) 𝒱₀ (thr d i) none) Set.univ (k ⟨⟩) Q)
        -∗ wp frame (wpE (defs₀ (F := F)) 𝒱₀ (thr d i) none) Set.univ (Scf.Loop.for k0_t3_loop k0_t3_ok ⟨⟩ (k0_t3_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 v1 (W 0 0) (W 0 1) (W 0 2) (W 1 0) (W 1 1) (W 1 2) (W 2 0) (W 2 1) (W 2 2) (W 3 0) (W 3 1) (W 3 2) (W 4 0) (W 4 1) (W 4 2) (W 5 0) (W 5 1) (W 5 2) (W 6 0) (W 6 1) (W 6 2) (W 7 0) (W 7 1) (W 7 2) (W 8 0) (W 8 1) (W 8 2) (W 9 0) (W 9 1) (W 9 2) (W 10 0) (W 10 1) (W 10 2) (W 11 0) (W 11 1) (W 11 2) (W 12 0) (W 12 1) (W 12 2) (W 13 0) (W 13 1) (W 13 2) (W 14 0) (W 14 1) (W 14 2) (W 15 0) (W 15 1) (W 15 2) (B 0) (B 1) (B 2) (B 3) (B 4) (B 5) (B 6) (B 7) (B 8) (B 9) (B 10) (B 11) (B 12) (B 13) (B 14) (B 15) lanes k0_pay518 k0_pay519 k0_pay521 k0_pay522 k0_pay523 2#32) >>= fun _ =>
          Prog.lift (TpuEff.enqueueDma (arg15.slice (Rect.unit (s := S3072) ![0] S2608.size inb_S3072_S2608_0) (fun _ => rfl))
            (.here (arg6.slice (Rect.unit (s := S500000) (k0_off10 i t) S2608.size (k0_off10_inb i t)) (fun _ => rfl))) (.dma arg20.sem) (View.wordExact_bits rfl) (View.wordExact_bits rfl) ⟨Or.inl rfl, trivial⟩) >>= fun _ =>
          Prog.lift (TpuEff.enqueueDma (arg16.slice (Rect.unit (s := S41984) ![0] S41728.size inb_S41984_S41728_0) (fun _ => rfl))
            (.here (arg7.slice (Rect.unit (s := S8000000) (k0_off11 i t) S41728.size (k0_off11_inb i t)) (fun _ => rfl))) (.dma arg22.sem) (View.wordExact_bits rfl) (View.wordExact_bits rfl) ⟨Or.inl rfl, trivial⟩) >>= k) Q) := by
  subst hX
  have ht := trips_lt t
  have hc : 2 * t.val + 1 < 6 := by omega
  have hle := cs_le (i := i) (2 * t.val + 1)
  unfold ready
  iintro ⟨Hx, Ha, ⟨Hm, Hwm, Hvm⟩, ⟨Hs, Hws, Hvs⟩, #Hinv⟩ Hk
  iapply (chunk_wp' arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 W B hA v1  t (st := cs i (2 * t.val + 1))) $$ [Hx Ha Hm Hs]
  · isplitl [Hx]; · iexact Hx
    isplitl [Ha]; · iexact Ha
    isplitl [Hm] <;> iassumption
  iintro ⟨Hx, Ha, Hm, Hs⟩
  iapply (wp_send 2608 (ch := fun n => cs i (2 * n + 1)) (n := t.val) (off10_cs i t) (by decide) (hI6 _ hc) (fun j hj => hG6 _ (by omega))) $$ [Hm Hwm Hvm]
  · isplitl [Hm]; · iexact Hm
    isplitl [Hwm]; · iexact Hwm
    isplitl [Hvm]; · iexact Hvm
    iexact Hinv
  iintro Hm
  iapply (wp_send 41728 (ch := fun n => 16 * cs i (2 * n + 1)) (n := t.val) (off11_cs i t) (by decide) (hI7 _ hc) (fun j hj => hG7 _ (by omega))) $$ [Hs Hws Hvs]
  · isplitl [Hs]; · iexact Hs
    isplitl [Hws]; · iexact Hws
    isplitl [Hvs]; · iexact Hvs
    iexact Hinv
  iintro Hs
  iapply Hk
  unfold sending
  isplitl [Hx]; · iexact Hx
  isplitl [Ha]; · iexact Ha
  isplitl [Hm] <;> iassumption

include hA hX hI6 hI7 hG6 hG7 in
/-- The first half of a trip. -/
theorem part37_wp (t : Fin k0_t1_loop.trips) {Q : _ → sProp 𝕄} :
    iprop(fetching d i arg2 fX qa arg11 arg17.sem (3 * cs i (2 * t.val)) ∗ parked d i arg2 fX qb arg14 arg18.sem ∗ (arg10.view.loc (thr d i) ↦{ql} fa)
        ∗ sent d i arg6 I6 q6a f6 G6 (fun n => cs i (2 * n)) 2608 arg12 arg19.sem (t.val) ∗ sent d i arg7 I7 q7a f7 G7 (fun n => 16 * cs i (2 * n)) 41728 arg13 arg21.sem (t.val) ∗ waits d i O W0
        ∗ wmInv eWm ιwm ∗ Transfers.MayWaits (thr d i) none O)
      ⊢ iprop((iprop(parked d i arg2 fX qa arg11 arg17.sem ∗ fetching d i arg2 fX qb arg14 arg18.sem (3 * cs i (2 * t.val + 1)) ∗ (arg10.view.loc (thr d i) ↦{ql} fa)
          ∗ sending d i arg6 I6 q6a f6 G6 (fun n => cs i (2 * n)) 2608 arg12 arg19.sem (t.val + 1) ∗ sending d i arg7 I7 q7a f7 G7 (fun n => 16 * cs i (2 * n)) 41728 arg13 arg21.sem (t.val + 1) ∗ waits d i O W0) -∗ Q ⟨Scf.iv 0#32 1#32 t.val, Scalar.muli 2#32 (Scf.iv 0#32 1#32 t.val)⟩)
        -∗ wp frame (wpE (defs₀ (F := F)) 𝒱₀ (thr d i) none) Set.univ (k0_part37 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 v1 (W 0 0) (W 0 1) (W 0 2) (W 1 0) (W 1 1) (W 1 2) (W 2 0) (W 2 1) (W 2 2) (W 3 0) (W 3 1) (W 3 2) (W 4 0) (W 4 1) (W 4 2) (W 5 0) (W 5 1) (W 5 2) (W 6 0) (W 6 1) (W 6 2) (W 7 0) (W 7 1) (W 7 2) (W 8 0) (W 8 1) (W 8 2) (W 9 0) (W 9 1) (W 9 2) (W 10 0) (W 10 1) (W 10 2) (W 11 0) (W 11 1) (W 11 2) (W 12 0) (W 12 1) (W 12 2) (W 13 0) (W 13 1) (W 13 2) (W 14 0) (W 14 1) (W 14 2) (W 15 0) (W 15 1) (W 15 2) (B 0) (B 1) (B 2) (B 3) (B 4) (B 5) (B 6) (B 7) (B 8) (B 9) (B 10) (B 11) (B 12) (B 13) (B 14) (B 15) lanes k0_pay518 k0_pay519 k0_pay521 k0_pay522 (k0_pay525 k0_pay523 2#32) (k0_pay526 k0_pay523 2#32) 0#32 1#32 t) Q) := by
  rw [k0_part37_eq_skeleton]
  unfold k0_part37_skel fetching parked
  dsimp only
  rw [dif_pos (cond1_true t)]
  iintro ⟨Hf, ⟨Hy, Hys, Hvy⟩, Ha, Hm, Hs, HO, #Hinv, #HM⟩ Hk
  iapply (wp_landed rfl) $$ [Hf HO]
  · isplitl [Hf]; · iexact Hf
    isplitl [HO]; · iexact HO
    iexact HM
  unfold fetched
  iintro ⟨⟨Hx, Hxs⟩, Hvx, HO⟩
  iapply (wp_fetch 7824 (off2_cs i t) (by decide)) $$ [Hy Hys Hvy]
  · isplitl [Hy]; · iexact Hy
    isplitl [Hys] <;> iassumption
  iintro Hf
  iapply (wp_drain (later_true t) (later_false t)) $$ [Hm Hs HO]
  · isplitl [Hm]; · iexact Hm
    isplitl [Hs]; · iexact Hs
    isplitl [HO]; · iexact HO
    iexact HM
  iintro ⟨Hm, Hs, HO⟩
  iapply (tailA_wp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 d W B (ql := ql) (q6a := q6a) (q7a := q7a) (f6 := f6) (f7 := f7) (ιwm := ιwm) hA hX hI6 hI7 hG6 hG7 v1 t) $$ [Hx Ha Hm Hs]
  · isplitl [Hx]; · iexact Hx
    isplitl [Ha]; · iexact Ha
    isplitl [Hm]; · iexact Hm
    isplitl [Hs]; · iexact Hs
    iexact Hinv
  iintro ⟨Hx, Ha, Hm, Hs⟩
  rw [wp_pure]
  imodintro
  iapply Hk
  unfold fetched
  isplitl [Hx Hxs Hvx]
  · isplitl [Hx]; · iexact Hx
    isplitl [Hxs] <;> iassumption
  isplitl [Hf]; · iexact Hf
  isplitl [Ha]; · iexact Ha
  isplitl [Hm]; · iexact Hm
  isplitl [Hs] <;> iassumption

include hA hX hI6 hI7 hG6 hG7 in
/-- A trip. -/
theorem trip_wp (t : Fin k0_t1_loop.trips) {Q : _ → sProp 𝕄} :
    iprop(coming d i arg2 fX qa arg11 arg17.sem (t.val) ∗ parked d i arg2 fX qb arg14 arg18.sem ∗ (arg10.view.loc (thr d i) ↦{ql} fa)
        ∗ sent d i arg6 I6 q6a f6 G6 (fun n => cs i (2 * n)) 2608 arg12 arg19.sem (t.val) ∗ sent d i arg7 I7 q7a f7 G7 (fun n => 16 * cs i (2 * n)) 41728 arg13 arg21.sem (t.val)
        ∗ sent d i arg6 I6 q6b f6 G6 (fun n => cs i (2 * n + 1)) 2608 arg15 arg20.sem (t.val) ∗ sent d i arg7 I7 q7b f7 G7 (fun n => 16 * cs i (2 * n + 1)) 41728 arg16 arg22.sem (t.val) ∗ waits d i O W0
        ∗ wmInv eWm ιwm ∗ Transfers.MayWaits (thr d i) none O)
      ⊢ iprop((iprop(coming d i arg2 fX qa arg11 arg17.sem (t.val + 1) ∗ parked d i arg2 fX qb arg14 arg18.sem ∗ (arg10.view.loc (thr d i) ↦{ql} fa)
        ∗ sending d i arg6 I6 q6a f6 G6 (fun n => cs i (2 * n)) 2608 arg12 arg19.sem (t.val + 1) ∗ sending d i arg7 I7 q7a f7 G7 (fun n => 16 * cs i (2 * n)) 41728 arg13 arg21.sem (t.val + 1)
        ∗ sending d i arg6 I6 q6b f6 G6 (fun n => cs i (2 * n + 1)) 2608 arg15 arg20.sem (t.val + 1) ∗ sending d i arg7 I7 q7b f7 G7 (fun n => 16 * cs i (2 * n + 1)) 41728 arg16 arg22.sem (t.val + 1) ∗ waits d i O W0) -∗ Q ⟨⟩)
        -∗ wp frame (wpE (defs₀ (F := F)) 𝒱₀ (thr d i) none) Set.univ (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 v1 (W 0 0) (W 0 1) (W 0 2) (W 1 0) (W 1 1) (W 1 2) (W 2 0) (W 2 1) (W 2 2) (W 3 0) (W 3 1) (W 3 2) (W 4 0) (W 4 1) (W 4 2) (W 5 0) (W 5 1) (W 5 2) (W 6 0) (W 6 1) (W 6 2) (W 7 0) (W 7 1) (W 7 2) (W 8 0) (W 8 1) (W 8 2) (W 9 0) (W 9 1) (W 9 2) (W 10 0) (W 10 1) (W 10 2) (W 11 0) (W 11 1) (W 11 2) (W 12 0) (W 12 1) (W 12 2) (W 13 0) (W 13 1) (W 13 2) (W 14 0) (W 14 1) (W 14 2) (W 15 0) (W 15 1) (W 15 2) (B 0) (B 1) (B 2) (B 3) (B 4) (B 5) (B 6) (B 7) (B 8) (B 9) (B 10) (B 11) (B 12) (B 13) (B 14) (B 15) lanes k0_pay518 k0_pay519 k0_pay521 k0_pay522 k0_pay523 2#32 t ⟨⟩) Q) := by
  have ht3 := trips_lt t
  unfold k0_t1_body coming
  dsimp only
  rw [if_pos ht3, show (if t.val + 1 < 3 then fetching d i arg2 fX qa arg11 arg17.sem (3 * cs i (2 * (t.val + 1))) else parked d i arg2 fX qa arg11 arg17.sem) = coming d i arg2 fX qa arg11 arg17.sem (t.val + 1) from rfl]
  iintro ⟨Hf, Hy, Ha, Hma, Hsa, Hm, Hs, HO, #Hinv, #HM⟩ Hk
  rw [wp_bind]
  iapply (part37_wp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 d W B (ql := ql) (qa := qa) (qb := qb) (q6a := q6a) (q7a := q7a) (f6 := f6) (f7 := f7) (ιwm := ιwm) (O := O) (W0 := W0) hA hX hI6 hI7 hG6 hG7 v1 t) $$ [Hf Hy Ha Hma Hsa HO]
  · isplitl [Hf]; · iexact Hf
    isplitl [Hy]; · iexact Hy
    isplitl [Ha]; · iexact Ha
    isplitl [Hma]; · iexact Hma
    isplitl [Hsa]; · iexact Hsa
    isplitl [HO]; · iexact HO
    isplitr; · iexact Hinv
    iexact HM
  iintro ⟨Hf, Hy, Ha, Hma, Hsa, HO⟩
  dsimp only
  unfold fetching
  iapply (wp_landed rfl) $$ [Hy HO]
  · isplitl [Hy]; · iexact Hy
    isplitl [HO]; · iexact HO
    iexact HM
  unfold fetched
  iintro ⟨⟨Hy, Hys⟩, Hvy, HO⟩
  iapply (wp_next (n := t.val + 1) (fun h => cond3_true t (by omega)) (fun h => cond3_false t (by omega)) (off7_cs i t)) $$ [Hf]
  · iexact Hf
  iintro Hf
  iapply (wp_drain (later_true t) (later_false t)) $$ [Hm Hs HO]
  · isplitl [Hm]; · iexact Hm
    isplitl [Hs]; · iexact Hs
    isplitl [HO]; · iexact HO
    iexact HM
  iintro ⟨Hm, Hs, HO⟩
  iapply (tailB_wp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 d W B (ql := ql) (q6b := q6b) (q7b := q7b) (f6 := f6) (f7 := f7) (ιwm := ιwm) hA hX hI6 hI7 hG6 hG7 v1 t) $$ [Hy Ha Hm Hs]
  · isplitl [Hy]; · iexact Hy
    isplitl [Ha]; · iexact Ha
    isplitl [Hm]; · iexact Hm
    isplitl [Hs]; · iexact Hs
    iexact Hinv
  iintro ⟨Hy, Ha, Hm, Hs⟩
  rw [wp_pure]
  imodintro
  iapply Hk
  unfold parked
  isplitl [Hf]; · iexact Hf
  isplitl [Hy Hys Hvy]
  · isplitl [Hy]; · iexact Hy
    isplitl [Hys] <;> iassumption
  isplitl [Ha]; · iexact Ha
  isplitl [Hma]; · iexact Hma
  isplitl [Hsa]; · iexact Hsa
  isplitl [Hm]; · iexact Hm
  isplitl [Hs] <;> iassumption

end Cert.Proof.Tile
-- ==== Proof.Tables.lean ====
/-
  A tile's program: the three tables copied in and read, then the loop over the six chunks. The tile's region of each output
  is in write mode meanwhile, one half of the share for the even chunks and one for the odd, and back at the results' values
  when the last chunk has landed.
-/
module

public import proofs.«01_k».proof.Proof.Loop

@[expose] public section

set_option synthInstance.maxSize 4096

noncomputable section

namespace Cert.Proof.Tile

open Cert.KernelIdeal Cert.KernelIdeal.Gen Cert.Proof.Value

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ (UU F) ℕ

/-! ## A whole array copied at once -/

/-- A whole array copied into a whole scratch, and waited for. -/
theorem wp_copy {d : Dev nD} {i : grid0.Coords} {N : ℕ} {src : Memref sig .scVector .hbm (⟨1, ![N]⟩ : Shape) .f32} {dst : Memref sig .scVector .vmem (⟨1, ![N]⟩ : Shape) .f32}
    {fs : Buf (Elt F) (src.view.loc (thr d i))} {q : PosShare TreeShare} {sem : DmaSem sig} {hsrc hdst hsem hsrc' hdst'} {α : Type}
    {k : PUnit → Prog (TpuEff nD τ sig (Elt F) Λ₀ (thr d i).2) α} {Q : α → sProp 𝕄} {O : CellTallies nD τ sig (HIx 1)} {W : Waits sig (HIx 1)}
    (hs : 0 < (⟨1, ![N]⟩ : Shape).numel) :
    iprop((src.view.loc (thr d i) ↦{q} fs) ∗ idle d i dst ∗ semVal (thr d i, SemLoc.dma sem) 0 ∗ waits d i O W ∗ Transfers.MayWaits (thr d i) none O)
      ⊢ iprop((iprop((src.view.loc (thr d i) ↦{q} fs)
            ∗ (∃ f : Buf (Elt F) (dst.view.loc (thr d i)), ⌜dst.view.read (Elt F) f = src.view.read (Elt F) fs⌝ ∗ dst.view.loc (thr d i) ↦{fullShare} f)
            ∗ semVal (thr d i, SemLoc.dma sem) 0 ∗ waits d i O W) -∗ wp frame (wpE (defs₀ (F := F)) 𝒱₀ (thr d i) none) Set.univ (k ⟨⟩) Q)
        -∗ wp frame (wpE (defs₀ (F := F)) 𝒱₀ (thr d i) none) Set.univ (Prog.lift (TpuEff.enqueueDma src (.here dst) (.dma sem) hsrc hdst hsem) >>= fun _ =>
            Prog.lift (TpuEff.waitDma2 sem src dst hsrc' hdst') >>= k) Q) := by
  unfold idle
  iintro ⟨Hs, ⟨%f, Hb⟩, Hv, HO, #HM⟩ Hk
  ihave Hs' := (pointsTo_split_subset (Finset.subset_univ src.view.set)).1 $$ Hs
  icases Hs' with ⟨Hs1, Hs2⟩
  iapply (wp_move (src := src) (dst := dst) (q := q) (fs := fs)
    (R := iprop((dst.view.loc (thr d i) ↦{fullShare} (dst.view.write (Elt F) f (src.view.read (Elt F) fs) Finset.univ))
      ∗ (src.view.loc (thr d i) ↦[Finset.univ \ src.view.set]{q} fs))) hs) $$ [Hs1 Hs2 Hb Hv]
  · isplitl [Hs1]; · iexact Hs1
    isplitl [Hs2 Hb]
    · iapply (writeUpdate_frame (thr d i))
      isplitl [Hb]
      · iapply (pointsTo_writeUpdate (thr d i) (v := dst.view) (Finset.subset_univ _)) $$ Hb
      · iexact Hs2
    · iexact Hv
  iintro Hf
  iapply (wp_landed (N := dst.view.dmaCredit) rfl) $$ [Hf HO]
  · isplitl [Hf]; · iexact Hf
    isplitl [HO]; · iexact HO
    iexact HM
  iintro ⟨⟨⟨Hb, Hs2⟩, Hs1⟩, Hv, HO⟩
  iapply Hk
  isplitl [Hs1 Hs2]
  · iapply (pointsTo_split_subset (Finset.subset_univ src.view.set)).2
    isplitl [Hs1] <;> iassumption
  isplitl [Hb]
  · iexists (dst.view.write (Elt F) f (src.view.read (Elt F) fs) Finset.univ)
    isplitr
    · ipureintro
      exact View.read_write_univ _ _
    · iexact Hb
  isplitl [Hv] <;> iassumption

/-! ## The tables' numbers -/

/-- The sixteen elements from `s` on. -/
def vt {N : ℕ} [NeZero N] (w : (⟨1, ![N]⟩ : Shape).Idx → F .f32) (s : ℕ) : FVec F S16 .f32 := fun j => rd w (s + (j 0).val)

/-- The plane table: coordinate `e` of plane `k`. -/
def tabW (w : S48.Idx → F .f32) (k e : ℕ) : F .f32 := rd (N := 16) (vt (N := 48) w (16 * e)) k

/-- The offset of plane `k`. -/
def tabB (b : S16.Idx → F .f32) (k : ℕ) : F .f32 := rd (N := 16) (vt (N := 16) b 0) k

theorem load_vt {N : ℕ} [NeZero N] (m : Memref sig .scVector .vmem (⟨1, ![N]⟩ : Shape) .f32) (f : m.view.ty.Contents (Elt F)) {s : ℕ}
    {inb : ∀ a, (![s] : Fin 1 → ℕ) a + S16.size a ≤ (⟨1, ![N]⟩ : Shape).size a} :
    m.view.readAt (Elt F) (Rect.unit (s := (⟨1, ![N]⟩ : Shape)) ![s] S16.size inb).toLoadRect f = vt (m.view.read (Elt F) f) s := by
  funext j
  refine (rd_eq (α := F .f32) (m.view.read (Elt F) f) ((Rect.unit (s := (⟨1, ![N]⟩ : Shape)) ![s] S16.size inb).emb j) ?_).symm
  show s + 1 * (j 0).val = s + (j 0).val
  rw [Nat.one_mul]

/-- Sixteen elements loaded. -/
theorem wp_vt {d : Dev nD} {i : grid0.Coords} {N : ℕ} [NeZero N] {m : Memref sig .scVector .vmem (⟨1, ![N]⟩ : Shape) .f32} {f : Buf (Elt F) (m.view.loc (thr d i))}
    {w : (⟨1, ![N]⟩ : Shape).Idx → F .f32} (hw : m.view.read (Elt F) f = w) {s : ℕ} {inb : ∀ a, (![s] : Fin 1 → ℕ) a + S16.size a ≤ (⟨1, ![N]⟩ : Shape).size a}
    {hl : m.view.LoadsAt (Rect.unit (s := (⟨1, ![N]⟩ : Shape)) ![s] S16.size inb).toLoadRect} {α : Type} {k : Vec F S16 .f32 → Prog (TpuEff nD τ sig (Elt F) Λ₀ (thr d i).2) α} {Q : α → sProp 𝕄} :
    (m.view.loc (thr d i) ↦{fullShare} f)
      ⊢ iprop(((m.view.loc (thr d i) ↦{fullShare} f) -∗ wp frame (wpE (defs₀ (F := F)) 𝒱₀ (thr d i) none) Set.univ (k (vt w s)) Q)
        -∗ wp frame (wpE (defs₀ (F := F)) 𝒱₀ (thr d i) none) Set.univ (Prog.lift (TpuEff.load m (Rect.unit (s := (⟨1, ![N]⟩ : Shape)) ![s] S16.size inb).toLoadRect hl) >>= k) Q) := by
  subst hw
  rw [← load_vt m f (inb := inb)]
  simp only [Prog.lift, Prog.bind_op, Prog.bind_ret]
  exact wp_load 𝒱₀ (thr d i) none Set.univ (m := m) (S := Finset.univ) (Finset.subset_univ _)

theorem pick (v : FVec F S16 .f32) {k : ℕ} (h2 : (S16 : Shape).Slices ![k] S1) {h3} :
    extractAt ![0] (extractStridedSlice S1 ![k] v h2) h3 = rd (N := 16) v k := by
  refine (rd_eq (N := 16) (α := F .f32) v _ ?_).symm
  rfl

theorem tab_at0 (w : S48.Idx → F .f32) {k : ℕ} (h2 : (S16 : Shape).Slices ![k] S1) {h3} :
    extractAt ![0] (extractStridedSlice S1 ![k] (vt (N := 48) w 0) h2) h3 = tabW w k 0 := pick _ h2
theorem tab_at1 (w : S48.Idx → F .f32) {k : ℕ} (h2 : (S16 : Shape).Slices ![k] S1) {h3} :
    extractAt ![0] (extractStridedSlice S1 ![k] (vt (N := 48) w 16) h2) h3 = tabW w k 1 := pick _ h2
theorem tab_at2 (w : S48.Idx → F .f32) {k : ℕ} (h2 : (S16 : Shape).Slices ![k] S1) {h3} :
    extractAt ![0] (extractStridedSlice S1 ![k] (vt (N := 48) w 32) h2) h3 = tabW w k 2 := pick _ h2
theorem tab_atB (b : S16.Idx → F .f32) {k : ℕ} (h2 : (S16 : Shape).Slices ![k] S1) {h3} :
    extractAt ![0] (extractStridedSlice S1 ![k] (vt (N := 16) b 0) h2) h3 = tabB b k := pick _ h2

variable (i : grid0.Coords) (arg2 : Memref sig .scVector .hbm S1500000 .f32) (harg2 : arg2.IsWhole) (arg3 : Memref sig .scVector .hbm S48 .f32) (harg3 : arg3.IsWhole) (arg4 : Memref sig .scVector .hbm S16 .f32) (harg4 : arg4.IsWhole) (arg5 : Memref sig .scVector .hbm S768 .f32) (harg5 : arg5.IsWhole) (arg6 : Memref sig .scVector .hbm S500000 .f32) (harg6 : arg6.IsWhole) (arg7 : Memref sig .scVector .hbm S8000000 .f32) (harg7 : arg7.IsWhole) (arg8 : Memref sig .scVector .vmem S48 .f32) (harg8 : arg8.IsWhole) (arg9 : Memref sig .scVector .vmem S16 .f32) (harg9 : arg9.IsWhole) (arg10 : Memref sig .scVector .vmem S768 .f32) (harg10 : arg10.IsWhole) (arg11 : Memref sig .scVector .vmem S8192 .f32) (harg11 : arg11.IsWhole) (arg12 : Memref sig .scVector .vmem S3072 .f32) (harg12 : arg12.IsWhole) (arg13 : Memref sig .scVector .vmem S41984 .f32) (harg13 : arg13.IsWhole) (arg14 : Memref sig .scVector .vmem S8192 .f32) (harg14 : arg14.IsWhole) (arg15 : Memref sig .scVector .vmem S3072 .f32) (harg15 : arg15.IsWhole) (arg16 : Memref sig .scVector .vmem S41984 .f32) (harg16 : arg16.IsWhole) (arg17 : DmaSems sig S_) (arg18 : DmaSems sig S_) (arg19 : DmaSems sig S_) (arg20 : DmaSems sig S_) (arg21 : DmaSems sig S_) (arg22 : DmaSems sig S_) (v189_r0 : DmaSems sig S_) (v189_r1 : DmaSems sig S_) (v189_r2 : DmaSems sig S_)

theorem part39_eq (wd : S48.Idx → F .f32) (bd : S16.Idx → F .f32) :
    k0_part39 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 (vt (N := 48) wd 0) (vt (N := 48) wd 16) (vt (N := 48) wd 32) (vt (N := 16) bd 0) (k0_pay469 (vt (N := 48) wd 0))
      = pure ⟨tabW wd 6 0, tabW wd 6 1, tabW wd 6 2, tabW wd 7 0, tabW wd 7 1, tabW wd 7 2, tabW wd 8 0, tabW wd 8 1, tabW wd 8 2, tabW wd 9 0, tabW wd 9 1, tabW wd 9 2, tabW wd 10 0, tabW wd 10 1, tabW wd 10 2, tabW wd 11 0, tabW wd 11 1, tabW wd 11 2, tabW wd 12 0, tabW wd 12 1, tabW wd 12 2, tabW wd 13 0, tabW wd 13 1, tabW wd 13 2, tabW wd 14 0, tabW wd 14 1, tabW wd 14 2, tabW wd 15 0, tabW wd 15 1, tabW wd 15 2, k0_pay500 (vt (N := 16) bd 0)⟩ := by
  rw [k0_part39_eq_skeleton]
  unfold k0_part39_skel
  simp only [k0_pay470, k0_pay471, k0_pay472, k0_pay473, k0_pay474, k0_pay475, k0_pay476, k0_pay477, k0_pay478, k0_pay479, k0_pay480, k0_pay481, k0_pay482, k0_pay483, k0_pay484, k0_pay485, k0_pay486, k0_pay487, k0_pay488, k0_pay489, k0_pay490, k0_pay491, k0_pay492, k0_pay493, k0_pay494, k0_pay495, k0_pay496, k0_pay497, k0_pay498, k0_pay499, k0_pay469, k0_pay447, shapeCast_self, tab_at0, tab_at1, tab_at2, tab_atB]

theorem part40_eq (bd : S16.Idx → F .f32) :
    k0_part40 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 (vt (N := 16) bd 0) (k0_pay500 (vt (N := 16) bd 0))
      = pure ⟨tabB bd 0, tabB bd 1, tabB bd 2, tabB bd 3, tabB bd 4, tabB bd 5, tabB bd 6, tabB bd 7, tabB bd 8, tabB bd 9, tabB bd 10, tabB bd 11, tabB bd 12, tabB bd 13, tabB bd 14, tabB bd 15, lanes, k0_pay518, k0_pay519, k0_pay521, k0_pay522, k0_pay523, 2#32⟩ := by
  rw [k0_part40_eq_skeleton]
  unfold k0_part40_skel
  simp only [k0_pay501, k0_pay502, k0_pay503, k0_pay504, k0_pay505, k0_pay506, k0_pay507, k0_pay508, k0_pay509, k0_pay510, k0_pay511, k0_pay512, k0_pay513, k0_pay514, k0_pay515, k0_pay516, k0_pay500, tab_atB]
  rfl

/-- The tables in. -/
theorem part38_wp (d : Dev nD) {q3 q4 q5 : PosShare TreeShare} {fw : Buf (Elt F) (arg3.view.loc (thr d i))} {fb : Buf (Elt F) (arg4.view.loc (thr d i))} {fA : Buf (Elt F) (arg5.view.loc (thr d i))}
    {wd : S48.Idx → F .f32} {bd : S16.Idx → F .f32} {A : S768.Idx → F .f32} (hw : arg3.view.read (Elt F) fw = wd) (hb : arg4.view.read (Elt F) fb = bd) (hA : arg5.view.read (Elt F) fA = A)
    {O : CellTallies nD τ sig (HIx 1)} {W0 : Waits sig (HIx 1)} {Q : _ → sProp 𝕄} :
    iprop((arg3.view.loc (thr d i) ↦{q3} fw) ∗ (arg4.view.loc (thr d i) ↦{q4} fb) ∗ (arg5.view.loc (thr d i) ↦{q5} fA) ∗ idle d i arg8 ∗ idle d i arg9 ∗ idle d i arg10 ∗ semVal (thr d i, SemLoc.dma v189_r0.sem) 0 ∗ semVal (thr d i, SemLoc.dma v189_r1.sem) 0 ∗ semVal (thr d i, SemLoc.dma v189_r2.sem) 0 ∗ waits d i O W0 ∗ Transfers.MayWaits (thr d i) none O)
      ⊢ iprop((iprop((arg3.view.loc (thr d i) ↦{q3} fw) ∗ (arg4.view.loc (thr d i) ↦{q4} fb) ∗ (arg5.view.loc (thr d i) ↦{q5} fA) ∗ idle d i arg8 ∗ idle d i arg9
          ∗ (∃ fa : Buf (Elt F) (arg10.view.loc (thr d i)), ⌜arg10.view.read (Elt F) fa = A⌝ ∗ arg10.view.loc (thr d i) ↦{fullShare} fa) ∗ semVal (thr d i, SemLoc.dma v189_r0.sem) 0 ∗ semVal (thr d i, SemLoc.dma v189_r1.sem) 0 ∗ semVal (thr d i, SemLoc.dma v189_r2.sem) 0 ∗ waits d i O W0)
          -∗ Q ⟨Scalar.addi (Scalar.muli (BitVec.ofNat 32 (i 1).val) 2#32) (BitVec.ofNat 32 (i 0).val), vt (N := 48) wd 0, vt (N := 48) wd 16, vt (N := 48) wd 32, vt (N := 16) bd 0, tabW wd 0 0, tabW wd 0 1, tabW wd 0 2, tabW wd 1 0, tabW wd 1 1, tabW wd 1 2, tabW wd 2 0, tabW wd 2 1, tabW wd 2 2, tabW wd 3 0, tabW wd 3 1, tabW wd 3 2, tabW wd 4 0, tabW wd 4 1, tabW wd 4 2, tabW wd 5 0, tabW wd 5 1, tabW wd 5 2, k0_pay469 (vt (N := 48) wd 0)⟩)
        -∗ wp frame (wpE (defs₀ (F := F)) 𝒱₀ (thr d i) none) Set.univ (k0_part38 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2) Q) := by
  subst hw hb hA
  rw [k0_part38_eq_skeleton]
  unfold k0_part38_skel
  dsimp only
  iintro ⟨H3, H4, H5, H8, H9, H10, Hv0, Hv1, Hv2, HO, #HM⟩ Hk
  iapply (wp_copy (by decide)) $$ [H3 H8 Hv0 HO]
  · isplitl [H3]; · iexact H3
    isplitl [H8]; · iexact H8
    isplitl [Hv0]; · iexact Hv0
    isplitl [HO]; · iexact HO
    iexact HM
  iintro ⟨H3, ⟨%f8, %h8, H8⟩, Hv0, HO⟩
  iapply (wp_copy (by decide)) $$ [H4 H9 Hv1 HO]
  · isplitl [H4]; · iexact H4
    isplitl [H9]; · iexact H9
    isplitl [Hv1]; · iexact Hv1
    isplitl [HO]; · iexact HO
    iexact HM
  iintro ⟨H4, ⟨%f9, %h9, H9⟩, Hv1, HO⟩
  iapply (wp_copy (by decide)) $$ [H5 H10 Hv2 HO]
  · isplitl [H5]; · iexact H5
    isplitl [H10]; · iexact H10
    isplitl [Hv2]; · iexact Hv2
    isplitl [HO]; · iexact HO
    iexact HM
  iintro ⟨H5, H10, Hv2, HO⟩
  iapply (wp_vt h8) $$ H8
  iintro H8
  iapply (wp_vt h8) $$ H8
  iintro H8
  iapply (wp_vt h8) $$ H8
  iintro H8
  iapply (wp_vt h9) $$ H9
  iintro H9
  simp only [k0_pay447, k0_pay448, k0_pay449, k0_pay450, k0_pay451, k0_pay452, k0_pay453, k0_pay454, k0_pay455, k0_pay456, k0_pay457, k0_pay458, k0_pay459, k0_pay460, k0_pay461, k0_pay462, k0_pay463, k0_pay464, k0_pay465, k0_pay466, k0_pay467, k0_pay468, shapeCast_self, tab_at0, tab_at1, tab_at2]
  rw [wp_pure]
  imodintro
  iapply Hk
  isplitl [H3]; · iexact H3
  isplitl [H4]; · iexact H4
  isplitl [H5]; · iexact H5
  unfold idle
  isplitl [H8]; · iexists f8; iexact H8
  isplitl [H9]; · iexists f9; iexact H9
  isplitl [H10]; · iexact H10
  isplitl [Hv0]; · iexact Hv0
  isplitl [Hv1]; · iexact Hv1
  isplitl [Hv2] <;> iassumption

end Cert.Proof.Tile
-- ==== Proof.Six.lean ====
/-
  A tile's program. The tile's region of each output is in write mode while the chunks land, one half of the share for the even
  chunks and one for the odd: the last tile's last two chunks overlap. When all have landed the region is back, at the results' values.
-/
module

public import proofs.«01_k».proof.Proof.Tables

@[expose] public section

set_option synthInstance.maxSize 4096

noncomputable section

namespace Cert.Proof.Tile

open Cert.KernelIdeal Cert.KernelIdeal.Gen Cert.Proof.Value

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ (UU F) ℕ

theorem three_trips : k0_t1_loop.trips = 3 := by decide +kernel

theorem sent_succ {d : Dev nD} {i : grid0.Coords} {M N : ℕ} [NeZero M] {dst : Memref sig .scVector .hbm (⟨1, ![M]⟩ : Shape) .f32} {I : Finset (Idx (dst.view.loc (thr d i)))}
    {q : PosShare TreeShare} {f0 G : Buf (Elt F) (dst.view.loc (thr d i))} {ch : ℕ → ℕ} {L : ℕ} {buf : Memref sig .scVector .vmem (⟨1, ![N]⟩ : Shape) .f32}
    {sem : DmaSem sig} {n : ℕ} : sending d i dst I q f0 G ch L buf sem (n + 1) ⊢ sent d i dst I q f0 G ch L buf sem (n + 1) :=
  Entails.of_eq (if_neg (Nat.succ_ne_zero n)).symm

/-! ## The regions into write mode and back -/

theorem wm_in {d : Dev nD} {i : grid0.Coords} {M : ℕ} [NeZero M] (dst : Memref sig .scVector .hbm (⟨1, ![M]⟩ : Shape) .f32) {I : Finset (Idx (dst.view.loc (thr d i)))}
    {f0 G : Buf (Elt F) (dst.view.loc (thr d i))} (ch ch' : ℕ → ℕ) (L : ℕ) {ιwm : ℕ} :
    (iprop(wmInv eWm ιwm ∗ (dst.view.loc (thr d i) ↦[I]{fullShare} f0)) : sProp 𝕄)
      ⊢ iprop(|={Set.univ}=> (wmOut d i dst I fullShare.left f0 G ch L 0 ∗ wmOut d i dst I fullShare.right f0 G ch' L 0)) := by
  iintro H
  imod (pointsTo_castIn (emb := eWm) (fun x => some (G x))) $$ H with Hw
  imodintro
  unfold wmOut
  rw [← Finset.empty_union (∅ : Finset (Idx (dst.view.loc (thr d i))))]
  ihave Hw := (willBe_halves _ I fullShare f0 (fun x => some (G x)) ∅ ∅).1 $$ Hw
  icases Hw with ⟨H1, H2⟩
  isplitl [H1]
  · iexists ∅
    isplitr
    · ipureintro
      intro c hc
      exact absurd hc (Nat.not_lt_zero c)
    · iexact H1
  · iexists ∅
    isplitr
    · ipureintro
      intro c hc
      exact absurd hc (Nat.not_lt_zero c)
    · iexact H2

theorem wm_out {d : Dev nD} {i : grid0.Coords} {M : ℕ} [NeZero M] (dst : Memref sig .scVector .hbm (⟨1, ![M]⟩ : Shape) .f32) {I : Finset (Idx (dst.view.loc (thr d i)))}
    {f0 G : Buf (Elt F) (dst.view.loc (thr d i))} {ch : ℕ → ℕ} {L : ℕ} {ιwm : ℕ}
    (hcov : ∀ x, x ∈ I → ∃ c, c < 6 ∧ ∃ j, j < L ∧ dst.view.emb (ix M (ch c + j)) = x) :
    (iprop(wmInv eWm ιwm ∗ wmOut d i dst I fullShare.left f0 G (fun n => ch (2 * n)) L 3 ∗ wmOut d i dst I fullShare.right f0 G (fun n => ch (2 * n + 1)) L 3) : sProp 𝕄)
      ⊢ iprop(|={Set.univ}=> (dst.view.loc (thr d i) ↦[I]{fullShare} G)) := by
  unfold wmOut
  iintro ⟨#Hinv, ⟨%W1, %h1, H1⟩, ⟨%W2, %h2, H2⟩⟩
  ihave Hw := (willBe_halves _ I fullShare f0 (fun x => some (G x)) W1 W2).2 $$ [H1 H2]
  · isplitl [H1] <;> iassumption
  imod (willBeTo_castOut_some (emb := eWm) (ιwm := ιwm)) $$ [Hw] with Hp
  · isplitr; · iexact Hinv
    iexact Hw
  imodintro
  iapply (Entails.of_eq (pointsTo_congr (fun x hx => ?_))) $$ Hp
  obtain ⟨c, hc, j, hj, rfl⟩ := hcov x hx
  refine Finset.piecewise_eq_of_mem _ _ _ (Finset.mem_union.mpr ?_)
  rcases Nat.even_or_odd' c with ⟨n, rfl | rfl⟩
  · exact Or.inl (h1 n (by omega) j hj)
  · exact Or.inr (h2 n (by omega) j hj)

variable (i : grid0.Coords) (arg2 : Memref sig .scVector .hbm S1500000 .f32) (harg2 : arg2.IsWhole) (arg3 : Memref sig .scVector .hbm S48 .f32) (harg3 : arg3.IsWhole) (arg4 : Memref sig .scVector .hbm S16 .f32) (harg4 : arg4.IsWhole) (arg5 : Memref sig .scVector .hbm S768 .f32) (harg5 : arg5.IsWhole) (arg6 : Memref sig .scVector .hbm S500000 .f32) (harg6 : arg6.IsWhole) (arg7 : Memref sig .scVector .hbm S8000000 .f32) (harg7 : arg7.IsWhole) (arg8 : Memref sig .scVector .vmem S48 .f32) (harg8 : arg8.IsWhole) (arg9 : Memref sig .scVector .vmem S16 .f32) (harg9 : arg9.IsWhole) (arg10 : Memref sig .scVector .vmem S768 .f32) (harg10 : arg10.IsWhole) (arg11 : Memref sig .scVector .vmem S8192 .f32) (harg11 : arg11.IsWhole) (arg12 : Memref sig .scVector .vmem S3072 .f32) (harg12 : arg12.IsWhole) (arg13 : Memref sig .scVector .vmem S41984 .f32) (harg13 : arg13.IsWhole) (arg14 : Memref sig .scVector .vmem S8192 .f32) (harg14 : arg14.IsWhole) (arg15 : Memref sig .scVector .vmem S3072 .f32) (harg15 : arg15.IsWhole) (arg16 : Memref sig .scVector .vmem S41984 .f32) (harg16 : arg16.IsWhole) (arg17 : DmaSems sig S_) (arg18 : DmaSems sig S_) (arg19 : DmaSems sig S_) (arg20 : DmaSems sig S_) (arg21 : DmaSems sig S_) (arg22 : DmaSems sig S_) (v189_r0 : DmaSems sig S_) (v189_r1 : DmaSems sig S_) (v189_r2 : DmaSems sig S_)
variable (d : Dev nD) (W : ℕ → ℕ → F .f32) (B : ℕ → F .f32) {ql qa qb q6a q6b q7a q7b : PosShare TreeShare} {A : S768.Idx → F .f32}
  {fa : Buf (Elt F) (arg10.view.loc (thr d i))} (hA : arg10.view.read (Elt F) fa = A) {fX : Buf (Elt F) (arg2.view.loc (thr d i))}
  {xs : S1500000.Idx → F .f32} (hX : arg2.view.read (Elt F) fX = xs)
  {I6 : Finset (Idx (arg6.view.loc (thr d i)))} {f6 G6 : Buf (Elt F) (arg6.view.loc (thr d i))}
  {I7 : Finset (Idx (arg7.view.loc (thr d i)))} {f7 G7 : Buf (Elt F) (arg7.view.loc (thr d i))}
  (hI6 : ∀ c, c < 6 → ∀ j, j < 2608 → arg6.view.emb (ix 500000 (cs i c + j)) ∈ I6)
  (hI7 : ∀ c, c < 6 → ∀ j, j < 41728 → arg7.view.emb (ix 8000000 (16 * cs i c + j)) ∈ I7)
  (hG6 : ∀ p, p < 500000 → tMin W B xs p = rd (α := F .f32) (arg6.view.read (Elt F) G6) p)
  (hG7 : ∀ e, e < 8000000 → tSel W B A xs e = rd (α := F .f32) (arg7.view.read (Elt F) G7) e)
  {ιwm : ℕ} {O : CellTallies nD τ sig (HIx 1)} {W0 : Waits sig (HIx 1)} (v1 : BitVec 32)

include hA hX hI6 hI7 hG6 hG7 in
/-- The six chunks, all but the last of the rows landed. -/
theorem part41_wp {Q : _ → sProp 𝕄} :
    iprop(parked d i arg2 fX qa arg11 arg17.sem ∗ parked d i arg2 fX qb arg14 arg18.sem ∗ (arg10.view.loc (thr d i) ↦{ql} fa)
        ∗ ready d i arg6 I6 q6a f6 G6 (fun n => cs i (2 * n)) 2608 arg12 arg19.sem (0) ∗ ready d i arg7 I7 q7a f7 G7 (fun n => 16 * cs i (2 * n)) 41728 arg13 arg21.sem (0)
        ∗ ready d i arg6 I6 q6b f6 G6 (fun n => cs i (2 * n + 1)) 2608 arg15 arg20.sem (0) ∗ ready d i arg7 I7 q7b f7 G7 (fun n => 16 * cs i (2 * n + 1)) 41728 arg16 arg22.sem (0) ∗ waits d i O W0
        ∗ wmInv eWm ιwm ∗ Transfers.MayWaits (thr d i) none O)
      ⊢ iprop((iprop(parked d i arg2 fX qa arg11 arg17.sem ∗ parked d i arg2 fX qb arg14 arg18.sem ∗ (arg10.view.loc (thr d i) ↦{ql} fa)
        ∗ ready d i arg6 I6 q6a f6 G6 (fun n => cs i (2 * n)) 2608 arg12 arg19.sem (3) ∗ ready d i arg7 I7 q7a f7 G7 (fun n => 16 * cs i (2 * n)) 41728 arg13 arg21.sem (3)
        ∗ ready d i arg6 I6 q6b f6 G6 (fun n => cs i (2 * n + 1)) 2608 arg15 arg20.sem (3) ∗ sending d i arg7 I7 q7b f7 G7 (fun n => 16 * cs i (2 * n + 1)) 41728 arg16 arg22.sem (3) ∗ waits d i O W0) -∗ Q ⟨⟩)
        -∗ wp frame (wpE (defs₀ (F := F)) 𝒱₀ (thr d i) none) Set.univ (k0_part41 (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 v1 (W 0 0) (W 0 1) (W 0 2) (W 1 0) (W 1 1) (W 1 2) (W 2 0) (W 2 1) (W 2 2) (W 3 0) (W 3 1) (W 3 2) (W 4 0) (W 4 1) (W 4 2) (W 5 0) (W 5 1) (W 5 2) (W 6 0) (W 6 1) (W 6 2) (W 7 0) (W 7 1) (W 7 2) (W 8 0) (W 8 1) (W 8 2) (W 9 0) (W 9 1) (W 9 2) (W 10 0) (W 10 1) (W 10 2) (W 11 0) (W 11 1) (W 11 2) (W 12 0) (W 12 1) (W 12 2) (W 13 0) (W 13 1) (W 13 2) (W 14 0) (W 14 1) (W 14 2) (W 15 0) (W 15 1) (W 15 2) (B 0) (B 1) (B 2) (B 3) (B 4) (B 5) (B 6) (B 7) (B 8) (B 9) (B 10) (B 11) (B 12) (B 13) (B 14) (B 15) lanes k0_pay518 k0_pay519 k0_pay521 k0_pay522 k0_pay523 2#32) Q) := by
  rw [k0_part41_eq_skeleton]
  unfold k0_part41_skel
  dsimp only
  iintro ⟨Hp, Hy, Ha, Hma, Hsa, Hmb, Hsb, HO, #Hinv, #HM⟩ Hk
  unfold parked
  icases Hp with ⟨Hx, Hxs, Hvx⟩
  iapply (wp_fetch 7824 (off1_cs i) (by decide)) $$ [Hx Hxs Hvx]
  · isplitl [Hx]; · iexact Hx
    isplitl [Hxs] <;> iassumption
  iintro Hf
  let I : ℕ → Unit → sProp 𝕄 := fun n _ => iprop(coming d i arg2 fX qa arg11 arg17.sem n ∗ parked d i arg2 fX qb arg14 arg18.sem ∗ (arg10.view.loc (thr d i) ↦{ql} fa)
    ∗ sent d i arg6 I6 q6a f6 G6 (fun n => cs i (2 * n)) 2608 arg12 arg19.sem (n) ∗ sent d i arg7 I7 q7a f7 G7 (fun n => 16 * cs i (2 * n)) 41728 arg13 arg21.sem (n)
    ∗ sent d i arg6 I6 q6b f6 G6 (fun n => cs i (2 * n + 1)) 2608 arg15 arg20.sem (n) ∗ sent d i arg7 I7 q7b f7 G7 (fun n => 16 * cs i (2 * n + 1)) 41728 arg16 arg22.sem (n) ∗ waits d i O W0
    ∗ wmInv eWm ιwm ∗ Transfers.MayWaits (thr d i) none O)
  iapply (Scf.wp_for_bind frame (wpE (defs₀ (F := F)) 𝒱₀ (thr d i) none) Set.univ k0_t1_loop.lb k0_t1_loop.ub k0_t1_loop.st k0_t1_ok ⟨⟩
    (k0_t1_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 v1 (W 0 0) (W 0 1) (W 0 2) (W 1 0) (W 1 1) (W 1 2) (W 2 0) (W 2 1) (W 2 2) (W 3 0) (W 3 1) (W 3 2) (W 4 0) (W 4 1) (W 4 2) (W 5 0) (W 5 1) (W 5 2) (W 6 0) (W 6 1) (W 6 2) (W 7 0) (W 7 1) (W 7 2) (W 8 0) (W 8 1) (W 8 2) (W 9 0) (W 9 1) (W 9 2) (W 10 0) (W 10 1) (W 10 2) (W 11 0) (W 11 1) (W 11 2) (W 12 0) (W 12 1) (W 12 2) (W 13 0) (W 13 1) (W 13 2) (W 14 0) (W 14 1) (W 14 2) (W 15 0) (W 15 1) (W 15 2) (B 0) (B 1) (B 2) (B 3) (B 4) (B 5) (B 6) (B 7) (B 8) (B 9) (B 10) (B 11) (B 12) (B 13) (B 14) (B 15) lanes k0_pay518 k0_pay519 k0_pay521 k0_pay522 k0_pay523 2#32) I ?_) $$ [Hf Hy Ha Hma Hsa Hmb Hsb HO]
  · intro t acc
    dsimp only [I]
    iintro ⟨Hf, Hy, Ha, Hma, Hsa, Hmb, Hsb, HO, #Hinv, #HM⟩
    iapply (trip_wp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 d W B (ql := ql) (qa := qa) (qb := qb) (q6a := q6a) (q6b := q6b) (q7a := q7a) (q7b := q7b) (f6 := f6) (f7 := f7) (ιwm := ιwm) (O := O) (W0 := W0) hA hX hI6 hI7 hG6 hG7 v1 t) $$ [Hf Hy Ha Hma Hsa Hmb Hsb HO]
    · isplitl [Hf]; · iexact Hf
      isplitl [Hy]; · iexact Hy
      isplitl [Ha]; · iexact Ha
      isplitl [Hma]; · iexact Hma
      isplitl [Hsa]; · iexact Hsa
      isplitl [Hmb]; · iexact Hmb
      isplitl [Hsb]; · iexact Hsb
      isplitl [HO]; · iexact HO
      isplitr; · iexact Hinv
      iexact HM
    iintro ⟨Hf, Hy, Ha, Hma, Hsa, Hmb, Hsb, HO⟩
    isplitl [Hf]; · iexact Hf
    isplitl [Hy]; · iexact Hy
    isplitl [Ha]; · iexact Ha
    isplitl [Hma]; · iapply sent_succ $$ Hma
    isplitl [Hsa]; · iapply sent_succ $$ Hsa
    isplitl [Hmb]; · iapply sent_succ $$ Hmb
    isplitl [Hsb]; · iapply sent_succ $$ Hsb
    isplitl [HO]; · iexact HO
    isplitr; · iexact Hinv
    iexact HM
  · iapply (Entails.of_eq (show iprop(fetching d i arg2 fX qa arg11 arg17.sem (3 * cs i (2 * 0)) ∗ parked d i arg2 fX qb arg14 arg18.sem ∗ (arg10.view.loc (thr d i) ↦{ql} fa)
      ∗ ready d i arg6 I6 q6a f6 G6 (fun n => cs i (2 * n)) 2608 arg12 arg19.sem (0) ∗ ready d i arg7 I7 q7a f7 G7 (fun n => 16 * cs i (2 * n)) 41728 arg13 arg21.sem (0)
      ∗ ready d i arg6 I6 q6b f6 G6 (fun n => cs i (2 * n + 1)) 2608 arg15 arg20.sem (0) ∗ ready d i arg7 I7 q7b f7 G7 (fun n => 16 * cs i (2 * n + 1)) 41728 arg16 arg22.sem (0) ∗ waits d i O W0
      ∗ wmInv eWm ιwm ∗ Transfers.MayWaits (thr d i) none O) = I 0 ⟨⟩ from rfl))
    unfold fetching parked
    isplitl [Hf]; · iexact Hf
    isplitl [Hy]; · iexact Hy
    isplitl [Ha]; · iexact Ha
    isplitl [Hma]; · iexact Hma
    isplitl [Hsa]; · iexact Hsa
    isplitl [Hmb]; · iexact Hmb
    isplitl [Hsb]; · iexact Hsb
    isplitl [HO]; · iexact HO
    isplitr; · iexact Hinv
    iexact HM
  iintro %acc HI
  ihave HI := (Entails.of_eq (show I (Scf.trips k0_t1_loop.lb k0_t1_loop.ub k0_t1_loop.st) acc
    = iprop(parked d i arg2 fX qa arg11 arg17.sem ∗ parked d i arg2 fX qb arg14 arg18.sem ∗ (arg10.view.loc (thr d i) ↦{ql} fa)
    ∗ sending d i arg6 I6 q6a f6 G6 (fun n => cs i (2 * n)) 2608 arg12 arg19.sem (3) ∗ sending d i arg7 I7 q7a f7 G7 (fun n => 16 * cs i (2 * n)) 41728 arg13 arg21.sem (3)
    ∗ sending d i arg6 I6 q6b f6 G6 (fun n => cs i (2 * n + 1)) 2608 arg15 arg20.sem (3) ∗ sending d i arg7 I7 q7b f7 G7 (fun n => 16 * cs i (2 * n + 1)) 41728 arg16 arg22.sem (3) ∗ waits d i O W0
    ∗ wmInv eWm ιwm ∗ Transfers.MayWaits (thr d i) none O) from (congrArg (fun n => I n acc) three_trips).trans rfl)) $$ HI
  icases HI with ⟨Hx, Hy, Ha, Hma, Hsa, Hmb, Hsb, HO, _⟩
  unfold sending
  iapply (wp_landed rfl) $$ [Hma HO]
  · isplitl [Hma]; · iexact Hma
    isplitl [HO]; · iexact HO
    iexact HM
  iintro ⟨⟨Hma, HwHma⟩, HvHma, HO⟩
  iapply (wp_landed rfl) $$ [Hsa HO]
  · isplitl [Hsa]; · iexact Hsa
    isplitl [HO]; · iexact HO
    iexact HM
  iintro ⟨⟨Hsa, HwHsa⟩, HvHsa, HO⟩
  iapply (wp_landed rfl) $$ [Hmb HO]
  · isplitl [Hmb]; · iexact Hmb
    isplitl [HO]; · iexact HO
    iexact HM
  iintro ⟨⟨Hmb, HwHmb⟩, HvHmb, HO⟩
  rw [wp_pure]
  imodintro
  iapply Hk
  unfold parked ready
  isplitl [Hx]; · iexact Hx
  isplitl [Hy]; · iexact Hy
  isplitl [Ha]; · iexact Ha
  isplitl [Hma HwHma HvHma]
  · isplitl [Hma]; · iexact Hma
    isplitl [HwHma] <;> iassumption
  isplitl [Hsa HwHsa HvHsa]
  · isplitl [Hsa]; · iexact Hsa
    isplitl [HwHsa] <;> iassumption
  isplitl [Hmb HwHmb HvHmb]
  · isplitl [Hmb]; · iexact Hmb
    isplitl [HwHmb] <;> iassumption
  isplitl [Hsb] <;> iassumption

end Cert.Proof.Tile
-- ==== Proof.Body.lean ====
/-
  A tile's whole program.
-/
module

public import proofs.«01_k».proof.Proof.Six

@[expose] public section

set_option synthInstance.maxSize 4096

noncomputable section

namespace Cert.Proof.Tile

open Cert.KernelIdeal Cert.KernelIdeal.Gen Cert.Proof.Value

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ (UU F) ℕ

variable (i : grid0.Coords) (arg2 : Memref sig .scVector .hbm S1500000 .f32) (harg2 : arg2.IsWhole) (arg3 : Memref sig .scVector .hbm S48 .f32) (harg3 : arg3.IsWhole) (arg4 : Memref sig .scVector .hbm S16 .f32) (harg4 : arg4.IsWhole) (arg5 : Memref sig .scVector .hbm S768 .f32) (harg5 : arg5.IsWhole) (arg6 : Memref sig .scVector .hbm S500000 .f32) (harg6 : arg6.IsWhole) (arg7 : Memref sig .scVector .hbm S8000000 .f32) (harg7 : arg7.IsWhole) (arg8 : Memref sig .scVector .vmem S48 .f32) (harg8 : arg8.IsWhole) (arg9 : Memref sig .scVector .vmem S16 .f32) (harg9 : arg9.IsWhole) (arg10 : Memref sig .scVector .vmem S768 .f32) (harg10 : arg10.IsWhole) (arg11 : Memref sig .scVector .vmem S8192 .f32) (harg11 : arg11.IsWhole) (arg12 : Memref sig .scVector .vmem S3072 .f32) (harg12 : arg12.IsWhole) (arg13 : Memref sig .scVector .vmem S41984 .f32) (harg13 : arg13.IsWhole) (arg14 : Memref sig .scVector .vmem S8192 .f32) (harg14 : arg14.IsWhole) (arg15 : Memref sig .scVector .vmem S3072 .f32) (harg15 : arg15.IsWhole) (arg16 : Memref sig .scVector .vmem S41984 .f32) (harg16 : arg16.IsWhole) (arg17 : DmaSems sig S_) (arg18 : DmaSems sig S_) (arg19 : DmaSems sig S_) (arg20 : DmaSems sig S_) (arg21 : DmaSems sig S_) (arg22 : DmaSems sig S_) (v189_r0 : DmaSems sig S_) (v189_r1 : DmaSems sig S_) (v189_r2 : DmaSems sig S_)
variable (d : Dev nD) {q2 q3 q4 q5 : PosShare TreeShare} {fX : Buf (Elt F) (arg2.view.loc (thr d i))} {fw : Buf (Elt F) (arg3.view.loc (thr d i))}
  {fb : Buf (Elt F) (arg4.view.loc (thr d i))} {fA : Buf (Elt F) (arg5.view.loc (thr d i))} {xs : S1500000.Idx → F .f32} {wd : S48.Idx → F .f32} {bd : S16.Idx → F .f32} {A : S768.Idx → F .f32}
  (hX : arg2.view.read (Elt F) fX = xs) (hw : arg3.view.read (Elt F) fw = wd) (hb : arg4.view.read (Elt F) fb = bd) (hA : arg5.view.read (Elt F) fA = A)
  {I6 : Finset (Idx (arg6.view.loc (thr d i)))} {f6 G6 : Buf (Elt F) (arg6.view.loc (thr d i))}
  {I7 : Finset (Idx (arg7.view.loc (thr d i)))} {f7 G7 : Buf (Elt F) (arg7.view.loc (thr d i))}
  (hI6 : ∀ c, c < 6 → ∀ j, j < 2608 → arg6.view.emb (ix 500000 (cs i c + j)) ∈ I6)
  (hI7 : ∀ c, c < 6 → ∀ j, j < 41728 → arg7.view.emb (ix 8000000 (16 * cs i c + j)) ∈ I7)
  (hC6 : ∀ x, x ∈ I6 → ∃ c, c < 6 ∧ ∃ j, j < 2608 ∧ arg6.view.emb (ix 500000 (cs i c + j)) = x)
  (hC7 : ∀ x, x ∈ I7 → ∃ c, c < 6 ∧ ∃ j, j < 41728 ∧ arg7.view.emb (ix 8000000 (16 * cs i c + j)) = x)
  (hG6 : ∀ p, p < 500000 → tMin (tabW wd) (tabB bd) xs p = rd (α := F .f32) (arg6.view.read (Elt F) G6) p)
  (hG7 : ∀ e, e < 8000000 → tSel (tabW wd) (tabB bd) A xs e = rd (α := F .f32) (arg7.view.read (Elt F) G7) e)
  {ιwm : ℕ} {O : CellTallies nD τ sig (HIx 1)} {W0 : Waits sig (HIx 1)}

include hX hw hb hA hI6 hI7 hC6 hC7 hG6 hG7 in
/-- The tile's program writes the results' values on its region of each output, and gives everything else back. -/
theorem tile_wp {Q : _ → sProp 𝕄} :
    iprop((arg2.view.loc (thr d i) ↦{q2} fX) ∗ (arg3.view.loc (thr d i) ↦{q3} fw) ∗ (arg4.view.loc (thr d i) ↦{q4} fb) ∗ (arg5.view.loc (thr d i) ↦{q5} fA) ∗ (arg6.view.loc (thr d i) ↦[I6]{fullShare} f6) ∗ (arg7.view.loc (thr d i) ↦[I7]{fullShare} f7)
        ∗ (idle d i arg8 ∗ idle d i arg9 ∗ idle d i arg10 ∗ idle d i arg11 ∗ idle d i arg12 ∗ idle d i arg13 ∗ idle d i arg14 ∗ idle d i arg15 ∗ idle d i arg16)
        ∗ (semVal (thr d i, SemLoc.dma arg17.sem) 0 ∗ semVal (thr d i, SemLoc.dma arg18.sem) 0 ∗ semVal (thr d i, SemLoc.dma arg19.sem) 0 ∗ semVal (thr d i, SemLoc.dma arg20.sem) 0 ∗ semVal (thr d i, SemLoc.dma arg21.sem) 0 ∗ semVal (thr d i, SemLoc.dma arg22.sem) 0 ∗ semVal (thr d i, SemLoc.dma v189_r0.sem) 0 ∗ semVal (thr d i, SemLoc.dma v189_r1.sem) 0 ∗ semVal (thr d i, SemLoc.dma v189_r2.sem) 0) ∗ waits d i O W0 ∗ wmInv eWm ιwm ∗ Transfers.MayWaits (thr d i) none O)
      ⊢ iprop((iprop((arg2.view.loc (thr d i) ↦{q2} fX) ∗ (arg3.view.loc (thr d i) ↦{q3} fw) ∗ (arg4.view.loc (thr d i) ↦{q4} fb) ∗ (arg5.view.loc (thr d i) ↦{q5} fA) ∗ (arg6.view.loc (thr d i) ↦[I6]{fullShare} G6) ∗ (arg7.view.loc (thr d i) ↦[I7]{fullShare} G7)
        ∗ (idle d i arg8 ∗ idle d i arg9 ∗ idle d i arg10 ∗ idle d i arg11 ∗ idle d i arg12 ∗ idle d i arg13 ∗ idle d i arg14 ∗ idle d i arg15 ∗ idle d i arg16)
        ∗ (semVal (thr d i, SemLoc.dma arg17.sem) 0 ∗ semVal (thr d i, SemLoc.dma arg18.sem) 0 ∗ semVal (thr d i, SemLoc.dma arg19.sem) 0 ∗ semVal (thr d i, SemLoc.dma arg20.sem) 0 ∗ semVal (thr d i, SemLoc.dma arg21.sem) 0 ∗ semVal (thr d i, SemLoc.dma arg22.sem) 0 ∗ semVal (thr d i, SemLoc.dma v189_r0.sem) 0 ∗ semVal (thr d i, SemLoc.dma v189_r1.sem) 0 ∗ semVal (thr d i, SemLoc.dma v189_r2.sem) 0) ∗ waits d i O W0) -∗ Q ⟨⟩)
        -∗ wp frame (wpE (defs₀ (F := F)) 𝒱₀ (thr d i) none) Set.univ (cc0__union_body (F := F) i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2) Q) := by
  rw [cc0__union_body_eq_skeleton]
  unfold cc0__union_body_skel
  iintro ⟨H2, H3, H4, H5, H6, H7, ⟨Hs8, Hs9, Hs10, Hs11, Hs12, Hs13, Hs14, Hs15, Hs16⟩, ⟨V17, V18, V19, V20, V21, V22, R0, R1, R2⟩, HO, #Hinv, #HM⟩ Hk
  imod (wm_in arg6 (G := G6) (fun n => cs i (2 * n)) (fun n => cs i (2 * n + 1)) 2608) $$ [H6] with ⟨H6a, H6b⟩
  · isplitr; · iexact Hinv
    iexact H6
  imod (wm_in arg7 (G := G7) (fun n => 16 * cs i (2 * n)) (fun n => 16 * cs i (2 * n + 1)) 41728) $$ [H7] with ⟨H7a, H7b⟩
  · isplitr; · iexact Hinv
    iexact H7
  ihave H2 := (pointsTo_share (PosShare.mem_left_op_right q2)).1 $$ H2
  icases H2 with ⟨H2a, H2b⟩
  rw [wp_bind]
  iapply (part38_wp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 d (q3 := q3) (q4 := q4) (q5 := q5) (O := O) (W0 := W0) hw hb hA) $$ [H3 H4 H5 Hs8 Hs9 Hs10 R0 R1 R2 HO]
  · isplitl [H3]; · iexact H3
    isplitl [H4]; · iexact H4
    isplitl [H5]; · iexact H5
    isplitl [Hs8]; · iexact Hs8
    isplitl [Hs9]; · iexact Hs9
    isplitl [Hs10]; · iexact Hs10
    isplitl [R0]; · iexact R0
    isplitl [R1]; · iexact R1
    isplitl [R2]; · iexact R2
    isplitl [HO]; · iexact HO
    iexact HM
  iintro ⟨H3, H4, H5, Hs8, Hs9, ⟨%fa, %hfa, Hs10⟩, R0, R1, R2, HO⟩
  dsimp only
  rw [part39_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 wd bd]
  iapply (wp_known rfl)
  dsimp only
  rw [part40_eq i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 bd]
  iapply (wp_known rfl)
  dsimp only
  rw [wp_bind]
  iapply (part41_wp i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 arg18 arg19 arg20 arg21 arg22 v189_r0 v189_r1 v189_r2 d (tabW wd) (tabB bd) (ql := fullShare) (qa := q2.left) (qb := q2.right) (q6a := fullShare.left) (q6b := fullShare.right) (q7a := fullShare.left) (q7b := fullShare.right) (f6 := f6) (f7 := f7) (ιwm := ιwm) (O := O) (W0 := W0) hfa hX hI6 hI7 hG6 hG7 (Scalar.addi (Scalar.muli (BitVec.ofNat 32 (i 1).val) 2#32) (BitVec.ofNat 32 (i 0).val))) $$ [H2a H2b Hs10 Hs11 Hs12 Hs13 Hs14 Hs15 Hs16 V17 V18 V19 V20 V21 V22 H6a H6b H7a H7b HO]
  · unfold parked ready
    isplitl [Hs11 H2a V17]
    · isplitl [Hs11]; · iexact Hs11
      isplitl [H2a] <;> iassumption
    isplitl [Hs14 H2b V18]
    · isplitl [Hs14]; · iexact Hs14
      isplitl [H2b] <;> iassumption
    isplitl [Hs10]; · iexact Hs10
    isplitl [Hs12 H6a V19]
    · isplitl [Hs12]; · iexact Hs12
      isplitl [H6a] <;> iassumption
    isplitl [Hs13 H7a V21]
    · isplitl [Hs13]; · iexact Hs13
      isplitl [H7a] <;> iassumption
    isplitl [Hs15 H6b V20]
    · isplitl [Hs15]; · iexact Hs15
      isplitl [H6b] <;> iassumption
    isplitl [Hs16 H7b V22]
    · isplitl [Hs16]; · iexact Hs16
      isplitl [H7b] <;> iassumption
    isplitl [HO]; · iexact HO
    isplitr; · iexact Hinv
    iexact HM
  unfold parked ready sending
  iintro ⟨⟨Hs11, H2a, V17⟩, ⟨Hs14, H2b, V18⟩, Hs10, ⟨Hs12, H6a, V19⟩, ⟨Hs13, H7a, V21⟩, ⟨Hs15, H6b, V20⟩, Hf, HO⟩
  iapply (wp_landed rfl) $$ [Hf HO]
  · isplitl [Hf]; · iexact Hf
    isplitl [HO]; · iexact HO
    iexact HM
  iintro ⟨⟨Hs16, H7b⟩, V22, HO⟩
  rw [wp_pure]
  imod (wm_out arg6 (ch := fun c => cs i c) hC6) $$ [H6a H6b] with H6
  · isplitr; · iexact Hinv
    isplitl [H6a] <;> iassumption
  imod (wm_out arg7 (ch := fun c => 16 * cs i c) hC7) $$ [H7a H7b] with H7
  · isplitr; · iexact Hinv
    isplitl [H7a] <;> iassumption
  imodintro
  ihave H2 := (pointsTo_share (PosShare.mem_left_op_right q2)).2 $$ [H2a H2b]
  · isplitl [H2a] <;> iassumption
  iapply Hk
  isplitl [H2]; · iexact H2
  isplitl [H3]; · iexact H3
  isplitl [H4]; · iexact H4
  isplitl [H5]; · iexact H5
  isplitl [H6]; · iexact H6
  isplitl [H7]; · iexact H7
  isplitl [Hs8 Hs9 Hs10 Hs11 Hs12 Hs13 Hs14 Hs15 Hs16]
  · isplitl [Hs8]; · iexact Hs8
    isplitl [Hs9]; · iexact Hs9
    isplitl [Hs10]
    · unfold idle
      iexists fa
      iexact Hs10
    isplitl [Hs11]; · iexact Hs11
    isplitl [Hs12]; · iexact Hs12
    isplitl [Hs13]; · iexact Hs13
    isplitl [Hs14]; · iexact Hs14
    isplitl [Hs15] <;> iassumption
  isplitl [V17 V18 V19 V20 V21 V22 R0 R1 R2]
  · isplitl [V17]; · iexact V17
    isplitl [V18]; · iexact V18
    isplitl [V19]; · iexact V19
    isplitl [V20]; · iexact V20
    isplitl [V21]; · iexact V21
    isplitl [V22]; · iexact V22
    isplitl [R0]; · iexact R0
    isplitl [R1] <;> iassumption
  iexact HO

end Cert.Proof.Tile
-- ==== Proof.Launch.lean ====
/-
  The launch: what each of the thirty-two tiles is handed and hands back, the host's operations round
  the call, and the run of the whole program from any launch memory.
-/
module

public import proofs.«01_k».proof.Proof.Body

@[expose] public section

set_option synthInstance.maxSize 4096

noncomputable section

namespace Cert.Proof.Tile

open Cert.KernelIdeal Cert.KernelIdeal.Gen Cert.Proof.Value

open Idealize.ShloMosaic
open Idealize.ShloMosaic.SparseCore (S V T)
open Idealize.ShloMosaic.SparseCore.Cfg (HIx Pay ownBufs ownSems0 ownCells ownRefs mem_ownCells mem_ownRefs)
open Idealize.ShloMosaic.StableHlo (held tcRefs after)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ (UU F) ℕ

/-! ## Splitting -/

/-- Any finite family of readers can each be given a share of an array, a share being left over. -/
theorem shares_exist {T : Type} [DecidableEq T] (S : Finset T) : ∀ q : PosShare TreeShare, ∃ (qs : T → PosShare TreeShare) (r : PosShare TreeShare),
    ∀ (ℓ : Loc nD τ sig) (f : Buf (Elt F) ℓ), (ℓ ↦{q} f : sProp 𝕄) = iprop((bigSep S fun t => ℓ ↦{qs t} f) ∗ ℓ ↦{r} f) := by
  induction S using Finset.induction_on with
  | empty =>
    intro q
    refine ⟨fun _ => q, q, fun ℓ f => ?_⟩
    rw [bigSep_empty]
    exact (equiv_iff.mp emp_sep).symm
  | insert t S ht ih =>
    intro q
    obtain ⟨qs, r, h⟩ := ih q.right
    refine ⟨fun u => if u = t then q.left else qs u, r, fun ℓ f => ?_⟩
    have e1 : (bigSep S fun u => (ℓ ↦{if u = t then q.left else qs u} f : sProp 𝕄)) = bigSep S fun u => (ℓ ↦{qs u} f : sProp 𝕄) :=
      bigSep_congr fun u hu => by
        have hne : u ≠ t := fun e => ht (e ▸ hu)
        rw [if_neg hne]
    have e2 : (ℓ ↦{if t = t then q.left else qs t} f : sProp 𝕄) = ℓ ↦{q.left} f := by rw [if_pos rfl]
    rw [BI.Entails.antisymm (pointsTo_share (PosShare.mem_left_op_right q)).1 (pointsTo_share (PosShare.mem_left_op_right q)).2, h ℓ f,
      SparseCore.bigSep_insert' ht]
    show _ = iprop(((ℓ ↦{if t = t then q.left else qs t} f) ∗ bigSep S fun u => (ℓ ↦{if u = t then q.left else qs u} f : sProp 𝕄)) ∗ _)
    rw [e1, e2]
    exact (BI.Entails.antisymm BI.sep_assoc BI.sep_assoc').symm

/-- The shares: one for each tile, by its core and its number there. -/
def qt : Fin 2 × Fin 16 → PosShare TreeShare := (shares_exist (F := F) (Finset.univ : Finset (Fin 2 × Fin 16)) fullShare).choose
/-- The share left over. -/
def qr : PosShare TreeShare := (shares_exist (F := F) (Finset.univ : Finset (Fin 2 × Fin 16)) fullShare).choose_spec.choose

theorem full_shares (ℓ : Loc nD τ sig) (f : Buf (Elt F) ℓ) :
    (ℓ ↦{fullShare} f : sProp 𝕄) = iprop((bigSep Finset.univ fun t : Fin 2 × Fin 16 => ℓ ↦{qt (F := F) t} f) ∗ ℓ ↦{qr (F := F)} f) :=
  (shares_exist (F := F) (Finset.univ : Finset (Fin 2 × Fin 16)) fullShare).choose_spec.choose_spec ℓ f

/-- Elements taken out of a separating product one by one. -/
theorem bigSep_take {I : Type} [DecidableEq I] (Φ : I → sProp 𝕄) : ∀ (l : List I) (S : Finset I), l.Nodup → (∀ a ∈ l, a ∈ S) →
    ∃ R : sProp 𝕄, bigSep S Φ = l.foldr (fun a P => iprop(Φ a ∗ P)) R
  | [], S, _, _ => ⟨bigSep S Φ, rfl⟩
  | a :: l, S, hn, h => by
    obtain ⟨ha, hn⟩ := List.nodup_cons.mp hn
    obtain ⟨R, hR⟩ := bigSep_take Φ l (S.erase a) hn
      (fun b hb => Finset.mem_erase.mpr ⟨fun e => ha (e ▸ hb), h b (List.mem_cons_of_mem _ hb)⟩)
    exact ⟨R, (SparseCore.bigSep_erase' (h a List.mem_cons_self)).trans (congrArg (BI.sep (Φ a)) hR)⟩

/-! ## The tiles' parts of the two results -/

/-- The tile's number: two tiles on neighbouring cores share a subcore's number. -/
def wid (t : Fin 2 × Fin 16) : ℕ := 2 * t.2.val + t.1.val

theorem wid_lt (t : Fin 2 × Fin 16) : wid t < 32 := by unfold wid; omega
theorem wid_inj {t u : Fin 2 × Fin 16} (h : wid t = wid u) : t = u := by
  unfold wid at h
  exact Prod.ext (Fin.ext (by omega)) (Fin.ext (by omega))

/-- The places of a one-axis array that fall to tile `t`, in blocks of `B`. -/
def part (N B : ℕ) (t : Fin 2 × Fin 16) : Finset (⟨1, ![N]⟩ : Shape).Idx := Finset.univ.filter fun x => (x 0).val / B = wid t

theorem part_disjoint (N B : ℕ) : ∀ t ∈ (Finset.univ : Finset (Fin 2 × Fin 16)), ∀ u ∈ (Finset.univ : Finset (Fin 2 × Fin 16)), t ≠ u → Disjoint (part N B t) (part N B u) :=
  fun t _ u _ h => Finset.disjoint_left.mpr fun x hx hy =>
    h (wid_inj ((Finset.mem_filter.mp hx).2.symm.trans (Finset.mem_filter.mp hy).2))

theorem part_cover {N B : ℕ} (hB : 0 < B) (hN : N ≤ 32 * B) : (Finset.univ : Finset (Fin 2 × Fin 16)).biUnion (part N B) = Finset.univ := by
  refine Finset.eq_univ_iff_forall.mpr fun x => Finset.mem_biUnion.mpr ?_
  have hx : (x 0).val < N := (x 0).isLt
  have hw : (x 0).val / B < 32 := (Nat.div_lt_iff_lt_mul hB).mpr (lt_of_lt_of_le hx hN)
  refine ⟨(⟨(x 0).val / B % 2, Nat.mod_lt _ (by decide)⟩, ⟨(x 0).val / B / 2, by omega⟩), Finset.mem_univ _, Finset.mem_filter.mpr ⟨Finset.mem_univ _, ?_⟩⟩
  show _ = 2 * ((x 0).val / B / 2) + (x 0).val / B % 2
  omega

/-! ## The contents the call finds and leaves -/

variable (m : (ℓ : Loc nD τ sig) → Buf (Elt F) ℓ) (ρ : Dev nD → PrngReg)

/-- The host's operations before the call. -/
def preOps : List (HloOp τ sig (Elt F)) := [
  StableHlo.unary main_arg0 main_v0 ((truncf .bf16 · bitsLt_bf16_f32) : (⟨S500000x3, .f32⟩ : BufTy).Contents (Elt F) → (⟨S500000x3, .bf16⟩ : BufTy).Contents (Elt F)),
  StableHlo.unary main_v0 main_v1 ((extf .f32 · bitsLt_bf16_f32) : (⟨S500000x3, .bf16⟩ : BufTy).Contents (Elt F) → (⟨S500000x3, .f32⟩ : BufTy).Contents (Elt F)),
  StableHlo.unary main_arg1 main_v2 ((truncf .bf16 · bitsLt_bf16_f32) : (⟨S16x3, .f32⟩ : BufTy).Contents (Elt F) → (⟨S16x3, .bf16⟩ : BufTy).Contents (Elt F)),
  StableHlo.unary main_v2 main_v3 ((extf .f32 · bitsLt_bf16_f32) : (⟨S16x3, .bf16⟩ : BufTy).Contents (Elt F) → (⟨S16x3, .f32⟩ : BufTy).Contents (Elt F)),
  StableHlo.unary main_arg3 main_v4 ((truncf .bf16 · bitsLt_bf16_f32) : (⟨S16x3x16, .f32⟩ : BufTy).Contents (Elt F) → (⟨S16x3x16, .bf16⟩ : BufTy).Contents (Elt F)),
  StableHlo.unary main_v4 main_v5 ((extf .f32 · bitsLt_bf16_f32) : (⟨S16x3x16, .bf16⟩ : BufTy).Contents (Elt F) → (⟨S16x3x16, .f32⟩ : BufTy).Contents (Elt F)),
  StableHlo.reshape main_v1 main_v6 (rfl : (.f32 : EltTy) = .f32) shapeCasts_S500000x3_S1500000,
  StableHlo.unary main_v3 main_v7 ((transpose S3x16 [1, 0] · transposes_S16x3_S3x16_1_0) : (⟨S16x3, .f32⟩ : BufTy).Contents (Elt F) → (⟨S3x16, .f32⟩ : BufTy).Contents (Elt F)),
  StableHlo.reshape main_v7 main_v8 (rfl : (.f32 : EltTy) = .f32) shapeCasts_S3x16_S48,
  StableHlo.unary main_v5 main_v9 ((transpose S3x16x16 [1, 2, 0] · transposes_S16x3x16_S3x16x16_1_2_0) : (⟨S16x3x16, .f32⟩ : BufTy).Contents (Elt F) → (⟨S3x16x16, .f32⟩ : BufTy).Contents (Elt F)),
  StableHlo.reshape main_v9 main_v10 (rfl : (.f32 : EltTy) = .f32) shapeCasts_S3x16x16_S768]

/-- The host's operation after it. -/
def postOp : HloOp τ sig (Elt F) := StableHlo.reshape main_v11_1 main_v12 (rfl : (.f32 : EltTy) = .f32) shapeCasts_S8000000_S500000x16

/-- The arrays as the call finds them. -/
def V1 (d : Dev nD) : Valuation τ sig (Elt F) := after (preOps (F := F)) (fun b => m (d, b))

abbrev rX : DevRef τ sig := Proc.devRef .tc main_v6
abbrev rW : DevRef τ sig := Proc.devRef .tc main_v8
abbrev rB : DevRef τ sig := Proc.devRef .tc main_arg2
abbrev rA : DevRef τ sig := Proc.devRef .tc main_v10
abbrev rM : DevRef τ sig := Proc.devRef .tc main_v11_0
abbrev rS : DevRef τ sig := Proc.devRef .tc main_v11_1

/-- The least distances, as the call leaves them. -/
def gM (d : Dev nD) : S500000.Idx → F .f32 := fun x =>
  tMin (F := F) (tabW (V1 m d rW)) (tabB (V1 m d rB)) (V1 m d rX) (x 0).val
/-- The attributes, as the call leaves them. -/
def gS (d : Dev nD) : S8000000.Idx → F .f32 := fun x =>
  tSel (F := F) (tabW (V1 m d rW)) (tabB (V1 m d rB)) (V1 m d rA) (V1 m d rX) (x 0).val

/-- The arrays as the call leaves them. -/
def V2 (d : Dev nD) : Valuation τ sig (Elt F) := Function.update (Function.update (V1 m d) rM (gM m d)) rS (gS m d)

/-- The arrays as the program leaves them. -/
def V3 (d : Dev nD) : Valuation τ sig (Elt F) := (postOp (F := F)).result (V2 m d)

/-! ## What the handshakes carry -/

/-- A tile's share of the four arrays it reads. -/
def reads (d : Dev nD) (t : Fin 2 × Fin 16) : sProp 𝕄 :=
  iprop(((d, rX) ↦{qt (F := F) t} V1 m d rX) ∗ ((d, rW) ↦{qt (F := F) t} V1 m d rW) ∗ ((d, rB) ↦{qt (F := F) t} V1 m d rB) ∗ ((d, rA) ↦{qt (F := F) t} V1 m d rA))

/-- A tile's parts of the two arrays it writes. -/
def parts (d : Dev nD) (t : Fin 2 × Fin 16) (f : S500000.Idx → F .f32) (g : S8000000.Idx → F .f32) : sProp 𝕄 :=
  iprop((((d, rM) : Loc nD τ sig) ↦[part 500000 15648 t]{fullShare} f) ∗ (((d, rS) : Loc nD τ sig) ↦[part 8000000 250368 t]{fullShare} g))

abbrev goT (d : Dev nD) (t : Fin 2 × Fin 16) : sProp 𝕄 := iprop(reads m d t ∗ parts d t (V1 m d rM) (V1 m d rS))
abbrev tdT (d : Dev nD) (t : Fin 2 × Fin 16) : sProp 𝕄 := iprop(reads m d t ∗ parts d t (gM m d) (gS m d))

instance reads_storable (d : Dev nD) (t : Fin 2 × Fin 16) : BI.Storable (upEmb : UEmb _ 𝕄) (reads m d t) := by unfold reads; infer_instance
instance parts_storable (d : Dev nD) (t : Fin 2 × Fin 16) (f : S500000.Idx → F .f32) (g : S8000000.Idx → F .f32) : BI.Storable (upEmb : UEmb _ 𝕄) (parts d t f g) := by unfold parts; infer_instance

theorem nCore_two : (K (F := F)).nCore 0 = 2 := rfl
theorem nSub_sixteen : (K (F := F)).nSub 0 = 16 := rfl

/-- Each core is handed what its sixteen tiles are, and hands back what they do. -/
def P : (K (F := F)).Pay (nD := nD) (Val := Elt F) (Name := ℕ) (U := UU F) where
  st := fun q d c => match q with | 0 => bigSep Finset.univ fun i : Fin 16 => goT m d (Fin.cast nCore_two c, i)
  dn := fun q d c => match q with | 0 => bigSep Finset.univ fun i : Fin 16 => tdT m d (Fin.cast nCore_two c, i)
  go := fun q d c i => match q with | 0 => goT m d (Fin.cast nCore_two c, Fin.cast nSub_sixteen i)
  td := fun q d c i => match q with | 0 => tdT m d (Fin.cast nCore_two c, Fin.cast nSub_sixteen i)
  x := fun _ _ => iprop(∃ ι, wmInv eWm ι)

instance P_storable : (P (F := F) m).IsStorable where
  st q d c := match q with
    | 0 => (inferInstance : BI.Storable (upEmb : UEmb _ 𝕄) (bigSep Finset.univ fun i : Fin 16 => goT m d (Fin.cast nCore_two c, i)))
  dn q d c := match q with
    | 0 => (inferInstance : BI.Storable (upEmb : UEmb _ 𝕄) (bigSep Finset.univ fun i : Fin 16 => tdT m d (Fin.cast nCore_two c, i)))
  go q d c i := match q with
    | 0 => (inferInstance : BI.Storable (upEmb : UEmb _ 𝕄) (goT m d (Fin.cast nCore_two c, Fin.cast nSub_sixteen i)))
  td q d c i := match q with
    | 0 => (inferInstance : BI.Storable (upEmb : UEmb _ 𝕄) (tdT m d (Fin.cast nCore_two c, Fin.cast nSub_sixteen i)))

/-! ## A tile's task -/

section Tile

variable (d : Dev nD) (L : grid0.Coords)

/-- The tile at the coordinates `L`. -/
abbrev tL (L : grid0.Coords) : Fin 2 × Fin 16 := (L 0, L 1)

/-- The tile's transfer semaphores. -/
def tileSems : List (SemLoc sig) := [SemLoc.dma cc0_scratch9.sem, SemLoc.dma cc0_scratch10.sem, SemLoc.dma cc0_scratch11.sem, SemLoc.dma cc0_scratch12.sem, SemLoc.dma cc0_scratch13.sem, SemLoc.dma cc0_scratch14.sem, SemLoc.dma cc0_scoped0.sem, SemLoc.dma cc0_scoped1.sem, SemLoc.dma cc0_scoped2.sem]
/-- The tile's scratch buffers. -/
def tileBufs : List (Ref sig .scVector) := [cc0_scratch0, cc0_scratch1, cc0_scratch2, cc0_scratch3, cc0_scratch4, cc0_scratch5, cc0_scratch6, cc0_scratch7, cc0_scratch8]

omit [FloatOps F] in
theorem tileSems_nodup : tileSems.Nodup := by unfold tileSems; decide
omit [FloatOps F] in
theorem tileSems_scoped : ∀ s ∈ tileSems, s.isScoped .scVector = true := by unfold tileSems; decide
omit [FloatOps F] in
theorem tileBufs_nodup : tileBufs.Nodup := by unfold tileBufs; decide

/-- The tile's own semaphores: its transfers', and the rest. -/
theorem ownSems0_split : ∃ R : sProp 𝕄, (ownSems0 (thr d L) : sProp 𝕄) = iprop(semVal (thr d L, SemLoc.dma cc0_scratch9.sem) 0 ∗ semVal (thr d L, SemLoc.dma cc0_scratch10.sem) 0 ∗ semVal (thr d L, SemLoc.dma cc0_scratch11.sem) 0 ∗ semVal (thr d L, SemLoc.dma cc0_scratch12.sem) 0 ∗ semVal (thr d L, SemLoc.dma cc0_scratch13.sem) 0 ∗ semVal (thr d L, SemLoc.dma cc0_scratch14.sem) 0 ∗ semVal (thr d L, SemLoc.dma cc0_scoped0.sem) 0 ∗ semVal (thr d L, SemLoc.dma cc0_scoped1.sem) 0 ∗ semVal (thr d L, SemLoc.dma cc0_scoped2.sem) 0 ∗ R) := by
  obtain ⟨R, h⟩ := bigSep_take (F := F) (fun g : GSem nD τ sig => semVal g 0) (tileSems.map fun s => (thr d L, s)) (ownCells (thr d L))
    ((List.nodup_map_iff fun _ _ e => (Prod.mk.inj e).2).mpr tileSems_nodup)
    (fun g hg => by
      obtain ⟨s, hs, rfl⟩ := List.mem_map.mp hg
      exact mem_ownCells.mpr ⟨rfl, tileSems_scoped s hs⟩)
  exact ⟨R, h⟩

/-- The tile's own buffers: its scratch, and the rest. -/
theorem ownBufs_split : ∃ R : sProp 𝕄, (ownBufs (thr d L) : sProp 𝕄) = iprop(idle d L (Memref.whole cc0_scratch0) ∗ idle d L (Memref.whole cc0_scratch1) ∗ idle d L (Memref.whole cc0_scratch2) ∗ idle d L (Memref.whole cc0_scratch3) ∗ idle d L (Memref.whole cc0_scratch4) ∗ idle d L (Memref.whole cc0_scratch5) ∗ idle d L (Memref.whole cc0_scratch6) ∗ idle d L (Memref.whole cc0_scratch7) ∗ idle d L (Memref.whole cc0_scratch8) ∗ R) := by
  obtain ⟨R, h⟩ := bigSep_take (F := F) (fun b : DevRef τ sig => iprop(∃ f, ((d, b) : Loc nD τ sig) ↦{fullShare} f))
    (tileBufs.map (Proc.scVector (cV L) (jV L)).devRef) (ownRefs (τ := τ) (.scVector (cV L) (jV L)))
    ((List.nodup_map_iff (Proc.devRef_injective _)).mpr tileBufs_nodup)
    (fun b hb => by
      obtain ⟨s, hs, rfl⟩ := List.mem_map.mp hb
      simp only [tileBufs, List.mem_cons, List.not_mem_nil, or_false] at hs
      rcases hs with rfl | rfl | rfl | rfl | rfl | rfl | rfl | rfl | rfl <;> exact SparseCore.Cfg.mem_ownRefs_of_owner rfl)
  exact ⟨R, h⟩

theorem cs_part (c j : ℕ) (hc : c < 6) (hj : j < 2608) : (cs L c + j) / 15648 = wid (tL L) ∧ cs L c + j < 500000 := by
  have h0 := coord0_lt L
  have h1 := coord1_lt L
  unfold cs wid tL
  constructor
  · show _ = 2 * (L 1).val + (L 0).val
    omega
  · omega

theorem part_cs (n : ℕ) (hn : n < 500000) (h : n / 15648 = wid (tL L)) : ∃ c, c < 6 ∧ ∃ j, j < 2608 ∧ cs L c + j = n := by
  have h0 := coord0_lt L
  have h1 := coord1_lt L
  have hw : wid (tL L) = 2 * (L 1).val + (L 0).val := rfl
  rw [hw] at h
  unfold cs
  by_cases hl : n < 497392
  · refine ⟨(n - 15648 * (2 * (L 1).val + (L 0).val)) / 2608, by omega, (n - 15648 * (2 * (L 1).val + (L 0).val)) % 2608, by omega, by omega⟩
  · exact ⟨5, by omega, n - 497392, by omega, by omega⟩

/-- What the task needs, handed to the body's theorem, and what the body's theorem gives back. -/
theorem tile_body (O : CellTallies nD τ sig (HIx 1)) (W : Waits sig (HIx 1)) (hO : ∀ g, O g none = 0) :
    iprop(levAts (K (F := F)).L (K (F := F)).lev ∗ (∃ ι, wmInv (Ix := HIx 1) (Lvl := ℕ) (eWm (F := F)) ι) ∗ goT m d (tL L)
        ∗ scopedBufs (thr d L) ∗ scopedSems0 (thr d L) ∗ owes (thr d L) O W)
      ⊢ wp frame (wpE (defs₀ (F := F)) 𝒱₀ (thr d L) none) Set.univ
          (cc0__union_body (F := F) L (Memref.whole main_v6_scv) (Memref.isWhole_whole _) (Memref.whole main_v8_scv) (Memref.isWhole_whole _) (Memref.whole main_arg2_scv) (Memref.isWhole_whole _) (Memref.whole main_v10_scv) (Memref.isWhole_whole _) (Memref.whole main_v11_0_scv) (Memref.isWhole_whole _) (Memref.whole main_v11_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scoped0 cc0_scoped1 cc0_scoped2)
          fun _ => iprop(tdT m d (tL L) ∗ scopedBufs (thr d L) ∗ scopedSems0 (thr d L)
            ∗ ∃ W', ⌜∀ p ∈ W', p ∈ W ∨ p.2 = none⌝ ∗ owes (thr d L) O W') := by
  obtain ⟨RS, hRS⟩ := ownSems0_split (F := F) d L
  obtain ⟨RB, hRB⟩ := ownBufs_split (F := F) d L
  rw [(K (F := F)).scopedBufs_V facts d (cV L) (jV L), SparseCore.Cfg.scopedSems0_V (Val := Elt F) d (cV L) (jV L), hRS, hRB]
  unfold goT tdT reads parts
  iintro ⟨#Hlv, ⟨%ι, #Hwm⟩, ⟨⟨HX, HW, HB, HA⟩, HM, HS⟩, ⟨Hb0, Hb1, Hb2, Hb3, Hb4, Hb5, Hb6, Hb7, Hb8, HRB⟩, ⟨Hs0, Hs1, Hs2, Hs3, Hs4, Hs5, Hs6, Hs7, Hs8, HRS⟩, HO⟩
  ihave Hmw := ((K (F := F)).mayWaits_none (thr := thr d L) hO) $$ Hlv
  iapply (tile_wp L (Memref.whole main_v6_scv) (Memref.isWhole_whole _) (Memref.whole main_v8_scv) (Memref.isWhole_whole _) (Memref.whole main_arg2_scv) (Memref.isWhole_whole _) (Memref.whole main_v10_scv) (Memref.isWhole_whole _) (Memref.whole main_v11_0_scv) (Memref.isWhole_whole _) (Memref.whole main_v11_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scoped0 cc0_scoped1 cc0_scoped2 d
      (fX := V1 m d rX) (fw := V1 m d rW) (fb := V1 m d rB) (fA := V1 m d rA) (q2 := qt (F := F) (tL L)) (q3 := qt (F := F) (tL L)) (q4 := qt (F := F) (tL L)) (q5 := qt (F := F) (tL L))
      (xs := V1 m d rX) (wd := V1 m d rW) (bd := V1 m d rB) (A := V1 m d rA)
      (f6 := V1 m d rM) (f7 := V1 m d rS)
      (I6 := part 500000 15648 (tL L)) (I7 := part 8000000 250368 (tL L)) (G6 := gM m d) (G7 := gS m d) (ιwm := ι) (O := O) (W0 := W)
      (hX := rfl) (hw := rfl) (hb := rfl) (hA := rfl)
      (hI6 := fun c hc j hj => Finset.mem_filter.mpr ⟨Finset.mem_univ _, (congrArg (· / 15648) (ix_val (cs_part L c j hc hj).2)).trans (cs_part L c j hc hj).1⟩)
      (hI7 := ?hI7)
      (hC6 := ?hC6) (hC7 := ?hC7) (hG6 := ?hG6) (hG7 := ?hG7)) $$ [HX HW HB HA HM HS Hb0 Hb1 Hb2 Hb3 Hb4 Hb5 Hb6 Hb7 Hb8 Hs0 Hs1 Hs2 Hs3 Hs4 Hs5 Hs6 Hs7 Hs8 HO Hmw]
  case hI7 =>
    intro c hc j hj
    obtain ⟨h1, h2⟩ := cs_part L c (j / 16) hc (by omega)
    have h3 : 16 * cs L c + j < 8000000 := by omega
    refine Finset.mem_filter.mpr ⟨Finset.mem_univ _, (congrArg (· / 250368) (ix_val h3)).trans ?_⟩
    rw [← h1]
    show (16 * cs L c + j) / 250368 = _
    omega
  case hC6 =>
    intro x hx
    obtain ⟨c, hc, j, hj, e⟩ := part_cs L (x 0).val (x 0).isLt (Finset.mem_filter.mp hx).2
    exact ⟨c, hc, j, hj, ix_eq x e.symm⟩
  case hC7 =>
    intro x hx
    have hx0 : (x 0).val < 8000000 := (x 0).isLt
    have hx1 := (Finset.mem_filter.mp hx).2
    obtain ⟨c, hc, j, hj, e⟩ := part_cs L ((x 0).val / 16) (by omega) (by rw [← hx1]; omega)
    exact ⟨c, hc, 16 * j + (x 0).val % 16, by omega, ix_eq x (by omega)⟩
  case hG6 =>
    intro p hp
    show _ = gM m d (ix 500000 p)
    unfold gM
    rw [ix_val hp]
  case hG7 =>
    intro e he
    show _ = gS m d (ix 8000000 e)
    unfold gS
    rw [ix_val he]
  · isplitl [HX]; · iexact HX
    isplitl [HW]; · iexact HW
    isplitl [HB]; · iexact HB
    isplitl [HA]; · iexact HA
    isplitl [HM]; · iexact HM
    isplitl [HS]; · iexact HS
    isplitl [Hb0 Hb1 Hb2 Hb3 Hb4 Hb5 Hb6 Hb7 Hb8]
    · isplitl [Hb0]; · iexact Hb0
      isplitl [Hb1]; · iexact Hb1
      isplitl [Hb2]; · iexact Hb2
      isplitl [Hb3]; · iexact Hb3
      isplitl [Hb4]; · iexact Hb4
      isplitl [Hb5]; · iexact Hb5
      isplitl [Hb6]; · iexact Hb6
      isplitl [Hb7]; · iexact Hb7
      iexact Hb8
    isplitl [Hs0 Hs1 Hs2 Hs3 Hs4 Hs5 Hs6 Hs7 Hs8]
    · isplitl [Hs0]; · iexact Hs0
      isplitl [Hs1]; · iexact Hs1
      isplitl [Hs2]; · iexact Hs2
      isplitl [Hs3]; · iexact Hs3
      isplitl [Hs4]; · iexact Hs4
      isplitl [Hs5]; · iexact Hs5
      isplitl [Hs6]; · iexact Hs6
      isplitl [Hs7]; · iexact Hs7
      iexact Hs8
    isplitl [HO]
    · unfold waits
      iexists W; isplitr
      · ipureintro; exact fun p hp => .inl hp
      · iexact HO
    isplitr; · iexact Hwm
    iexact Hmw
  iintro ⟨HX, HW, HB, HA, HM, HS, ⟨Hb0, Hb1, Hb2, Hb3, Hb4, Hb5, Hb6, Hb7, Hb8⟩, ⟨Hs0, Hs1, Hs2, Hs3, Hs4, Hs5, Hs6, Hs7, Hs8⟩, HO⟩
  isplitl [HX HW HB HA HM HS]
  · isplitl [HX HW HB HA]
    · isplitl [HX]; · iexact HX
      isplitl [HW]; · iexact HW
      isplitl [HB]; · iexact HB
      iexact HA
    isplitl [HM]; · iexact HM
    iexact HS
  isplitl [Hb0 Hb1 Hb2 Hb3 Hb4 Hb5 Hb6 Hb7 Hb8 HRB]
  · isplitl [Hb0]; · iexact Hb0
    isplitl [Hb1]; · iexact Hb1
    isplitl [Hb2]; · iexact Hb2
    isplitl [Hb3]; · iexact Hb3
    isplitl [Hb4]; · iexact Hb4
    isplitl [Hb5]; · iexact Hb5
    isplitl [Hb6]; · iexact Hb6
    isplitl [Hb7]; · iexact Hb7
    isplitl [Hb8]; · iexact Hb8
    iexact HRB
  isplitl [Hs0 Hs1 Hs2 Hs3 Hs4 Hs5 Hs6 Hs7 Hs8 HRS]
  · isplitl [Hs0]; · iexact Hs0
    isplitl [Hs1]; · iexact Hs1
    isplitl [Hs2]; · iexact Hs2
    isplitl [Hs3]; · iexact Hs3
    isplitl [Hs4]; · iexact Hs4
    isplitl [Hs5]; · iexact Hs5
    isplitl [Hs6]; · iexact Hs6
    isplitl [Hs7]; · iexact Hs7
    isplitl [Hs8]; · iexact Hs8
    iexact HRS
  unfold waits
  iexact HO

end Tile

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__union_body (coordsV c s) (Memref.whole main_v6_scv) (Memref.isWhole_whole _) (Memref.whole main_v8_scv) (Memref.isWhole_whole _) (Memref.whole main_arg2_scv) (Memref.isWhole_whole _) (Memref.whole main_v10_scv) (Memref.isWhole_whole _) (Memref.whole main_v11_0_scv) (Memref.isWhole_whole _) (Memref.whole main_v11_1_scv) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) (Memref.whole cc0_scratch6) (Memref.isWhole_whole _) (Memref.whole cc0_scratch7) (Memref.isWhole_whole _) (Memref.whole cc0_scratch8) (Memref.isWhole_whole _) cc0_scratch9 cc0_scratch10 cc0_scratch11 cc0_scratch12 cc0_scratch13 cc0_scratch14 cc0_scoped0 cc0_scoped1 cc0_scoped2) ⟨⟩ c s := rfl

theorem obl_post {t : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes t O W')
      ⊢ iprop(A ∗ B ∗ C ∗ ∃ W', ⌜∀ p ∈ W', p ∈ W ∨ p.2 = none ∨ p.2 = some q⌝ ∗ owes t O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (tile_body m d (coordsV ⟨_, hc.1⟩ ⟨_, hc.2⟩) O W hO).trans (wp_mono frame _ _ fun _ => obl_post)

theorem bigSep_tasks (Φ : Fin 16 → sProp 𝕄) :
    (bigSep Finset.univ fun i : Fin ((K (F := F)).nSub 0) => Φ (Fin.cast nSub_sixteen i)) = bigSep Finset.univ Φ :=
  bigSep_congr fun _ _ => congrArg Φ (Fin.ext rfl)

theorem bigSep_cores (Φ : Fin 2 → sProp 𝕄) :
    (bigSep Finset.univ fun c : Fin ((K (F := F)).nCore 0) => Φ (Fin.cast nCore_two c)) = bigSep Finset.univ Φ :=
  bigSep_congr fun _ _ => congrArg Φ (Fin.ext rfl)

theorem vecSplit : (K (F := F)).VecSplit' (P m) 0 := by
  intro d c
  show (bigSep Finset.univ fun i : Fin 16 => goT m d (Fin.cast nCore_two c, i)) ⊢ |={Set.univ}=> iprop(
      (bigSep Finset.univ fun i : Fin ((K (F := F)).nSub 0) => goT m d (Fin.cast nCore_two c, Fin.cast nSub_sixteen i))
      ∗ ((bigSep Finset.univ fun i : Fin ((K (F := F)).nSub 0) => tdT m d (Fin.cast nCore_two c, Fin.cast nSub_sixteen i))
          -∗ bigSep Finset.univ fun i : Fin 16 => tdT m d (Fin.cast nCore_two c, i)))
  rw [bigSep_tasks (F := F) (fun i => goT m d (Fin.cast nCore_two c, i)), bigSep_tasks (F := F) (fun i => tdT m d (Fin.cast nCore_two c, i))]
  iintro H; imodintro
  isplitl [H]; · iexact H
  iintro H; iexact H

/-! ## The launch element -/

def u₀ : UU F := (initOf (K (F := F)).hsCells (K (F := F)).hsToks, (wm₀ nD τ sig (Elt F), 1))

theorem own_wm : (BI.own (embR (A := UH) (wm₀ nD τ sig (Elt F), (1 : Counters))) : sProp 𝕄) ⊢ ownU ((eWm (F := F)) (wm₀ nD τ sig (Elt F))) := Entails.of_eq rfl

theorem bigSep_unit {I : Type} (s : Finset I) : (bigSep s fun _ => iprop(emp)) = (iprop(emp) : sProp 𝕄) := bigSep_emp_const s

include ρ in
theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun t : Thread nD τ => bigSep Finset.univ fun q : Fin 1 => (P m).x q t) := by
  unfold u₀
  iintro Hu
  ihave H := (ownU_pair _ _) $$ Hu
  icases H with ⟨HH, HK⟩
  ihave HK' := (own_wm (F := F)) $$ HK
  imod ((wmInv_alloc (emb := eWm (F := F)) (⟨m, fun _ => 0, ρ⟩ : MemSt nD τ sig (Elt F)))) $$ HK' with ⟨%ι, -, #Hwm⟩
  imodintro
  isplitl [HH]; · iexact HH
  isplitr; · rw [bigSep_unit]; iempintro
  iapply (bigSep_intro_persistent fun t _ => bigSep_intro_persistent fun q _ =>
    (show iprop(wmInv (Ix := HIx 1) (Lvl := ℕ) (eWm (F := F)) ι) ⊢ (P m).x q t from by
      unfold P; dsimp only; iintro H; iexists ι; iexact H))
  iexact Hwm

/-! ## The host's program -/

/-- The six arrays the call names. -/
def callRefs : Finset (DevRef τ sig) := {rX, rW, rB, rA, rM, rS}
abbrev uc : Finset (DevRef τ sig) := Pipeline.ucRefs τ sig

omit [FloatOps F] in
theorem callRefs_sub : callRefs ⊆ uc := by unfold callRefs uc; decide

/-- The six arrays, the two results at `f` and `g`. -/
def six (d : Dev nD) (f : S500000.Idx → F .f32) (g : S8000000.Idx → F .f32) : sProp 𝕄 :=
  iprop((((d, rX) : Loc nD τ sig) ↦{fullShare} V1 m d rX) ∗ (((d, rW) : Loc nD τ sig) ↦{fullShare} V1 m d rW)
    ∗ (((d, rB) : Loc nD τ sig) ↦{fullShare} V1 m d rB) ∗ (((d, rA) : Loc nD τ sig) ↦{fullShare} V1 m d rA)
    ∗ (((d, rM) : Loc nD τ sig) ↦{fullShare} f) ∗ (((d, rS) : Loc nD τ sig) ↦{fullShare} g))

/-- What the host keeps of the four arrays while the call runs. -/
def kept (d : Dev nD) : sProp 𝕄 :=
  iprop((((d, rX) : Loc nD τ sig) ↦{qr (F := F)} V1 m d rX) ∗ (((d, rW) : Loc nD τ sig) ↦{qr (F := F)} V1 m d rW)
    ∗ (((d, rB) : Loc nD τ sig) ↦{qr (F := F)} V1 m d rB) ∗ (((d, rA) : Loc nD τ sig) ↦{qr (F := F)} V1 m d rA))

theorem held_call (d : Dev nD) (W : Valuation τ sig (Elt F)) (hX : W rX = V1 m d rX) (hW : W rW = V1 m d rW) (hB : W rB = V1 m d rB)
    (hA : W rA = V1 m d rA) : (held (T d) callRefs W : sProp 𝕄) = six m d (W rM) (W rS) := by
  unfold held callRefs six
  rw [SparseCore.bigSep_insert' (by decide), SparseCore.bigSep_insert' (by decide), SparseCore.bigSep_insert' (by decide),
    SparseCore.bigSep_insert' (by decide), SparseCore.bigSep_insert' (by decide), bigSep_singleton, hX, hW, hB, hA]

theorem whole_parts (d : Dev nD) (f : S500000.Idx → F .f32) (g : S8000000.Idx → F .f32) :
    iprop((((d, rM) : Loc nD τ sig) ↦{fullShare} f) ∗ (((d, rS) : Loc nD τ sig) ↦{fullShare} g))
      = (bigSep Finset.univ fun t : Fin 2 × Fin 16 => parts (F := F) d t f g : sProp 𝕄) := by
  have e1 := pointsTo_biUnion (Val := Elt F) (Ix := HIx 1) (Name := ℕ) (Lvl := ℕ) (U := UU F) (ℓ := ((d, rM) : Loc nD τ sig)) (q := fullShare) (f := f)
    Finset.univ (part 500000 15648) (part_disjoint 500000 15648)
  have e2 := pointsTo_biUnion (Val := Elt F) (Ix := HIx 1) (Name := ℕ) (Lvl := ℕ) (U := UU F) (ℓ := ((d, rS) : Loc nD τ sig)) (q := fullShare) (f := g)
    Finset.univ (part 8000000 250368) (part_disjoint 8000000 250368)
  rw [part_cover (by decide) (by decide)] at e1 e2
  unfold parts
  rw [bigSep_sep']
  exact congrArg₂ BI.sep e1 e2

theorem eq_of_both {A B : sProp 𝕄} (h₁ : A ⊢ B) (h₂ : B ⊢ A) : A = B := BI.Entails.antisymm h₁ h₂

theorem six_split (d : Dev nD) (f : S500000.Idx → F .f32) (g : S8000000.Idx → F .f32) :
    six m d f g = iprop((bigSep Finset.univ fun t : Fin 2 × Fin 16 => iprop(reads m d t ∗ parts d t f g)) ∗ kept m d) := by
  rw [bigSep_sep', ← whole_parts]
  unfold six kept reads
  rw [bigSep_sep', bigSep_sep', bigSep_sep', full_shares (d, rX), full_shares (d, rW), full_shares (d, rB), full_shares (d, rA)]
  refine eq_of_both ?_ ?_
  · iintro ⟨⟨HX, HX'⟩, ⟨HW, HW'⟩, ⟨HB, HB'⟩, ⟨HA, HA'⟩, HM, HS⟩
    isplitl [HX HW HB HA HM HS]
    · isplitl [HX HW HB HA]
      · isplitl [HX]; · iexact HX
        isplitl [HW]; · iexact HW
        isplitl [HB]; · iexact HB
        iexact HA
      isplitl [HM]; · iexact HM
      iexact HS
    isplitl [HX']; · iexact HX'
    isplitl [HW']; · iexact HW'
    isplitl [HB']; · iexact HB'
    iexact HA'
  · iintro ⟨⟨⟨HX, HW, HB, HA⟩, HM, HS⟩, HX', HW', HB', HA'⟩
    isplitl [HX HX']
    · isplitl [HX]; · iexact HX
      iexact HX'
    isplitl [HW HW']
    · isplitl [HW]; · iexact HW
      iexact HW'
    isplitl [HB HB']
    · isplitl [HB]; · iexact HB
      iexact HB'
    isplitl [HA HA']
    · isplitl [HA]; · iexact HA
      iexact HA'
    isplitl [HM]; · iexact HM
    iexact HS

theorem pairs_eq (Φ : Fin 2 × Fin 16 → sProp 𝕄) :
    (bigSep Finset.univ fun c : Fin ((K (F := F)).nCore 0) => bigSep Finset.univ fun i : Fin 16 => Φ (Fin.cast nCore_two c, i)) = bigSep Finset.univ Φ :=
  (bigSep_cores (F := F) fun c => bigSep Finset.univ fun i : Fin 16 => Φ (c, i)).trans (bigSep_univ_prod Φ).symm

theorem st0_eq (d : Dev nD) : iprop((bigSep Finset.univ fun c : Fin ((K (F := F)).nCore 0) => (P m).st 0 d c) ∗ kept m d) = six m d (V1 m d rM) (V1 m d rS) := by
  rw [six_split]
  exact congrArg (fun A : sProp 𝕄 => iprop(A ∗ kept m d)) (pairs_eq fun t => goT m d t)
theorem dn0_eq (d : Dev nD) : iprop((bigSep Finset.univ fun c : Fin ((K (F := F)).nCore 0) => (P m).dn 0 d c) ∗ kept m d) = six m d (gM m d) (gS m d) := by
  rw [six_split]
  exact congrArg (fun A : sProp 𝕄 => iprop(A ∗ kept m d)) (pairs_eq fun t => tdT m d t)

theorem V2_of (d : Dev nD) (b : DevRef τ sig) (h1 : b ≠ rM) (h2 : b ≠ rS) : V2 m d b = V1 m d b := by
  unfold V2
  rw [Function.update_of_ne h2, Function.update_of_ne h1]
theorem V2_rM (d : Dev nD) : V2 m d rM = gM m d := by
  unfold V2
  rw [Function.update_of_ne (by decide), Function.update_self]
theorem V2_rS (d : Dev nD) : V2 m d rS = gS m d := by
  unfold V2
  rw [Function.update_self]

/-- All the arrays before the call: what the call takes, what the host keeps of it, and the rest. -/
theorem held_before (d : Dev nD) : (held (T d) uc (V1 m d) : sProp 𝕄)
    = iprop(((bigSep Finset.univ fun c : Fin ((K (F := F)).nCore 0) => (P m).st 0 d c) ∗ kept m d) ∗ held (T d) (uc \ callRefs) (V1 m d)) := by
  rw [StableHlo.held_sub_split (T d) callRefs_sub, st0_eq, held_call m d (V1 m d) rfl rfl rfl rfl]

/-- All the arrays after it. -/
theorem held_after (d : Dev nD) : (held (T d) uc (V2 m d) : sProp 𝕄)
    = iprop(((bigSep Finset.univ fun c : Fin ((K (F := F)).nCore 0) => (P m).dn 0 d c) ∗ kept m d) ∗ held (T d) (uc \ callRefs) (V1 m d)) := by
  rw [StableHlo.held_sub_split (T d) callRefs_sub, dn0_eq,
    held_call m d (V2 m d) (V2_of m d _ (by decide) (by decide)) (V2_of m d _ (by decide) (by decide)) (V2_of m d _ (by decide) (by decide)) (V2_of m d _ (by decide) (by decide)),
    V2_rM, V2_rS]
  refine congrArg (fun A : sProp 𝕄 => iprop(six m d (gM m d) (gS m d) ∗ A)) (StableHlo.held_congr (T d) fun b hb => V2_of m d b ?_ ?_)
  · rintro rfl; exact (Finset.mem_sdiff.mp hb).2 (by unfold callRefs; decide)
  · rintro rfl; exact (Finset.mem_sdiff.mp hb).2 (by unfold callRefs; decide)

theorem held_before' (d : Dev nD) : (held (d.tc : Thread nD τ) uc (after (preOps (F := F)) fun b => m (d, b)) : sProp 𝕄)
    = iprop(((bigSep Finset.univ fun c : Fin ((K (F := F)).nCore 0) => (P m).st 0 d c) ∗ kept m d) ∗ held (T d) (uc \ callRefs) (V1 m d)) := held_before m d
theorem held_after' (d : Dev nD) : (held (d.tc : Thread nD τ) uc (V2 m d) : sProp 𝕄)
    = iprop(((bigSep Finset.univ fun c : Fin ((K (F := F)).nCore 0) => (P m).dn 0 d c) ∗ kept m d) ∗ held (T d) (uc \ callRefs) (V1 m d)) := held_after m d

abbrev FIN (d : Dev nD) : sProp 𝕄 := held (T d) uc (V3 m d)

theorem main_eq (d : Dev nD) : main (F := F) d
    = StableHlo.seq (preOps (F := F)) >>= fun _ => (sc (F := F)).run d 0 >>= fun _ => StableHlo.seq [postOp (F := F)] >>= fun _ => pure ⟨⟩ := by
  unfold main preOps postOp
  simp only [StableHlo.seq, bind_assoc, pure_bind]

theorem preOps_sub : ∀ op ∈ preOps (F := F), op.bufs ⊆ uc := by
  intro op hop
  refine Pipeline.sub_ucRefs op ?_
  unfold preOps at hop
  simp only [List.mem_cons, List.not_mem_nil, or_false] at hop
  rcases hop with rfl | rfl | rfl | rfl | rfl | rfl | rfl | rfl | rfl | rfl | rfl <;> simp only [StableHlo.unary_bufs_sub, StableHlo.reshape_bufs_sub]
theorem preOps_fresh : ∀ op ∈ preOps (F := F), op.fresh = ∅ := by
  intro op hop
  unfold preOps at hop
  simp only [List.mem_cons, List.not_mem_nil, or_false] at hop
  rcases hop with rfl | rfl | rfl | rfl | rfl | rfl | rfl | rfl | rfl | rfl | rfl <;> rfl

theorem unscoped_held (d : Dev nD) : (unscopedBufs d (fun b => m ((d.tc : Thread nD τ).loc b)) : sProp 𝕄) = held (d.tc : Thread nD τ) uc (fun b => m (d, b)) :=
  Pipeline.unscopedBufs_held (Ix := HIx 1) (Name := ℕ) (U := UU F) (Lvl := ℕ) d (fun b => m (d, b))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, unscoped_held]
  iintro ⟨#Hctx, Hst, ⟨Hb, Hheld, Hts, -⟩, -⟩
  iapply (StableHlo.wp_seq 𝒱 none Set.univ d uc _ (preOps (F := F)) preOps_sub preOps_fresh (fun b => m (d, b))) $$ [Hb Hheld]
  · isplitl [Hb] <;> iassumption
  iintro ⟨Hb, Hheld⟩
  ihave H := (Entails.of_eq (held_before' m d)) $$ Hheld
  icases H with ⟨⟨Hgo, Hk⟩, Hrest⟩
  rw [wp_bind]
  iapply ((K (F := F)).wp_run (D (F := F)) 𝒱 (EH := EH) (P := P m) κ d 0) $$ [Hst Hgo Hk Hrest Hb Hts]
  isplitr; · iexact Hctx
  isplitl [Hst]; · iexact Hst
  isplitl [Hgo]; · iexact Hgo
  iintro ⟨Hst, Hdn⟩
  ihave Hheld := (Entails.of_eq (held_after' m d).symm) $$ [Hdn Hk Hrest]
  · isplitl [Hdn Hk]
    · isplitl [Hdn] <;> iassumption
    iexact Hrest
  iapply (StableHlo.wp_seq 𝒱 none Set.univ d uc _ [postOp (F := F)] (fun op hop => by
      rw [List.mem_singleton.mp hop]; exact Pipeline.sub_ucRefs _ (by unfold postOp; simp only [StableHlo.reshape_bufs_sub]))
      (fun op hop => by rw [List.mem_singleton.mp hop]; rfl) (V2 m d)) $$ [Hb Hheld]
  · isplitl [Hb] <;> iassumption
  iintro ⟨Hb, Hheld⟩
  rw [wp_pure]
  imodintro
  isplitl [Hst]; · iexact Hst
  isplitr [Hb Hts]
  · iexact Hheld
  isplitl [Hb] <;> iassumption

def fq (d : Dev nD) (s' : Phys nD τ sig (Elt F)) : Prop := ∀ b ∈ uc, s'.mem.mem (d, b) = V3 m d b

theorem hfin (d : Dev nD) (s' : Phys nD τ sig (Elt F)) : iprop(FIN m d ∗ SI s') ⊢ (⌜fq m d s'⌝ : sProp 𝕄) := by
  by_cases h : fq m d s'
  · exact BIClass.pure_intro h
  · unfold fq at h
    push Not at h
    obtain ⟨b, hb, hne⟩ := h
    have e : (held (T d) uc (V3 m d) : sProp 𝕄) = iprop((((d, b) : Loc nD τ sig) ↦{fullShare} V3 m d b) ∗ bigSep (uc.erase b) fun b => (((d, b) : Loc nD τ sig) ↦{fullShare} V3 m d b)) :=
      SparseCore.bigSep_erase' hb
    show (held (T d) uc (V3 m d) ∗ SI s') ⊢ _
    rw [e]
    iintro ⟨⟨Hx, -⟩, HSI⟩
    ihave H := (SI_pointsTo_agree (st := s') (ℓ := (d, b)) (I := Finset.univ) (q := fullShare) (f := V3 m d b)) $$ [HSI Hx]
    · isplitl [HSI] <;> iassumption
    icases H with %hx
    exact absurd (funext fun i => hx i (Finset.mem_univ i)) hne

/-! ## The program's run -/

def QC : PUnit × MemSt nD τ sig (Elt F) → Prop := fun r => (∀ d : Dev nD, ∀ b ∈ uc, r.2.mem (d, b) = V3 m d b) ∧ r.2.sem = fun _ => 0

/-- From any launch memory the program runs to its end, every array then at what `V3` says, every semaphore at zero. -/
theorem run_main [∀ e, Nonempty (Elt F e)] : θ_run (defs (F := F)) (threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m ρ)) (hmain m ρ) (fq m) (hfin m) (QC m) (fun _ h hz => ⟨h, hz⟩)

end Cert.Proof.Tile
-- ==== Proof.Frames.lean ====
/-
  The frames: the program as it was printed and its idealization leave their arguments alone, and every semaphore at zero.
-/
module

public import proofs.«01_k».proof.Proof.Launch
public import proofs.«01_k».proof.Proof.Gen.Kernel

@[expose] public section

noncomputable section

namespace Cert.Proof.Tile

open Cert.KernelIdeal Cert.KernelIdeal.Gen
open Idealize.ShloMosaic
open Idealize.ShloMosaic.StableHlo (after)
open Idealize.SL.Sem

variable {F : FTy → Type} [FloatOps F]
variable (m : (ℓ : Loc nD τ sig) → Buf (Elt F) ℓ) (ρ : Dev nD → PrngReg)

/-- The arrays the host's operations before the call write. -/
def preOuts : List (Ref sig .tc) := [main_v0, main_v1, main_v2, main_v3, main_v4, main_v5, main_v6, main_v7, main_v8, main_v9, main_v10]

theorem preOps_writes : (preOps (F := F)).Forall fun op => op.writes ⊆ (preOuts.map (Proc.devRef (τ := τ) .tc)).toFinset := by
  unfold preOps
  refine List.forall_iff_forall_mem.mpr fun op hop => ?_
  simp only [List.mem_cons, List.not_mem_nil, or_false] at hop
  rcases hop with rfl | rfl | rfl | rfl | rfl | rfl | rfl | rfl | rfl | rfl | rfl <;> exact Finset.singleton_subset_iff.mpr (by decide)

/-- An array no operation of the host writes and the call does not either keeps its launch contents. -/
theorem V3_of (d : Dev nD) (b : Ref sig .tc) (h : b ∉ preOuts) (h1 : b ≠ main_v11_0) (h2 : b ≠ main_v11_1) (h3 : b ≠ main_v12) :
    V3 m d (Proc.devRef .tc b) = m (d, Proc.devRef .tc b) := by
  have hi := Proc.devRef_injective (τ := τ) (sig := sig) .tc
  unfold V3
  rw [(postOp (F := F)).result_of_not_mem _ (fun hm => h3 (hi (Finset.mem_singleton.mp hm))), V2_of m d _ (fun e => h1 (hi e)) (fun e => h2 (hi e))]
  exact StableHlo.after_of_writes_sub _ _ preOps_writes h

theorem mem_uc {b : Ref sig .tc} (hb : b.isScoped = false) : (Proc.devRef .tc b : DevRef τ sig) ∈ uc :=
  Finset.mem_filter.mpr ⟨StableHlo.devRef_mem_tcRefs _, fun h => Bool.false_ne_true (hb.symm.trans h)⟩

/-- None of the four arguments is written. -/
theorem V3_arg (d : Dev nD) (b : Ref sig .tc) (hb : b ∈ [main_arg0, main_arg1, main_arg2, main_arg3]) :
    V3 m d (Proc.devRef .tc b) = m (d, Proc.devRef .tc b) := by
  simp only [List.mem_cons, List.not_mem_nil, or_false] at hb
  refine V3_of m d b ?_ ?_ ?_ ?_ <;> rcases hb with rfl | rfl | rfl | rfl <;> decide

/-- The arguments as the run leaves them. -/
theorem args_kept (r : PUnit × MemSt nD τ sig (Elt F)) (h : QC m r) (c : Dev nD) (b : Ref sig .tc) (hb : b ∈ [main_arg0, main_arg1, main_arg2, main_arg3]) :
    r.2.mem ((c.tc : Thread nD τ).loc b) = m ((c.tc : Thread nD τ).loc b) := by
  refine (h.1 c _ (mem_uc ?_)).trans (V3_arg m c b hb)
  simp only [List.mem_cons, List.not_mem_nil, or_false] at hb
  rcases hb with rfl | rfl | rfl | rfl <;> rfl

theorem frame_of [∀ e, Nonempty (Elt F e)] : θ_run (defs (F := F)) (threads (F := F)) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  (θ_run defs _ _).mono (fun r h => ⟨fun c => ⟨args_kept m r h c main_arg0 (by decide), args_kept m r h c main_arg1 (by decide),
    args_kept m r h c main_arg2 (by decide), args_kept m r h c main_arg3 (by decide)⟩, h.2⟩) (run_main m ρ)

theorem frame_ideal : Cert.quiescent_KernelIdeal := fun m g _ => frame_of m g

/-- The program as printed is the same text. -/
theorem frame_printed : Cert.quiescent_Kernel := fun m g _ => frame_of (F := Bits) m g

end Cert.Proof.Tile

end
-- ==== Proof.Ref.lean ====
/-
  The reference's run over the ideal floats: its operations in order, the arrays they write, and its two results as
  functions of the four arguments.
-/
module

public import proofs.«01_k».proof.Defs
public import Idealize.ShloMosaic.Lib.StableHlo.RunHlo
public import Idealize.ShloMosaic.Lib.Quiescent
public import proofs.«01_k».proof.Proof.Gen.ReferenceIdeal

@[expose] public section

noncomputable section

namespace Cert.Proof.Ref

open Cert.ReferenceIdeal Cert.ReferenceIdeal.Gen
open Idealize.ShloMosaic Idealize.ShloMosaic.TcCoe Idealize.ShloMosaic.StableHlo Idealize.SL.Sem

variable {F : FTy → Type} [FloatOps F]

/-- The reference's operations, its two calls written out in place. -/
def refOps : List (HloOp τ sig (Elt F)) := [
  unary main_arg1 main_v0 ((transpose S3x16 [1, 0] · transposes_S16x3_S3x16_1_0) : (⟨S16x3, .f32⟩ : BufTy).Contents (Elt F) → (⟨S3x16, .f32⟩ : BufTy).Contents (Elt F)),
  binary main_arg0 main_v0 main_v1 ((fun l r => Host.dotGeneral dot_S500000x3_S3x16_S500000x16_1_0_0_1_n_n none l r) : (⟨S500000x3, .f32⟩ : BufTy).Contents (Elt F) → (⟨S3x16, .f32⟩ : BufTy).Contents (Elt F) → (⟨S500000x16, .f32⟩ : BufTy).Contents (Elt F)),
  unary main_arg2 main_v2 (broadcastInDim S1x16 ![1] bcast_S16_S1x16_1 : (⟨S16, .f32⟩ : BufTy).Contents (Elt F) → (⟨S1x16, .f32⟩ : BufTy).Contents (Elt F)),
  unary main_v2 main_v3 (broadcastInDim S500000x16 ![0, 1] bcast_S1x16_S500000x16_0_1 : (⟨S1x16, .f32⟩ : BufTy).Contents (Elt F) → (⟨S500000x16, .f32⟩ : BufTy).Contents (Elt F)),
  binary main_v1 main_v3 main_v4 (addf : (⟨S500000x16, .f32⟩ : BufTy).Contents (Elt F) → (⟨S500000x16, .f32⟩ : BufTy).Contents (Elt F) → (⟨S500000x16, .f32⟩ : BufTy).Contents (Elt F)),
  binary main_arg0 main_arg3 main_v5 ((fun l r => Host.dotGeneral dot_S500000x3_S16x3x16_S500000x16x16_1_1_0_02_n_n none l r) : (⟨S500000x3, .f32⟩ : BufTy).Contents (Elt F) → (⟨S16x3x16, .f32⟩ : BufTy).Contents (Elt F) → (⟨S500000x16x16, .f32⟩ : BufTy).Contents (Elt F)),
  nullary main_cst (constant S_ .f32 0x7F800000#32),
  binary main_v4 main_cst main_v6 ((fun x v => Host.reduce FloatOps.minimumf x v reducesTo_S500000x16_S500000_d1 h_S_) : (⟨S500000x16, .f32⟩ : BufTy).Contents (Elt F) → (⟨S_, .f32⟩ : BufTy).Contents (Elt F) → (⟨S500000, .f32⟩ : BufTy).Contents (Elt F)),
  nullary main_call0_v0 (iotaInDim S500000x16 32 1),
  nullary main_call0_cst (constant S_ .f32 0x7F800000#32),
  nullary main_call0_c (constantI S_ 32 0#32),
  quaternary main_v4 main_call0_v0 main_call0_cst main_call0_c main_call0_v1_0 (fun x y u v j => (Host.argReduce reducer_argmin_f32_i32 x y u v reducesTo_S500000x16_S500000_d1 h_S_ j).1),
  quaternary main_v4 main_call0_v0 main_call0_cst main_call0_c main_v7 (fun x y u v j => (Host.argReduce reducer_argmin_f32_i32 x y u v reducesTo_S500000x16_S500000_d1 h_S_ j).2),
  unary main_v7 main_v8 (broadcastInDim S500000x1x1 ![0] bcast_S500000_S500000x1x1_0 : (⟨S500000, .i32⟩ : BufTy).Contents (Elt F) → (⟨S500000x1x1, .i32⟩ : BufTy).Contents (Elt F)),
  unary main_v8 main_v9 (broadcastInDim S500000x1x16 ![0, 1, 2] bcast_S500000x1x1_S500000x1x16_0_1_2 : (⟨S500000x1x1, .i32⟩ : BufTy).Contents (Elt F) → (⟨S500000x1x16, .i32⟩ : BufTy).Contents (Elt F)),
  nullary main_call1_c (constantI S_ 32 0#32),
  unary main_call1_c main_call1_v0 (broadcastInDim S500000x1x16 ![] bcast_S_S500000x1x16),
  binary main_v9 main_call1_v0 main_call1_v1 (cmpi .slt),
  nullary main_call1_c_0 (constantI S_ 32 16#32),
  unary main_call1_c_0 main_call1_v2 (broadcastInDim S500000x1x16 ![] bcast_S_S500000x1x16),
  binary main_v9 main_call1_v2 main_call1_v3 addi,
  ternary main_call1_v1 main_call1_v3 main_v9 main_call1_v4 select,
  reshape main_call1_v4 main_call1_v5 (rfl : (.i32 : EltTy) = .i32) shapeCasts_S500000x1x16_S500000x1x16x1,
  nullary main_call1_c_1 (constantI S1 32 15#32),
  nullary main_call1_c_2 (constantI S_ 32 0#32),
  unary main_call1_c_2 main_call1_v6 (broadcastInDim S500000x1x16x1 ![] bcast_S_S500000x1x16x1),
  binary main_call1_v5 main_call1_v6 main_call1_v7 (cmpi .sge),
  unary main_call1_c_1 main_call1_v8 (broadcastInDim S1x1x1x1 ![3] bcast_S1_S1x1x1x1_3),
  unary main_call1_v8 main_call1_v9 (broadcastInDim S500000x1x16x1 ![0, 1, 2, 3] bcast_S1x1x1x1_S500000x1x16x1_0_1_2_3),
  binary main_call1_v5 main_call1_v9 main_call1_v10 (cmpi .sle),
  binary main_call1_v7 main_call1_v10 main_call1_v11 andi,
  nullary main_call1_c_3 (constantI S_ 1 1#1),
  binary main_call1_v11 main_call1_c_3 main_call1_v12 ((fun x v => Host.reduce IntOp.andi x v reducesTo_S500000x1x16x1_S500000x1x16_d3 h_S_) : (⟨S500000x1x16x1, .i1⟩ : BufTy).Contents (Elt F) → (⟨S_, .i1⟩ : BufTy).Contents (Elt F) → (⟨S500000x1x16, .i1⟩ : BufTy).Contents (Elt F)),
  binary main_v5 main_call1_v5 main_call1_v13 ((fun x i => Host.gather gather_S500000x16x16_S500000x1x16x1_S500000x1x16_n_1_02_02_1_3_111 x i) : (⟨S500000x16x16, .f32⟩ : BufTy).Contents (Elt F) → (⟨S500000x1x16x1, .i32⟩ : BufTy).Contents (Elt F) → (⟨S500000x1x16, .f32⟩ : BufTy).Contents (Elt F)),
  nullary main_call1_cst (constant S_ .f32 0x7FC00000#32),
  unary main_call1_cst main_call1_v14 (broadcastInDim S500000x1x16 ![] bcast_S_S500000x1x16),
  ternary main_call1_v12 main_call1_v13 main_call1_v14 main_v10 select,
  reshape main_v10 main_v11 (rfl : (.f32 : EltTy) = .f32) shapeCasts_S500000x1x16_S500000x16]

attribute [local irreducible] Host.reduce Host.gather Host.argReduce in
theorem main_eq (c : Dev nD) : main (F := F) c = seq refOps := by
  unfold refOps
  simp only [main, fn_argmin.body, fn_take_along_axis.body, bind_assoc, pure_bind]
  show IsSeq _ _
  repeat (first | exact IsSeq.nil | refine IsSeq.cons ?_)

theorem no_scoped_refs : (Finset.univ.filter fun b : Ref sig .tc => b.isScoped) = ∅ := by decide
theorem no_scoped_sems : (Finset.univ.filter fun sm : SemLoc sig => sm.isScoped .tc) = ∅ := by decide

theorem refOps_sub : (refOps : List (HloOp τ sig (Elt F))).Forall fun op => op.bufs ⊆ tcRefs τ sig :=
  ⟨unary_bufs_sub .., binary_bufs_sub .., unary_bufs_sub .., unary_bufs_sub .., binary_bufs_sub .., binary_bufs_sub .., nullary_bufs_sub .., binary_bufs_sub .., nullary_bufs_sub .., nullary_bufs_sub .., nullary_bufs_sub .., quaternary_bufs_sub .., quaternary_bufs_sub .., unary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub .., reshape_bufs_sub ..⟩

/-- Every run of the reference ends with each array holding what its operations leave there. -/
theorem run_ref (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after refOps (launchContents m c) (b : DevRef τ sig) :=
  run_seq no_scoped_refs no_scoped_sems defs main (fun _ => refOps) main_eq (fun _ => refOps_sub) m ρ

/-- The arrays the reference's operations write. -/
def refOuts : List (Ref sig .tc) := [main_v0, main_v1, main_v2, main_v3, main_v4, main_v5, main_cst, main_v6, main_call0_v0, main_call0_cst, main_call0_c, main_call0_v1_0, main_v7, main_v8, main_v9, main_call1_c, main_call1_v0, main_call1_v1, main_call1_c_0, main_call1_v2, main_call1_v3, main_call1_v4, main_call1_v5, main_call1_c_1, main_call1_c_2, main_call1_v6, main_call1_v7, main_call1_v8, main_call1_v9, main_call1_v10, main_call1_v11, main_call1_c_3, main_call1_v12, main_call1_v13, main_call1_cst, main_call1_v14, main_v10, main_v11]

theorem refOps_writes : (refOps (F := F)).Forall fun op => op.writes ⊆ (refOuts.map (Proc.devRef (τ := τ) .tc)).toFinset := by
  unfold refOps
  refine List.forall_iff_forall_mem.mpr fun op hop => ?_
  simp only [List.mem_cons, List.not_mem_nil, or_false] at hop
  rcases hop with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl <;> exact Finset.singleton_subset_iff.mpr (by decide)

/-- An array no operation writes keeps its contents. -/
theorem kept (V : Valuation τ sig (Elt F)) (b : Ref sig .tc) (h : b ∉ refOuts) : after refOps V (b : DevRef τ sig) = V (b : DevRef τ sig) := by
  exact after_of_writes_sub _ _ refOps_writes h

/-! ## The two results -/

/-- The distance of every point to every centre. -/
def distR (x : FVec F S500000x3 .f32) (w : FVec F S16x3 .f32) (b : FVec F S16 .f32) : FVec F S500000x16 .f32 :=
  addf (Host.dotGeneral dot_S500000x3_S3x16_S500000x16_1_0_0_1_n_n none x (transpose S3x16 [1, 0] w transposes_S16x3_S3x16_1_0))
    (broadcastInDim S500000x16 ![0, 1] bcast_S1x16_S500000x16_0_1 (broadcastInDim S1x16 ![1] bcast_S16_S1x16_1 b))

/-- The least distance of every point. -/
def minR (y : FVec F S500000x16 .f32) : FVec F S500000 .f32 :=
  Host.reduce FloatOps.minimumf y (constant S_ .f32 0x7F800000#32) reducesTo_S500000x16_S500000_d1 h_S_

/-- The least distance of every point with the first centre that reaches it. -/
def pairR (y : FVec F S500000x16 .f32) (j : S500000.Idx) : F .f32 × BitVec 32 :=
  Host.argReduce reducer_argmin_f32_i32 y (iotaInDim S500000x16 32 1) (constant S_ .f32 0x7F800000#32) (constantI S_ 32 0#32)
    reducesTo_S500000x16_S500000_d1 h_S_ j

/-- That centre. -/
def argR (y : FVec F S500000x16 .f32) : IVec S500000 32 := fun j => (pairR y j).2

/-- The index of the row taken, once for every column. -/
def rowR (i : IVec S500000 32) : IVec S500000x1x16 32 :=
  broadcastInDim S500000x1x16 ![0, 1, 2] bcast_S500000x1x1_S500000x1x16_0_1_2 (broadcastInDim S500000x1x1 ![0] bcast_S500000_S500000x1x1_0 i)

/-- The index counted from the front, with its own last axis. -/
def normR (i : IVec S500000x1x16 32) : IVec S500000x1x16x1 32 :=
  shapeCast S500000x1x16x1 (select (cmpi .slt i (broadcastInDim S500000x1x16 ![] bcast_S_S500000x1x16 (constantI S_ 32 0#32)))
    (addi i (broadcastInDim S500000x1x16 ![] bcast_S_S500000x1x16 (constantI S_ 32 16#32))) i) shapeCasts_S500000x1x16_S500000x1x16x1

/-- Where the index is one of the sixteen rows. -/
def insideR (n : IVec S500000x1x16x1 32) : IVec S500000x1x16 1 :=
  Host.reduce IntOp.andi
    (andi (cmpi .sge n (broadcastInDim S500000x1x16x1 ![] bcast_S_S500000x1x16x1 (constantI S_ 32 0#32)))
      (cmpi .sle n (broadcastInDim S500000x1x16x1 ![0, 1, 2, 3] bcast_S1x1x1x1_S500000x1x16x1_0_1_2_3
        (broadcastInDim S1x1x1x1 ![3] bcast_S1_S1x1x1x1_3 (constantI S1 32 15#32)))))
    (constantI S_ 1 1#1) reducesTo_S500000x1x16x1_S500000x1x16_d3 h_S_

/-- The rows taken. -/
def takeR (a : FVec F S500000x16x16 .f32) (n : IVec S500000x1x16x1 32) : FVec F S500000x1x16 .f32 :=
  select (insideR n) (Host.gather gather_S500000x16x16_S500000x1x16x1_S500000x1x16_n_1_02_02_1_3_111 a n)
    (broadcastInDim S500000x1x16 ![] bcast_S_S500000x1x16 (constant S_ .f32 0x7FC00000#32))

/-- Every point through all sixteen matrices. -/
def attR (x : FVec F S500000x3 .f32) (a : FVec F S16x3x16 .f32) : FVec F S500000x16x16 .f32 :=
  Host.dotGeneral dot_S500000x3_S16x3x16_S500000x16x16_1_1_0_02_n_n none x a

/-- The attributes of the centre chosen. -/
def selR (x : FVec F S500000x3 .f32) (w : FVec F S16x3 .f32) (b : FVec F S16 .f32) (a : FVec F S16x3x16 .f32) :
    FVec F S500000x16 .f32 :=
  shapeCast S500000x16 (takeR (attR x a) (normR (rowR (argR (distR x w b))))) shapeCasts_S500000x1x16_S500000x16

theorem min_eq (V : Valuation τ sig (Elt F)) : after refOps V (main_v6 : DevRef τ sig)
    = minR (distR (V (main_arg0 : DevRef τ sig)) (V (main_arg1 : DevRef τ sig)) (V (main_arg2 : DevRef τ sig))) := by
  unfold refOps
  after_results_simp
  rfl

theorem sel_eq (V : Valuation τ sig (Elt F)) : after refOps V (main_v11 : DevRef τ sig)
    = selR (V (main_arg0 : DevRef τ sig)) (V (main_arg1 : DevRef τ sig)) (V (main_arg2 : DevRef τ sig)) (V (main_arg3 : DevRef τ sig)) := by
  unfold refOps
  after_results_simp
  rfl

/-- The reference leaves its arguments alone; it has no semaphore. -/
theorem frame_ref : Cert.quiescent_ReferenceIdeal := fun m ρ _ =>
  (θ_run defs _ _).mono (fun r h => ⟨fun c => ⟨(h c main_arg0).trans (kept _ _ (by decide)), (h c main_arg1).trans (kept _ _ (by decide)),
      (h c main_arg2).trans (kept _ _ (by decide)), (h c main_arg3).trans (kept _ _ (by decide))⟩,
      sem_eq_zero_of_no_sems (by decide) r.2⟩)
    (run_ref (F := Ideal) m ρ)

end Cert.Proof.Ref

end
-- ==== Proof.Pick.lean ====
/-
  Choosing the least of a list of extended reals and the first number that reaches it: what the kernel's running choice
  holds after k steps, and what the reference's two reductions along a row come to.
-/
module

public import proofs.«01_k».proof.Proof.Value
public import proofs.«01_k».proof.Proof.Ref
public import Idealize.ShloMosaic.Lib.Pointwise

@[expose] public section

noncomputable section

namespace Cert.Proof.Pick

open Idealize.ShloMosaic Cert.Proof.Value

/-! ## A fold that always keeps one of its two operands -/

/-- A fold whose step keeps an operand that comes no later than the other ends at a member that comes no later than any. -/
theorem foldl_pick {α : Type} (f : α → α → α) (R : α → α → Prop) (hr : ∀ a, R a a) (ht : ∀ a b c, R a b → R b c → R a c)
    (hf : ∀ a b, (f a b = a ∧ R a b) ∨ (f a b = b ∧ R b a)) (l : List α) (z : α) :
    (l.foldl f z = z ∨ l.foldl f z ∈ l) ∧ R (l.foldl f z) z ∧ ∀ q ∈ l, R (l.foldl f z) q := by
  induction l generalizing z with
  | nil => exact ⟨Or.inl rfl, hr z, fun q hq => absurd hq List.not_mem_nil⟩
  | cons a l ih =>
    obtain ⟨hm, hz, hl⟩ := ih (f z a)
    rw [List.foldl_cons]
    rcases hf z a with ⟨e, h⟩ | ⟨e, h⟩ <;> rw [e] at hm hz hl ⊢
    · refine ⟨hm.imp_right (List.mem_cons_of_mem a), hz, fun q hq => ?_⟩
      rcases List.mem_cons.mp hq with rfl | hq
      · exact ht _ _ _ hz h
      · exact hl q hq
    · refine ⟨Or.inr (hm.elim (fun e => List.mem_cons.mpr (Or.inl e)) (List.mem_cons_of_mem a)), ht _ _ _ hz h, fun q hq => ?_⟩
      rcases List.mem_cons.mp hq with rfl | hq
      · exact hz
      · exact hl q hq

/-! ## The kernel's running choice -/

section Kernel

variable (W : ℕ → ℕ → Ideal .f32) (B : ℕ → Ideal .f32) (x0 x1 x2 : FVec Ideal Cert.KernelIdeal.S16 .f32) (i : Cert.KernelIdeal.S16.Idx)

/-- Number `j` is the first among 0 … n at which `D` is least. -/
def First (D : ℕ → EReal) (n j : ℕ) : Prop := j ≤ n ∧ (∀ l, l ≤ n → D j ≤ D l) ∧ ∀ l, l < j → D j < D l

/-- After `k` steps the running choice is the first number at the least distance, with that distance. -/
theorem acc_first (k : ℕ) : ∃ j, First (fun l => dist W B x0 x1 x2 l i) k j
    ∧ accI W B x0 x1 x2 k i = BitVec.ofNat 32 j ∧ accM W B x0 x1 x2 k i = dist W B x0 x1 x2 j i := by
  induction k with
  | zero =>
    refine ⟨0, ⟨Nat.le_refl 0, fun l hl => ?_, fun l hl => absurd hl (Nat.not_lt_zero l)⟩, rfl, rfl⟩
    rw [Nat.le_zero.mp hl]
  | succ k ih =>
    obtain ⟨j, ⟨hj, hle, hlt⟩, eI, eM⟩ := ih
    have sM : accM W B x0 x1 x2 (k + 1) i = Scalar.select (Ideal.cmp .olt (dist W B x0 x1 x2 (k + 1) i) (accM W B x0 x1 x2 k i))
        (dist W B x0 x1 x2 (k + 1) i) (accM W B x0 x1 x2 k i) := rfl
    have sI : accI W B x0 x1 x2 (k + 1) i = Scalar.select (Ideal.cmp .olt (dist W B x0 x1 x2 (k + 1) i) (accM W B x0 x1 x2 k i))
        (BitVec.ofNat 32 (k + 1)) (accI W B x0 x1 x2 k i) := rfl
    rw [sM, sI, eI, eM]
    by_cases h : (dist W B x0 x1 x2 (k + 1) i : EReal) < dist W B x0 x1 x2 j i
    · have hc : Ideal.cmp .olt (dist W B x0 x1 x2 (k + 1) i) (dist W B x0 x1 x2 j i) = 1#1 := by simp [Ideal.cmp, h]
      rw [hc]
      refine ⟨k + 1, ⟨Nat.le_refl _, fun l hl => ?_, fun l hl => lt_of_lt_of_le h (hle l (Nat.le_of_lt_succ hl))⟩, rfl, rfl⟩
      rcases Nat.lt_or_ge k l with hk | hk
      · rw [Nat.le_antisymm hl hk]
      · exact le_of_lt (lt_of_lt_of_le h (hle l hk))
    · have hc : Ideal.cmp .olt (dist W B x0 x1 x2 (k + 1) i) (dist W B x0 x1 x2 j i) = 0#1 := by simp [Ideal.cmp, h]
      rw [hc]
      refine ⟨j, ⟨Nat.le_succ_of_le hj, fun l hl => ?_, hlt⟩, rfl, rfl⟩
      rcases Nat.lt_or_ge k l with hk | hk
      · rw [Nat.le_antisymm hl hk]; exact not_lt.mp h
      · exact hle l hk

end Kernel

/-! ## The reference's reductions along a row -/

open Cert.ReferenceIdeal Cert.ReferenceIdeal.Gen Cert.Proof.Ref

/-- The order in which a least value is chosen: by value, then by number. -/
def NotAfter (a b : EReal × BitVec 32) : Prop := a.1 < b.1 ∨ (a.1 = b.1 ∧ a.2.toInt ≤ b.2.toInt)

theorem notAfter_refl (a : EReal × BitVec 32) : NotAfter a a := Or.inr ⟨rfl, le_refl _⟩

theorem notAfter_trans (a b c : EReal × BitVec 32) (h : NotAfter a b) (h' : NotAfter b c) : NotAfter a c := by
  rcases h with h | ⟨h, g⟩ <;> rcases h' with h' | ⟨h', g'⟩
  · exact Or.inl (h.trans h')
  · exact Or.inl (h' ▸ h)
  · exact Or.inl (h ▸ h')
  · exact Or.inr ⟨h.trans h', g.trans g'⟩

/-- The step of the reference's reduction keeps one of its two pairs, one that comes no later than the other. -/
theorem step_pick (a b : EReal × BitVec 32) : (reducer_argmin_f32_i32 (F := Ideal) a b = a ∧ NotAfter a b)
    ∨ (reducer_argmin_f32_i32 (F := Ideal) a b = b ∧ NotAfter b a) := by
  obtain ⟨u, p⟩ := a
  obtain ⟨v, q⟩ := b
  have e : reducer_argmin_f32_i32 (F := Ideal) (u, p) (v, q)
      = (Scalar.select (IntOp.ori (Ideal.cmp .olt u v) (Ideal.cmp .une u u)) u v,
        Scalar.select (IntOp.ori (IntOp.ori (Ideal.cmp .olt u v) (Ideal.cmp .une u u)) (IntOp.andi (Ideal.cmp .oeq u v) (IntOp.cmpi .slt p q))) p q) := rfl
  rw [e]
  rcases lt_trichotomy u v with h | h | h
  · left
    refine ⟨?_, Or.inl h⟩
    have hne : u ≠ v := ne_of_lt h
    simp [Ideal.cmp, h, hne, IntOp.ori, IntOp.andi, Scalar.select]
  · subst h
    by_cases g : p.toInt < q.toInt
    · left
      refine ⟨?_, Or.inr ⟨rfl, le_of_lt g⟩⟩
      simp [Ideal.cmp, IntOp.ori, IntOp.andi, IntOp.cmpi, Scalar.select, BitVec.slt, g]
    · right
      refine ⟨?_, Or.inr ⟨rfl, not_lt.mp g⟩⟩
      simp [Ideal.cmp, IntOp.ori, IntOp.andi, IntOp.cmpi, Scalar.select, BitVec.slt, g]
  · right
    refine ⟨?_, Or.inl h⟩
    have hne : u ≠ v := ne_of_gt h
    simp [Ideal.cmp, not_lt.mpr (le_of_lt h), hne, IntOp.ori, IntOp.andi, Scalar.select]

theorem top_bits : Ideal.ofBits .f32 0x7F800000#32 = ⊤ := by simp [Ideal.ofBits, Ideal.ieee]

/-- The pairs an index-carrying reduction runs over, and the values a plain one runs over. -/
theorem mem_pairs {s t : Shape} {axes : List (Fin s.rank)} {α β : Type} (x : s.Idx → α) (y : s.Idx → β) (h : s.ReducesTo axes t) (j : t.Idx)
    (q : α × β) : q ∈ Host.argReduceFiber x y h j ↔ ∃ i, h.drop i = j ∧ (x i, y i) = q := by
  unfold Host.argReduceFiber
  simp only [List.mem_map, List.mem_filter, List.mem_finRange, true_and, decide_eq_true_eq]
  exact ⟨fun ⟨n, hn, e⟩ => ⟨_, hn, e⟩, fun ⟨i, hi, e⟩ => ⟨s.rowMajor i, by rw [Equiv.symm_apply_apply]; exact ⟨hi, e⟩⟩⟩

theorem reduce_pick {s t u : Shape} {axes : List (Fin s.rank)} {α : Type} (f : α → α → α) (R : α → α → Prop) (hr : ∀ a, R a a)
    (ht : ∀ a b c, R a b → R b c → R a c) (hf : ∀ a b, (f a b = a ∧ R a b) ∨ (f a b = b ∧ R b a)) (x : s.Idx → α) (z : u.Idx → α)
    (h : s.ReducesTo axes t) (hu : 0 < u.numel) (j : t.Idx) :
    (Host.reduce f x z h hu j = z (Shape.Idx.first hu) ∨ ∃ i, h.drop i = j ∧ x i = Host.reduce f x z h hu j)
      ∧ ∀ i, h.drop i = j → R (Host.reduce f x z h hu j) (x i) := by
  have hl := foldl_pick f R hr ht hf ((((List.finRange s.numel).map s.rowMajor.symm).filter fun i => h.drop i = j).map x) (z (Shape.Idx.first hu))
  rw [List.foldl_map, ← Host.reduce_eq_foldl] at hl
  simp only [List.mem_map, List.mem_filter, List.mem_finRange, true_and, decide_eq_true_eq] at hl
  refine ⟨hl.1.imp_right fun ⟨i, hi, e⟩ => ⟨i, hi.2, e⟩, fun i hi => hl.2.2 _ ⟨i, ⟨⟨s.rowMajor i, Equiv.symm_apply_apply _ _⟩, hi⟩, rfl⟩⟩

theorem argReduce_pick {s t u : Shape} {axes : List (Fin s.rank)} {β : Type} (f : EReal × β → EReal × β → EReal × β) (R : EReal × β → EReal × β → Prop)
    (hr : ∀ a, R a a) (ht : ∀ a b c, R a b → R b c → R a c) (hf : ∀ a b, (f a b = a ∧ R a b) ∨ (f a b = b ∧ R b a))
    (x : FVec Ideal s .f32) (y : s.Idx → β) (z : u.Idx → Ideal .f32) (w : u.Idx → β) (h : s.ReducesTo axes t) (hu : 0 < u.numel) (j : t.Idx) :
    (Host.argReduce f x y z w h hu j = (z (Shape.Idx.first hu), w (Shape.Idx.first hu)) ∨ ∃ i, h.drop i = j ∧ (x i, y i) = Host.argReduce f x y z w h hu j)
      ∧ ∀ i, h.drop i = j → R (Host.argReduce f x y z w h hu j) (x i, y i) := by
  rw [Ideal.argReduce_eq_reduce2, Host.reduce2_eq_foldl_fiber]
  obtain ⟨hm, hz, ha⟩ := foldl_pick f R hr ht hf (Host.argReduceFiber x y h j) (z (Shape.Idx.first hu), w (Shape.Idx.first hu))
  exact ⟨hm.imp_right (mem_pairs x y h j _).mp, fun i hi => ha _ ((mem_pairs x y h j _).mpr ⟨i, hi, rfl⟩)⟩

/-- An index of the distances lies on row `p` exactly when its first coordinate is `p`. -/
theorem drop_row (i : S500000x16.Idx) (p : S500000.Idx) :
    (reducesTo_S500000x16_S500000_d1.drop i = p) ↔ (i 0).val = (p 0).val := by
  have e : (reducesTo_S500000x16_S500000_d1.drop i 0).val = (i 0).val :=
    Shape.ReducesTo.drop_apply_val_of_eq (c := 0) reducesTo_S500000x16_S500000_d1 i 0
  constructor
  · rintro rfl; exact e.symm
  · intro h
    funext a
    have ha : a = 0 := Subsingleton.elim a 0
    subst ha
    exact Fin.ext (e.trans h)

/-- The distances of point `p` as a function of the centre's number. -/
def row (y : FVec Ideal S500000x16 .f32) (p : Fin 500000) (k : ℕ) : EReal := y (Idealize.ShloMosaic.ix2 p ⟨k % 16, Nat.mod_lt _ (by decide)⟩)

theorem row_at (y : FVec Ideal S500000x16 .f32) (p : Fin 500000) (i : S500000x16.Idx) (h : (i 0).val = p.val) :
    y i = row y p (i 1).val := by
  unfold row
  refine congrArg y (funext fun a => ?_)
  match a with
  | ⟨0, _⟩ => exact Fin.ext h
  | ⟨1, _⟩ => exact Fin.ext (Nat.mod_eq_of_lt (i 1).isLt).symm

/-- The least distance of a point is the distance to the first centre at which it is least. -/
theorem minR_first (y : FVec Ideal S500000x16 .f32) (p : Fin 500000) (j : ℕ) (h : First (row y p) 15 j) :
    minR y (Idealize.ShloMosaic.ix1 p) = row y p j := by
  obtain ⟨hj, hle, _⟩ := h
  unfold minR
  obtain ⟨hm, ha⟩ := reduce_pick (FloatOps.minimumf (F := Ideal) (φ := .f32)) (fun a b : EReal => a ≤ b) (fun a => le_refl a)
    (fun a b c h h' => h.trans h') (fun a b => (le_total (a : EReal) b).imp (fun h => ⟨min_eq_left h, h⟩) (fun h => ⟨min_eq_right h, h⟩))
    y (constant S_ .f32 0x7F800000#32) reducesTo_S500000x16_S500000_d1 h_S_ (Idealize.ShloMosaic.ix1 p)
  generalize Host.reduce FloatOps.minimumf y (constant S_ .f32 0x7F800000#32) reducesTo_S500000x16_S500000_d1 h_S_ (Idealize.ShloMosaic.ix1 p) = P at hm ha ⊢
  refine le_antisymm (ha (Idealize.ShloMosaic.ix2 p ⟨j % 16, Nat.mod_lt _ (by decide)⟩) ((drop_row _ _).mpr rfl)) ?_
  rcases hm with rfl | ⟨i, hi, rfl⟩
  · exact le_of_le_of_eq le_top top_bits.symm
  · rw [row_at y p i ((drop_row _ _).mp hi)]
    exact hle _ (Nat.le_of_lt_succ (i 1).isLt)

theorem small_toInt (l : ℕ) (hl : l < 16) : (BitVec.ofNat 32 l).toInt = l := by
  rw [BitVec.toInt_eq_toNat_of_lt] <;> rw [BitVec.toNat_ofNat, Nat.mod_eq_of_lt (by omega)]
  omega

/-- A pair that comes no later than any of the row's, and is one of them or +∞ at number 0, has the first least number. -/
theorem pick_first (D : ℕ → EReal) (j : ℕ) (h : First D 15 j) (P : EReal × BitVec 32)
    (hm : P = (⊤, 0#32) ∨ ∃ l, l < 16 ∧ P = (D l, BitVec.ofNat 32 l)) (hJ : NotAfter P (D j, BitVec.ofNat 32 j)) :
    P.2 = BitVec.ofNat 32 j := by
  obtain ⟨hj, hle, hlt⟩ := h
  rcases hm with rfl | ⟨l, hl, rfl⟩
  · rcases hJ with h | ⟨h, _⟩
    · exact absurd h not_top_lt
    · rcases Nat.eq_zero_or_pos j with rfl | hp
      · rfl
      · have h2 := hlt 0 hp
        have h3 : (⊤ : EReal) = D j := h
        rw [← h3] at h2
        exact absurd h2 not_top_lt
  · rcases hJ with h | ⟨h, g⟩
    · exact absurd h (not_lt.mpr (hle _ (by omega)))
    · have g' : (BitVec.ofNat 32 l).toInt ≤ (BitVec.ofNat 32 j).toInt := g
      have h' : D l = D j := h
      rw [small_toInt _ hl, small_toInt j (by omega)] at g'
      rcases Nat.lt_or_ge l j with hq | hq
      · exact absurd h'.symm (ne_of_lt (hlt _ hq))
      · show BitVec.ofNat 32 l = _
        rw [Nat.le_antisymm (by omega) hq]

end Cert.Proof.Pick

end
-- ==== Proof.Arg.lean ====
/-
  The number the reference picks along a row of distances.
-/
module

public import proofs.«01_k».proof.Proof.Pick

@[expose] public section

noncomputable section

namespace Cert.Proof.Pick

open Idealize.ShloMosaic Cert.Proof.Value
open Cert.ReferenceIdeal Cert.ReferenceIdeal.Gen Cert.Proof.Ref

/-- A function read off as the second half of a pair. -/
theorem second_of {ι α β : Type} (f : ι → α × β) (g : ι → β) (h : g = fun j => (f j).2) (p : ι) (b : β) (hb : (f p).2 = b) : g p = b := by
  subst h; exact hb

theorem argR_eq (y : FVec Ideal S500000x16 .f32) : argR y = fun j => (pairR y j).2 := rfl

theorem iota_at (i : S500000x16.Idx) : iotaInDim S500000x16 32 1 i = BitVec.ofNat 32 (i 1).val := rfl

theorem pairR_eq (y : FVec Ideal S500000x16 .f32) : pairR y
    = Host.argReduce reducer_argmin_f32_i32 y (iotaInDim S500000x16 32 1) (constant S_ .f32 0x7F800000#32) (constantI S_ 32 0#32)
    reducesTo_S500000x16_S500000_d1 h_S_ := rfl

theorem pick_named {s t u : Shape} {axes : List (Fin s.rank)} {β : Type} (f : EReal × β → EReal × β → EReal × β) (R : EReal × β → EReal × β → Prop)
    (hr : ∀ a, R a a) (ht : ∀ a b c, R a b → R b c → R a c) (hf : ∀ a b, (f a b = a ∧ R a b) ∨ (f a b = b ∧ R b a))
    (x : FVec Ideal s .f32) (y : s.Idx → β) (z : u.Idx → Ideal .f32) (w : u.Idx → β) (h : s.ReducesTo axes t) (hu : 0 < u.numel)
    (P : t.Idx → Ideal .f32 × β) (hP : P = Host.argReduce f x y z w h hu) (j : t.Idx) :
    (P j = (z (Shape.Idx.first hu), w (Shape.Idx.first hu)) ∨ ∃ i, h.drop i = j ∧ (x i, y i) = P j) ∧ ∀ i, h.drop i = j → R (P j) (x i, y i) := by
  subst hP; exact argReduce_pick f R hr ht hf x y z w h hu j

/-- The pair the reference ends with on row `p` is one of the row's, or +∞ at number 0, and comes no later than any of the row's. -/
theorem pairR_pick (y : FVec Ideal S500000x16 .f32) (p : S500000.Idx) :
    (pairR y p = ((constant S_ .f32 0x7F800000#32 : FVec Ideal S_ .f32) (Shape.Idx.first h_S_), constantI S_ 32 0#32 (Shape.Idx.first h_S_))
      ∨ ∃ i, reducesTo_S500000x16_S500000_d1.drop i = p ∧ (y i, iotaInDim S500000x16 32 1 i) = pairR y p)
      ∧ ∀ i, reducesTo_S500000x16_S500000_d1.drop i = p → NotAfter (pairR y p) (y i, iotaInDim S500000x16 32 1 i) :=
  pick_named (reducer_argmin_f32_i32 (F := Ideal)) NotAfter notAfter_refl notAfter_trans step_pick y (iotaInDim S500000x16 32 1)
    (constant S_ .f32 0x7F800000#32) (constantI S_ 32 0#32) reducesTo_S500000x16_S500000_d1 h_S_ (pairR y) (pairR_eq y) p

/-- The number the reference picks for a point is the first centre at which the distance is least. -/
theorem argR_first (y : FVec Ideal S500000x16 .f32) (p : Fin 500000) (j : ℕ) (h : First (row y p) 15 j) :
    argR y (Idealize.ShloMosaic.ix1 p) = BitVec.ofNat 32 j := by
  refine second_of (pairR y) (argR y) (argR_eq y) _ _ ?_
  have hp := pairR_pick y (Idealize.ShloMosaic.ix1 p)
  generalize pairR y (Idealize.ShloMosaic.ix1 p) = P at hp ⊢
  obtain ⟨hm, ha⟩ := hp
  refine pick_first (row y p) j h P ?_ ?_
  · rcases hm with e | ⟨i, hi, e⟩
    · exact Or.inl (e.trans (Prod.ext top_bits rfl))
    · right
      refine ⟨(i 1).val, (i 1).isLt, e.symm.trans ?_⟩
      rw [iota_at, row_at y p i ((drop_row _ _).mp hi)]
  · have hJ := ha (Idealize.ShloMosaic.ix2 p ⟨j % 16, Nat.mod_lt _ (by decide)⟩) ((drop_row _ _).mpr rfl)
    have e : BitVec.ofNat 32 j = BitVec.ofNat 32 (j % 16) := by rw [Nat.mod_eq_of_lt (Nat.lt_succ_of_le h.1)]
    rw [e]
    exact hJ

end Cert.Proof.Pick

end
-- ==== Proof.Taken.lean ====
/-
  The reference's arrays read at an index over the extended reals: the distances, the attributes through every matrix, and
  the row its last steps take at the number chosen.
-/
module

public import proofs.«01_k».proof.Proof.Arg

@[expose] public section

noncomputable section

namespace Cert.Proof.Pick

open Idealize.ShloMosaic
open Cert.ReferenceIdeal Cert.ReferenceIdeal.Gen Cert.Proof.Ref

variable (x : FVec Ideal S500000x3 .f32) (w : FVec Ideal S16x3 .f32) (b : FVec Ideal S16 .f32) (a : FVec Ideal S16x3x16 .f32)

/-- The distance of point `p` to centre `k`. -/
theorem distR_at (p : Fin 500000) (k : Fin 16) : (distR x w b (ix2 p k) : EReal)
    = x (ix2 p 0) * w (ix2 k 0) + x (ix2 p 1) * w (ix2 k 1) + x (ix2 p 2) * w (ix2 k 2) + b (ix1 k) := by
  pointwise [distR]
  rw [Fin.sum_univ_three]

/-- Attribute `c` of point `p` through matrix `k`. -/
theorem attR_at (p : Fin 500000) (k c : Fin 16) : (attR x a (ix3 p k c) : EReal)
    = x (ix2 p 0) * a (ix3 k 0 c) + x (ix2 p 1) * a (ix3 k 1 c) + x (ix2 p 2) * a (ix3 k 2 c) := by
  pointwise [attR]
  rw [Fin.sum_univ_three]

/-- The gather takes, for point `p` and attribute `c`, the row its index names. -/
theorem gather_row (v : FVec Ideal S500000x16x16 .f32) (n : IVec S500000x1x16x1 32) (p : Fin 500000) (c : Fin 16) :
    Host.gather gather_S500000x16x16_S500000x1x16x1_S500000x1x16_n_1_02_02_1_3_111 v n (ix3 p 0 c)
      = v (ix3 p ⟨min (n (ix4 p 0 c 0)).toInt.toNat 15, by omega⟩ c) := by
  unfold Host.gather
  refine congrArg v (funext fun e => Fin.ext ?_)
  show GatherDims.start _ (ix3 p 0 c) n e + GatherDims.batchCoord _ (ix3 p 0 c) e + GatherDims.offCoord _ (ix3 p 0 c) e = _
  have off : ∀ e, GatherDims.offCoord gather_S500000x16x16_S500000x1x16x1_S500000x1x16_n_1_02_02_1_3_111 (ix3 p 0 c) e = 0 := fun e =>
    GatherDims.offCoord_eq_zero _ _ _ fun h => by
      have h' := (GatherDims.mem_sKept _ _).mp h
      revert h'
      fin_cases e <;> simp [gather_S500000x16x16_S500000x1x16x1_S500000x1x16_n_1_02_02_1_3_111]
  rw [off, Nat.add_zero]
  match e with
  | ⟨0, _⟩ =>
    rw [GatherDims.start_batching _ _ _ _ (by decide +revert), Nat.zero_add]
    unfold GatherDims.batchCoord
    rw [dif_pos (by decide +revert)]
    rfl
  | ⟨1, _⟩ =>
    rw [GatherDims.batchCoord_eq_zero _ _ _ (by decide +revert), Nat.add_zero]
    unfold GatherDims.start
    rw [dif_pos (by decide +revert)]
    have hs : GatherDims.siIdx gather_S500000x16x16_S500000x1x16x1_S500000x1x16_n_1_02_02_1_3_111 (ix3 p 0 c) ⟨0, by decide⟩ = ix4 p 0 c 0 := by
      funext q
      refine Fin.ext ?_
      match q with
      | ⟨0, _⟩ => rfl
      | ⟨1, _⟩ => rfl
      | ⟨2, _⟩ => rfl
      | ⟨3, _⟩ => rfl
    exact congrArg (fun q => min (n q).toInt.toNat 15) hs
  | ⟨2, _⟩ =>
    rw [GatherDims.start_batching _ _ _ _ (by decide +revert), Nat.zero_add]
    unfold GatherDims.batchCoord
    rw [dif_pos (by decide +revert)]
    rfl

/-- Where every index is one of the sixteen rows, the reference's test says so. -/
theorem insideR_at (n : IVec S500000x1x16x1 32) (h : ∀ i, 0 ≤ (n i).toInt ∧ (n i).toInt ≤ 15) (j : S500000x1x16.Idx) : insideR n j = 1#1 := by
  unfold insideR
  obtain ⟨hm, _⟩ := reduce_pick (IntOp.andi (w := 1)) (fun u v => u = 0#1 ∨ v = 1#1) (by decide) (by decide) (by decide)
    (andi (cmpi .sge n (broadcastInDim S500000x1x16x1 ![] bcast_S_S500000x1x16x1 (constantI S_ 32 0#32)))
      (cmpi .sle n (broadcastInDim S500000x1x16x1 ![0, 1, 2, 3] bcast_S1x1x1x1_S500000x1x16x1_0_1_2_3
        (broadcastInDim S1x1x1x1 ![3] bcast_S1_S1x1x1x1_3 (constantI S1 32 15#32)))))
    (constantI S_ 1 1#1) reducesTo_S500000x1x16x1_S500000x1x16_d3 h_S_ j
  rcases hm with e | ⟨i, _, e⟩
  · exact e
  · rw [← e]
    obtain ⟨h0, h1⟩ := h i
    show IntOp.andi (IntOp.cmpi .sge (n i) 0#32) (IntOp.cmpi .sle (n i) 15#32) = 1#1
    simp [IntOp.andi, IntOp.cmpi, BitVec.sle, h0, h1]

/-- Where the mask holds, the first of the two arrays is read. -/
theorem select_true {s : Shape} {α : Type} (m : IVec s 1) (u v : s.Idx → α) (j : s.Idx) (h : m j = 1#1) : select m u v j = u j := by
  show (if m j = 1#1 then u j else v j) = u j
  rw [if_pos h]

/-- An index that is not negative is left as it is. -/
theorem normR_at (i : IVec S500000 32) (p : Fin 500000) (c : Fin 16) (h : 0 ≤ (i (ix1 p)).toInt) :
    normR (rowR i) (ix4 p 0 c 0) = i (ix1 p) := by
  pointwise [normR, rowR]
  simp [BitVec.slt, Scalar.select, IntOp.cmpi, not_lt.mpr h]

/-- Every place of the four-axis index array is a point and an attribute. -/
theorem four_eta (q : S500000x1x16x1.Idx) : ∃ (p : Fin 500000) (c : Fin 16), q = ix4 p 0 c 0 := by
  refine ⟨q 0, q 2, funext fun e => ?_⟩
  match e with
  | ⟨0, _⟩ => rfl
  | ⟨1, _⟩ => exact Subsingleton.elim (α := Fin 1) _ _
  | ⟨2, _⟩ => rfl
  | ⟨3, _⟩ => exact Subsingleton.elim (α := Fin 1) _ _

/-- The row taken at a number below sixteen. -/
theorem takeR_at (v : FVec Ideal S500000x16x16 .f32) (i : IVec S500000 32) (hi : ∀ p, ∃ j, j < 16 ∧ i (ix1 p) = BitVec.ofNat 32 j)
    (p : Fin 500000) (c : Fin 16) (j : ℕ) (hj : j < 16) (e : i (ix1 p) = BitVec.ofNat 32 j) :
    takeR v (normR (rowR i)) (ix3 p 0 c) = v (ix3 p ⟨j, hj⟩ c) := by
  have at_ : ∀ (p : Fin 500000) (c : Fin 16) (j : ℕ), j < 16 → i (ix1 p) = BitVec.ofNat 32 j →
      (normR (rowR i) (ix4 p 0 c 0)).toInt = j := fun p c j hj e => by
    have ht : (i (ix1 p)).toInt = j := by rw [e, small_toInt j hj]
    rw [normR_at i p c (by rw [ht]; exact Int.natCast_nonneg j), ht]
  have hin : insideR (normR (rowR i)) (ix3 p 0 c) = 1#1 := insideR_at _ (fun q => by
    obtain ⟨p, c, rfl⟩ := four_eta q
    obtain ⟨j, hj, e⟩ := hi p
    rw [at_ p c j hj e]
    omega) _
  have ht := at_ p c j hj e
  unfold takeR
  refine (select_true _ _ _ _ hin).trans ?_
  rw [gather_row]
  refine congrArg (fun l => v (ix3 p l c)) (Fin.ext ?_)
  show min (normR (rowR i) (ix4 p 0 c 0)).toInt.toNat 15 = j
  rw [ht, Int.toNat_natCast]
  omega

/-- The reference's second result at a point whose first least distance is at centre `j`. -/
theorem selR_at (h : ∀ p, ∃ j, First (row (distR x w b) p) 15 j) (p : Fin 500000) (c : Fin 16) (j : ℕ) (hj : First (row (distR x w b) p) 15 j) :
    selR x w b a (ix2 p c) = attR x a (ix3 p ⟨j, Nat.lt_succ_of_le hj.1⟩ c) := by
  have hs : selR x w b a (ix2 p c) = takeR (attR x a) (normR (rowR (argR (distR x w b)))) (ix3 p 0 c) := by
    unfold selR
    generalize takeR (attR x a) (normR (rowR (argR (distR x w b)))) = T
    pointwise
  rw [hs]
  exact takeR_at _ _ (fun p => (h p).elim fun j hj => ⟨j, Nat.lt_succ_of_le hj.1, argR_first _ p j hj⟩) p c j _ (argR_first _ p j hj)

end Cert.Proof.Pick

end
-- ==== Proof.Agree.lean ====
/-
  The kernel's two results are the reference's, over the extended reals.
-/
module

public import proofs.«01_k».proof.Proof.Frames
public import proofs.«01_k».proof.Proof.Taken

@[expose] public section

noncomputable section

namespace Cert.Proof.Agree

open Cert.KernelIdeal Cert.KernelIdeal.Gen
open Idealize.ShloMosaic Idealize.ShloMosaic.StableHlo Idealize.SL.Sem
open Cert.Proof.Value (rd rd_eq ix_val pd pmin psel)
open Cert.Proof.Tile
open Cert.Proof.Pick (First row acc_first minR_first distR_at attR_at selR_at)
open Cert.Proof.Ref (distR attR minR selR)

/-- A flat array's element at a number of its length. -/
theorem rd_one {N : ℕ} [NeZero N] {α : Type} (f : (⟨1, ![N]⟩ : Shape).Idx → α) (n : ℕ) (h : n < N) : rd f n = f (ix1 ⟨n, h⟩) := rd_eq f _ rfl

/-! ## The flat arrays the tiles read -/

section Flat

variable (x : FVec Ideal S500000x3 .f32) (w : FVec Ideal S16x3 .f32) (a : FVec Ideal S16x3x16 .f32)

/-- The points, one coordinate after another. -/
def flatX : FVec Ideal S1500000 .f32 := shapeCast S1500000 (extf .f32 (truncf .bf16 x bitsLt_bf16_f32) bitsLt_bf16_f32) shapeCasts_S500000x3_S1500000

/-- The centres, by coordinate. -/
def flatW : FVec Ideal S48 .f32 :=
  shapeCast S48 (transpose S3x16 [1, 0] (extf .f32 (truncf .bf16 w bitsLt_bf16_f32) bitsLt_bf16_f32) transposes_S16x3_S3x16_1_0) shapeCasts_S3x16_S48

/-- The matrices, by coordinate and attribute. -/
def flatA : FVec Ideal S768 .f32 :=
  shapeCast S768 (transpose S3x16x16 [1, 2, 0] (extf .f32 (truncf .bf16 a bitsLt_bf16_f32) bitsLt_bf16_f32) transposes_S16x3x16_S3x16x16_1_2_0)
    shapeCasts_S3x16x16_S768

theorem flatX_at (p : Fin 500000) (d : Fin 3) (n : ℕ) (h : n = 3 * p.val + d.val) : (rd (flatX x) n : EReal) = x (ix2 p d) := by
  have hn : n < 1500000 := by omega
  rw [rd_one (flatX x) n hn]
  pointwise [flatX]
  have e0 : n / 3 = p.val := by omega
  have e1 : n % 3 = d.val := by omega
  simp only [e0, e1]

theorem flatW_at (k : Fin 16) (d : Fin 3) (n : ℕ) (h : n = 16 * d.val + k.val) : (rd (flatW w) n : EReal) = w (ix2 k d) := by
  have hn : n < 48 := by omega
  rw [rd_one (flatW w) n hn]
  pointwise [flatW]
  have e0 : n % 16 = k.val := by omega
  have e1 : n / 16 = d.val := by omega
  simp only [e0, e1]

theorem flatA_at (k c : Fin 16) (d : Fin 3) (n : ℕ) (h : n = 256 * d.val + 16 * c.val + k.val) : (rd (flatA a) n : EReal) = a (ix3 k d c) := by
  have hn : n < 768 := by omega
  rw [rd_one (flatA a) n hn]
  pointwise [flatA]
  have e0 : n % 16 = k.val := by omega
  have e1 : n / 256 = d.val := by omega
  have e2 : n / 16 % 16 = c.val := by omega
  simp only [e0, e1, e2]

end Flat

/-! ## One point -/

section Point

variable (x : FVec Ideal S500000x3 .f32) (w : FVec Ideal S16x3 .f32) (b : FVec Ideal S16 .f32) (a : FVec Ideal S16x3x16 .f32)

theorem tabW_at (k : ℕ) (hk : k < 16) (d : Fin 3) : (tabW (flatW w) k d.val : EReal) = w (ix2 ⟨k, hk⟩ d) := by
  unfold tabW
  rw [rd_one _ k hk]
  exact flatW_at w ⟨k, hk⟩ d _ rfl

theorem tabB_at (k : ℕ) (hk : k < 16) : (tabB b k : EReal) = b (ix1 ⟨k, hk⟩) := by
  unfold tabB
  rw [rd_one _ k hk]
  exact rd_eq b (ix1 ⟨k, hk⟩) (Nat.zero_add k).symm

/-- The coordinate `d` of point `p`, in every lane. -/
abbrev lanes (p : Fin 500000) (d : ℕ) : FVec Ideal S16 .f32 := broadcast S16 (rd (flatX x) (3 * p.val + d))

/-- The distances the tile compares are the reference's. -/
theorem dist_row (p : Fin 500000) (k : ℕ) (hk : k ≤ 15) (i : S16.Idx) :
    (Value.dist (tabW (flatW w)) (tabB b) (lanes x p 0) (lanes x p 1) (lanes x p 2) k i : EReal) = row (distR x w b) p k := by
  have hk : k < 16 := by omega
  show rd (flatX x) (3 * p.val + (0 : Fin 3).val) * tabW (flatW w) k (0 : Fin 3).val + rd (flatX x) (3 * p.val + (1 : Fin 3).val) * tabW (flatW w) k (1 : Fin 3).val
    + rd (flatX x) (3 * p.val + (2 : Fin 3).val) * tabW (flatW w) k (2 : Fin 3).val + tabB b k = _
  rw [flatX_at x p 0 _ rfl, flatX_at x p 1 _ rfl, flatX_at x p 2 _ rfl, tabW_at w k hk, tabW_at w k hk, tabW_at w k hk, tabB_at b k hk]
  unfold row
  simp only [Nat.mod_eq_of_lt hk]
  exact (distR_at x w b p ⟨k, hk⟩).symm

/-- The numbers below sixteen are all that the first least of a row depends on. -/
theorem first_congr {D E : ℕ → EReal} {n j : ℕ} (h : ∀ l, l ≤ n → D l = E l) (hD : First D n j) : First E n j :=
  ⟨hD.1, fun l hl => by rw [← h l hl, ← h j hD.1]; exact hD.2.1 l hl,
    fun l hl => by rw [← h l (by have := hD.1; omega), ← h j hD.1]; exact hD.2.2 l hl⟩

/-- For every point there is a first centre at the least distance; the tile's choice is that one, with its distance. -/
theorem chosen (p : Fin 500000) (i : S16.Idx) : ∃ j, First (row (distR x w b) p) 15 j
    ∧ Value.accI (tabW (flatW w)) (tabB b) (lanes x p 0) (lanes x p 1) (lanes x p 2) 15 i = BitVec.ofNat 32 j
    ∧ (Value.accM (tabW (flatW w)) (tabB b) (lanes x p 0) (lanes x p 1) (lanes x p 2) 15 i : EReal) = row (distR x w b) p j := by
  obtain ⟨j, hj, hI, hM⟩ := acc_first (tabW (flatW w)) (tabB b) (lanes x p 0) (lanes x p 1) (lanes x p 2) i 15
  exact ⟨j, first_congr (fun l hl => dist_row x w b p l hl i) hj, hI, hM.trans (dist_row x w b p j hj.1 i)⟩

theorem every_row (p : Fin 500000) : ∃ j, First (row (distR x w b) p) 15 j :=
  (chosen x w b p (Value.ix 16 0)).elim fun j h => ⟨j, h.1⟩

/-- The tile's least distance of a point is the reference's. -/
theorem tMin_at (p : Fin 500000) : tMin (tabW (flatW w)) (tabB b) (flatX x) p.val = minR (distR x w b) (ix1 p) := by
  obtain ⟨j, hj, _, hM⟩ := chosen x w b p (Value.ix 16 0)
  exact hM.trans (minR_first _ p j hj).symm

/-- The tile's attribute `c` of a point is the reference's. -/
theorem tSel_at (p : Fin 500000) (c : Fin 16) : tSel (tabW (flatW w)) (tabB b) (flatA a) (flatX x) (16 * p.val + c.val) = selR x w b a (ix2 p c) := by
  obtain ⟨j, hj, hI, _⟩ := chosen x w b p (Value.ix 16 0)
  have hj16 : j < 16 := Nat.lt_succ_of_le hj.1
  rw [selR_at x w b a (every_row x w b) p c j hj]
  refine Eq.trans ?_ (attR_at x a p ⟨j, hj16⟩ c).symm
  unfold tSel
  rw [show (16 * p.val + c.val) / 16 = p.val by omega, show (16 * p.val + c.val) % 16 = c.val by omega]
  have hA : ∀ (d : Fin 3) (n : ℕ), n = 256 * d.val + 16 * c.val →
      (Value.avec (flatA a) n (Value.accI (tabW (flatW w)) (tabB b) (lanes x p 0) (lanes x p 1) (lanes x p 2) 15) (Value.ix 16 0) : EReal) = a (ix3 ⟨j, hj16⟩ d c) :=
    fun d n hn => by
      unfold Value.avec
      rw [hI, BitVec.toNat_ofNat, Nat.mod_eq_of_lt (by omega)]
      exact flatA_at a ⟨j, hj16⟩ c d _ (by rw [hn])
  have h0 := hA 0 (16 * c.val) (by simp)
  have h1 := hA 1 (256 + 16 * c.val) (by simp)
  have h2 := hA 2 (512 + 16 * c.val) (by simp)
  have e0 := flatX_at x p 0 (3 * p.val) rfl
  have e1 := flatX_at x p 1 (3 * p.val + 1) rfl
  have e2 := flatX_at x p 2 (3 * p.val + 2) rfl
  rw [← h0, ← h1, ← h2, ← e0, ← e1, ← e2]
  rfl

end Point

/-! ## The two runs -/

section Runs

variable (m : (ℓ : Loc nD τ sig) → Buf (Elt Ideal) ℓ) (c : Dev nD)

abbrev aX : FVec Ideal S500000x3 .f32 := m ((c.tc : Thread nD τ).loc main_arg0)
abbrev aW : FVec Ideal S16x3 .f32 := m ((c.tc : Thread nD τ).loc main_arg1)
abbrev aB : FVec Ideal S16 .f32 := m ((c.tc : Thread nD τ).loc main_arg2)
abbrev aA : FVec Ideal S16x3x16 .f32 := m ((c.tc : Thread nD τ).loc main_arg3)

theorem V1_X : V1 m c rX = flatX (aX m c) := by
  unfold V1 preOps
  after_results_simp
  rfl

theorem V1_W : V1 m c rW = flatW (aW m c) := by
  unfold V1 preOps
  after_results_simp
  rfl

theorem V1_B : V1 m c rB = aB m c := by
  unfold V1 preOps
  after_results_simp

theorem V1_A : V1 m c rA = flatA (aA m c) := by
  unfold V1 preOps
  after_results_simp
  rfl

/-- The first result, as the program leaves it. -/
theorem V3_min : V3 m c rM = minR (distR (aX m c) (aW m c) (aB m c)) := by
  unfold V3
  rw [(postOp (F := Ideal)).result_of_not_mem _ (by decide), V2_rM]
  unfold gM
  rw [V1_X, V1_W, V1_B]
  funext e
  have he : e = ix1 (e 0) := eq_ix1 e
  rw [he]
  exact tMin_at _ _ _ (e 0)

/-- The second result, as the program leaves it. -/
theorem V3_sel : V3 m c (Proc.devRef .tc main_v12) = selR (aX m c) (aW m c) (aB m c) (aA m c) := by
  have h : V3 m c (Proc.devRef .tc main_v12) = shapeCast S500000x16 (gS m c) shapeCasts_S8000000_S500000x16 := by
    unfold V3 postOp
    rw [StableHlo.reshape_result, V2_rS]
    rfl
  rw [h]
  unfold gS
  rw [V1_X, V1_W, V1_B, V1_A]
  funext e
  have he : e = ix2 (e 0) (e 1) := eq_ix2 e
  rw [he]
  refine Eq.trans ?_ (tSel_at _ _ _ _ (e 0) (e 1))
  pointwise
  rw [Nat.mul_comm]

theorem min_congr {x x' : FVec Ideal S500000x3 .f32} {w w' : FVec Ideal S16x3 .f32} {b b' : FVec Ideal S16 .f32} (hx : x' = x) (hw : w' = w) (hb : b' = b) :
    minR (distR x' w' b') = minR (distR x w b) := by rw [hx, hw, hb]

theorem sel_congr {x x' : FVec Ideal S500000x3 .f32} {w w' : FVec Ideal S16x3 .f32} {b b' : FVec Ideal S16 .f32} {a a' : FVec Ideal S16x3x16 .f32}
    (hx : x' = x) (hw : w' = w) (hb : b' = b) (ha : a' = a) : selR x' w' b' a' = selR x w b a := by rw [hx, hw, hb, ha]

/-- From any contents of the four arguments, the program and the reference end with the same two results. -/
theorem algebraic : Cert.algebraic_KernelIdeal_ReferenceIdeal := by
  intro m g m' g' _ hin
  refine ⟨fun c => minR (distR (aX m c) (aW m c) (aB m c)), fun c => selR (aX m c) (aW m c) (aB m c) (aA m c), ?_, ?_⟩
  · refine (θ_run defs _ _).mono (fun r h c => ?_) (run_main m g)
    exact ⟨(h.1 c rM (mem_uc rfl)).trans (V3_min m c), (h.1 c _ (mem_uc rfl)).trans (V3_sel m c), args_kept m r h c main_arg0 (by decide),
      args_kept m r h c main_arg1 (by decide), args_kept m r h c main_arg2 (by decide), args_kept m r h c main_arg3 (by decide)⟩
  · refine (θ_run Cert.ReferenceIdeal.defs _ _).mono (fun r h c => ?_) (Ref.run_ref (F := Ideal) m' g')
    obtain ⟨h0, h1, h2, h3⟩ := hin c
    refine ⟨((h c _).trans (Ref.min_eq _)).trans ?_, ((h c _).trans (Ref.sel_eq _)).trans ?_, (h c _).trans (Ref.kept _ _ (by decide)),
      (h c _).trans (Ref.kept _ _ (by decide)), (h c _).trans (Ref.kept _ _ (by decide)), (h c _).trans (Ref.kept _ _ (by decide))⟩
    · exact min_congr h0 h1 h2
    · exact sel_congr h0 h1 h2 h3

end Runs

end Cert.Proof.Agree

end
-- ==== Proof.lean ====
/-
  The certificate: the three programs leave their arguments alone, the idealization is the program's own text, and the
  program's two results are the reference's.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import Idealize.ShloMosaic.Adequacy
public import Idealize.ShloMosaic.Init
public import proofs.«01_k».proof.Proof.Agree

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Tile.frame_printed, Tile.frame_ideal, Ref.frame_ref, trivial, Agree.algebraic⟩

end Cert.Proof

end
